-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x16384 .f32) (main_arg2 : FVec F S1x1024x8x128 .f32) (main_arg3 : FVec F S1x1024x8x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x16384 : Shape := ⟨2, ![1024, 16384]⟩
abbrev S1x1024x8x128 : Shape := ⟨4, ![1, 1024, 8, 128]⟩
abbrev S16384x1024 : Shape := ⟨2, ![16384, 1024]⟩
abbrev S_ : Shape := ⟨0, ![]⟩
abbrev S1024x1024 : Shape := ⟨2, ![1024, 1024]⟩
abbrev S1024x8x128 : Shape := ⟨3, ![1024, 8, 128]⟩
abbrev S8x128x1024 : Shape := ⟨3, ![8, 128, 1024]⟩
abbrev S8x1024x128 : Shape := ⟨3, ![8, 1024, 128]⟩
abbrev S768x1024 : Shape := ⟨2, ![768, 1024]⟩
abbrev S960x1024 : Shape := ⟨2, ![960, 1024]⟩
abbrev S12 : Shape := ⟨1, ![12]⟩
abbrev S256x512 : Shape := ⟨2, ![256, 512]⟩
abbrev S256x128 : Shape := ⟨2, ![256, 128]⟩
abbrev S1x128x512 : Shape := ⟨3, ![1, 128, 512]⟩
abbrev S128x512 : Shape := ⟨2, ![128, 512]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S128x1024 : Shape := ⟨2, ![128, 1024]⟩
abbrev S1 : Shape := ⟨1, ![1]⟩
abbrev S32x1024 : Shape := ⟨2, ![32, 1024]⟩

abbrev nBuf : Space → Nat
  | .hbm => 41
  | .vmem => 12
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x8x128, .f32⟩
  | .hbm, ⟨3, _⟩ => ⟨S1x1024x8x128, .f32⟩
  | .hbm, ⟨4, _⟩ => ⟨S16384x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1024x1024, .bf16⟩
  | .hbm, ⟨32, _⟩ => ⟨S1024x1024, .bf16⟩
  | .hbm, ⟨33, _⟩ => ⟨S1024x8x128, .f32⟩
  | .hbm, ⟨34, _⟩ => ⟨S1024x8x128, .bf16⟩
  | .hbm, ⟨35, _⟩ => ⟨S8x128x1024, .bf16⟩
  | .hbm, ⟨36, _⟩ => ⟨S1024x8x128, .f32⟩
  | .hbm, ⟨37, _⟩ => ⟨S1024x8x128, .bf16⟩
  | .hbm, ⟨38, _⟩ => ⟨S8x1024x128, .bf16⟩
  | .hbm, ⟨39, _⟩ => ⟨S1024x1024, .f32⟩
  | .hbm, ⟨40, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S768x1024, .bf16⟩
  | .local _ .vmem, ⟨10, _⟩ => ⟨S960x1024, .bf16⟩
  | .local _ .vmem, ⟨11, _⟩ => ⟨S960x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v16 : BitVec 32 := Scalar.xori v2 c8_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v19 : BitVec 32 := Scalar.xori v2 c12_i32
  let c1_i32_16 : BitVec 32 := 1#32
  let v20 : BitVec 32 := Scalar.muli v19 c1_i32_16
  let v21 : BitVec 32 := Scalar.addi c0_i32_17 v20
  v21.toNat
def k0_off1 (d0 : Dev nD) (c1_i32_476 : BitVec 32) : Fin 2 → Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v728 : BitVec 32 := Scalar.xori v2 c1_i32_476
  let c3_i32_477 : BitVec 32 := 3#32
  let v729 : BitVec 32 := Scalar.andi v728 c3_i32_477
  let c128_i32_478 : BitVec 32 := 128#32
  let v730 : BitVec 32 := Scalar.muli v729 c128_i32_478
  let v731 : BitVec 32 := Scalar.addi c0_i32_479 v730
  let v732 : Index := Scalar.indexCast v731
  let c0_480 : Index := 0#32
  ![v732.toNat, 0]
def k0_dev7 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_476 : BitVec 32 := 1#32
  let v728 : BitVec 32 := Scalar.xori v2 c1_i32_476
  let c1_i32_488 : BitVec 32 := 1#32
  let v741 : BitVec 32 := Scalar.muli v728 c1_i32_488
  let v742 : BitVec 32 := Scalar.addi c0_i32_489 v741
  v742.toNat
def k0_dev8 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_494 : BitVec 32 := 2#32
  let v749 : BitVec 32 := Scalar.xori v2 c2_i32_494
  let c1_i32_506 : BitVec 32 := 1#32
  let v762 : BitVec 32 := Scalar.muli v749 c1_i32_506
  let v763 : BitVec 32 := Scalar.addi c0_i32_507 v762
  v763.toNat
def k0_dev9 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_512 : BitVec 32 := 3#32
  let v770 : BitVec 32 := Scalar.xori v2 c3_i32_512
  let c1_i32_524 : BitVec 32 := 1#32
  let v783 : BitVec 32 := Scalar.muli v770 c1_i32_524
  let v784 : BitVec 32 := Scalar.addi c0_i32_525 v783
  v784.toNat
def k0_off2 (d0 : Dev nD) (c4_i32_540 : BitVec 32) : Fin 2 → Nat :=
  let c512_i32_550 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v811 : BitVec 32 := Scalar.xori v2 c4_i32_540
  let c0_i32_542 : BitVec 32 := 0#32
  let v813 : BitVec 1 := Scalar.cmpi .sgt v811 c0_i32_542
  let v814 : BitVec 32 := Scalar.extui v813
  let c0_i32_543 : BitVec 32 := 0#32
  let v815 : BitVec 1 := Scalar.cmpi .slt v811 c0_i32_543
  let v816 : BitVec 32 := Scalar.extui v815
  let v817 : BitVec 32 := Scalar.subi v814 v816
  let c4_i32_541 : BitVec 32 := 4#32
  let c0_i32_544 : BitVec 32 := 0#32
  let v818 : BitVec 1 := Scalar.cmpi .sgt c4_i32_541 c0_i32_544
  let v819 : BitVec 32 := Scalar.extui v818
  let c0_i32_545 : BitVec 32 := 0#32
  let v820 : BitVec 1 := Scalar.cmpi .slt c4_i32_541 c0_i32_545
  let v821 : BitVec 32 := Scalar.extui v820
  let v822 : BitVec 32 := Scalar.subi v819 v821
  let v823 : BitVec 1 := Scalar.cmpi .ne v817 v822
  let v824 : BitVec 32 := Scalar.remsi v811 c4_i32_541
  let c0_i32_546 : BitVec 32 := 0#32
  let v825 : BitVec 1 := Scalar.cmpi .ne v824 c0_i32_546
  let v826 : BitVec 1 := Scalar.andi v823 v825
  let v812 : BitVec 32 := Scalar.divsi v811 c4_i32_541
  let c1_i32_547 : BitVec 32 := 1#32
  let v827 : BitVec 32 := Scalar.subi v812 c1_i32_547
  let v828 : BitVec 32 := Scalar.select v826 v827 v812
  let c3_i32_548 : BitVec 32 := 3#32
  let v829 : BitVec 32 := Scalar.andi v828 c3_i32_548
  let c128_i32_549 : BitVec 32 := 128#32
  let v830 : BitVec 32 := Scalar.muli v829 c128_i32_549
  let v831 : BitVec 32 := Scalar.addi c512_i32_550 v830
  let v832 : Index := Scalar.indexCast v831
  let c0_551 : Index := 0#32
  ![v832.toNat, 0]
def k0_dev10 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_540 : BitVec 32 := 4#32
  let v811 : BitVec 32 := Scalar.xori v2 c4_i32_540
  let c1_i32_559 : BitVec 32 := 1#32
  let v841 : BitVec 32 := Scalar.muli v811 c1_i32_559
  let v842 : BitVec 32 := Scalar.addi c0_i32_560 v841
  v842.toNat
def k0_dev11 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_565 : BitVec 32 := 8#32
  let v849 : BitVec 32 := Scalar.xori v2 c8_i32_565
  let c1_i32_584 : BitVec 32 := 1#32
  let v879 : BitVec 32 := Scalar.muli v849 c1_i32_584
  let v880 : BitVec 32 := Scalar.addi c0_i32_585 v879
  v880.toNat
def k0_dev12 (d0 : Dev nD) : Nat :=
  let c0_i32_609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_590 : BitVec 32 := 12#32
  let v887 : BitVec 32 := Scalar.xori v2 c12_i32_590
  let c1_i32_608 : BitVec 32 := 1#32
  let v917 : BitVec 32 := Scalar.muli v887 c1_i32_608
  let v918 : BitVec 32 := Scalar.addi c0_i32_609 v917
  v918.toNat
def k0_off3 (d0 : Dev nD) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let v925 : Index := Scalar.indexCast v727
  let c0_613 : Index := 0#32
  ![v925.toNat, 0]
def k0_off4 (d0 : Dev nD) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let v934 : Index := Scalar.indexCast v810
  let c0_618 : Index := 0#32
  ![v934.toNat, 0]
def k0_off5 (d0 : Dev nD) (c4_i32_737 : BitVec 32) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let v1049 : BitVec 32 := Scalar.xori v2 c4_i32_737
  let c0_i32_739 : BitVec 32 := 0#32
  let v1051 : BitVec 1 := Scalar.cmpi .sgt v1049 c0_i32_739
  let v1052 : BitVec 32 := Scalar.extui v1051
  let c0_i32_740 : BitVec 32 := 0#32
  let v1053 : BitVec 1 := Scalar.cmpi .slt v1049 c0_i32_740
  let v1054 : BitVec 32 := Scalar.extui v1053
  let v1055 : BitVec 32 := Scalar.subi v1052 v1054
  let c4_i32_738 : BitVec 32 := 4#32
  let c0_i32_741 : BitVec 32 := 0#32
  let v1056 : BitVec 1 := Scalar.cmpi .sgt c4_i32_738 c0_i32_741
  let v1057 : BitVec 32 := Scalar.extui v1056
  let c0_i32_742 : BitVec 32 := 0#32
  let v1058 : BitVec 1 := Scalar.cmpi .slt c4_i32_738 c0_i32_742
  let v1059 : BitVec 32 := Scalar.extui v1058
  let v1060 : BitVec 32 := Scalar.subi v1057 v1059
  let v1061 : BitVec 1 := Scalar.cmpi .ne v1055 v1060
  let v1062 : BitVec 32 := Scalar.remsi v1049 c4_i32_738
  let c0_i32_743 : BitVec 32 := 0#32
  let v1063 : BitVec 1 := Scalar.cmpi .ne v1062 c0_i32_743
  let v1064 : BitVec 1 := Scalar.andi v1061 v1063
  let v1050 : BitVec 32 := Scalar.divsi v1049 c4_i32_738
  let c1_i32_744 : BitVec 32 := 1#32
  let v1065 : BitVec 32 := Scalar.subi v1050 c1_i32_744
  let v1066 : BitVec 32 := Scalar.select v1064 v1065 v1050
  let c3_i32_745 : BitVec 32 := 3#32
  let v1067 : BitVec 32 := Scalar.andi v1066 c3_i32_745
  let c32_i32_746 : BitVec 32 := 32#32
  let v1068 : BitVec 32 := Scalar.muli v1067 c32_i32_746
  let v1069 : BitVec 32 := Scalar.addi v727 v1068
  let v1070 : Index := Scalar.indexCast v1069
  let c0_747 : Index := 0#32
  ![v1070.toNat, 0]
def k0_dev13 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_737 : BitVec 32 := 4#32
  let v1049 : BitVec 32 := Scalar.xori v2 c4_i32_737
  let c1_i32_752 : BitVec 32 := 1#32
  let v1077 : BitVec 32 := Scalar.muli v1049 c1_i32_752
  let v1078 : BitVec 32 := Scalar.addi c0_i32_753 v1077
  v1078.toNat
def k0_dev14 (d0 : Dev nD) : Nat :=
  let c0_i32_772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_758 : BitVec 32 := 8#32
  let v1085 : BitVec 32 := Scalar.xori v2 c8_i32_758
  let c1_i32_771 : BitVec 32 := 1#32
  let v1113 : BitVec 32 := Scalar.muli v1085 c1_i32_771
  let v1114 : BitVec 32 := Scalar.addi c0_i32_772 v1113
  v1114.toNat
def k0_dev15 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_776 : BitVec 32 := 12#32
  let v1121 : BitVec 32 := Scalar.xori v2 c12_i32_776
  let c1_i32_790 : BitVec 32 := 1#32
  let v1149 : BitVec 32 := Scalar.muli v1121 c1_i32_790
  let v1150 : BitVec 32 := Scalar.addi c0_i32_791 v1149
  v1150.toNat
def k0_off6 (d0 : Dev nD) (c1_i32_796 : BitVec 32) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let v1160 : BitVec 32 := Scalar.xori v2 c1_i32_796
  let c3_i32_797 : BitVec 32 := 3#32
  let v1161 : BitVec 32 := Scalar.andi v1160 c3_i32_797
  let c32_i32_798 : BitVec 32 := 32#32
  let v1162 : BitVec 32 := Scalar.muli v1161 c32_i32_798
  let v1163 : BitVec 32 := Scalar.addi v810 v1162
  let v1164 : Index := Scalar.indexCast v1163
  let c0_799 : Index := 0#32
  ![v1164.toNat, 0]
def k0_dev16 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_796 : BitVec 32 := 1#32
  let v1160 : BitVec 32 := Scalar.xori v2 c1_i32_796
  let c1_i32_803 : BitVec 32 := 1#32
  let v1171 : BitVec 32 := Scalar.muli v1160 c1_i32_803
  let v1172 : BitVec 32 := Scalar.addi c0_i32_804 v1171
  v1172.toNat
def k0_dev17 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_808 : BitVec 32 := 2#32
  let v1179 : BitVec 32 := Scalar.xori v2 c2_i32_808
  let c1_i32_814 : BitVec 32 := 1#32
  let v1190 : BitVec 32 := Scalar.muli v1179 c1_i32_814
  let v1191 : BitVec 32 := Scalar.addi c0_i32_815 v1190
  v1191.toNat
def k0_dev18 (d0 : Dev nD) : Nat :=
  let c0_i32_825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_818 : BitVec 32 := 3#32
  let v1198 : BitVec 32 := Scalar.xori v2 c3_i32_818
  let c1_i32_824 : BitVec 32 := 1#32
  let v1209 : BitVec 32 := Scalar.muli v1198 c1_i32_824
  let v1210 : BitVec 32 := Scalar.addi c0_i32_825 v1209
  v1210.toNat
def k0_off7 (d0 : Dev nD) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let c0_i32_730 : BitVec 32 := 0#32
  let v1030 : BitVec 1 := Scalar.cmpi .sgt v2 c0_i32_730
  let v1031 : BitVec 32 := Scalar.extui v1030
  let c0_i32_731 : BitVec 32 := 0#32
  let v1032 : BitVec 1 := Scalar.cmpi .slt v2 c0_i32_731
  let v1033 : BitVec 32 := Scalar.extui v1032
  let v1034 : BitVec 32 := Scalar.subi v1031 v1033
  let c4_i32_729 : BitVec 32 := 4#32
  let c0_i32_732 : BitVec 32 := 0#32
  let v1035 : BitVec 1 := Scalar.cmpi .sgt c4_i32_729 c0_i32_732
  let v1036 : BitVec 32 := Scalar.extui v1035
  let c0_i32_733 : BitVec 32 := 0#32
  let v1037 : BitVec 1 := Scalar.cmpi .slt c4_i32_729 c0_i32_733
  let v1038 : BitVec 32 := Scalar.extui v1037
  let v1039 : BitVec 32 := Scalar.subi v1036 v1038
  let v1040 : BitVec 1 := Scalar.cmpi .ne v1034 v1039
  let v1041 : BitVec 32 := Scalar.remsi v2 c4_i32_729
  let c0_i32_734 : BitVec 32 := 0#32
  let v1042 : BitVec 1 := Scalar.cmpi .ne v1041 c0_i32_734
  let v1043 : BitVec 1 := Scalar.andi v1040 v1042
  let v1029 : BitVec 32 := Scalar.divsi v2 c4_i32_729
  let c1_i32_735 : BitVec 32 := 1#32
  let v1044 : BitVec 32 := Scalar.subi v1029 c1_i32_735
  let v1045 : BitVec 32 := Scalar.select v1043 v1044 v1029
  let c3_i32_736 : BitVec 32 := 3#32
  let v1046 : BitVec 32 := Scalar.andi v1045 c3_i32_736
  let c32_i32 : BitVec 32 := 32#32
  let v1047 : BitVec 32 := Scalar.muli v1046 c32_i32
  let v1048 : BitVec 32 := Scalar.addi v727 v1047
  let v1247 : Index := Scalar.indexCast v1048
  let c0_873 : Index := 0#32
  ![v1247.toNat, 0]
def k0_off8 (d0 : Dev nD) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let c3_i32_794 : BitVec 32 := 3#32
  let v1157 : BitVec 32 := Scalar.andi v2 c3_i32_794
  let c32_i32_795 : BitVec 32 := 32#32
  let v1158 : BitVec 32 := Scalar.muli v1157 c32_i32_795
  let v1159 : BitVec 32 := Scalar.addi v810 v1158
  let v1291 : Index := Scalar.indexCast v1159
  let c0_924 : Index := 0#32
  ![v1291.toNat, 0]
def k0_dev19 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_942 : BitVec 32 := 4#32
  let v1332 : BitVec 32 := Scalar.xori v2 c4_i32_942
  let c1_i32_945 : BitVec 32 := 1#32
  let v1333 : BitVec 32 := Scalar.muli v1332 c1_i32_945
  let v1334 : BitVec 32 := Scalar.addi c0_i32_946 v1333
  v1334.toNat
def k0_dev20 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_951 : BitVec 32 := 8#32
  let v1341 : BitVec 32 := Scalar.xori v2 c8_i32_951
  let c1_i32_954 : BitVec 32 := 1#32
  let v1342 : BitVec 32 := Scalar.muli v1341 c1_i32_954
  let v1343 : BitVec 32 := Scalar.addi c0_i32_955 v1342
  v1343.toNat
def k0_dev21 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_960 : BitVec 32 := 12#32
  let v1350 : BitVec 32 := Scalar.xori v2 c12_i32_960
  let c1_i32_963 : BitVec 32 := 1#32
  let v1351 : BitVec 32 := Scalar.muli v1350 c1_i32_963
  let v1352 : BitVec 32 := Scalar.addi c0_i32_964 v1351
  v1352.toNat
def k0_dev22 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_974 : BitVec 32 := 1#32
  let v1369 : BitVec 32 := Scalar.xori v2 c1_i32_974
  let c1_i32_977 : BitVec 32 := 1#32
  let v1370 : BitVec 32 := Scalar.muli v1369 c1_i32_977
  let v1371 : BitVec 32 := Scalar.addi c0_i32_978 v1370
  v1371.toNat
def k0_dev23 (d0 : Dev nD) : Nat :=
  let c0_i32_986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_982 : BitVec 32 := 2#32
  let v1378 : BitVec 32 := Scalar.xori v2 c2_i32_982
  let c1_i32_985 : BitVec 32 := 1#32
  let v1379 : BitVec 32 := Scalar.muli v1378 c1_i32_985
  let v1380 : BitVec 32 := Scalar.addi c0_i32_986 v1379
  v1380.toNat
def k0_dev24 (d0 : Dev nD) : Nat :=
  let c0_i32_995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_991 : BitVec 32 := 3#32
  let v1387 : BitVec 32 := Scalar.xori v2 c3_i32_991
  let c1_i32_994 : BitVec 32 := 1#32
  let v1388 : BitVec 32 := Scalar.muli v1387 c1_i32_994
  let v1389 : BitVec 32 := Scalar.addi c0_i32_995 v1388
  v1389.toNat
def k0_off9 (d0 : Dev nD) (c4_i32_1014 : BitVec 32) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let c0_i32_730 : BitVec 32 := 0#32
  let v1030 : BitVec 1 := Scalar.cmpi .sgt v2 c0_i32_730
  let v1031 : BitVec 32 := Scalar.extui v1030
  let c0_i32_731 : BitVec 32 := 0#32
  let v1032 : BitVec 1 := Scalar.cmpi .slt v2 c0_i32_731
  let v1033 : BitVec 32 := Scalar.extui v1032
  let v1034 : BitVec 32 := Scalar.subi v1031 v1033
  let c4_i32_729 : BitVec 32 := 4#32
  let c0_i32_732 : BitVec 32 := 0#32
  let v1035 : BitVec 1 := Scalar.cmpi .sgt c4_i32_729 c0_i32_732
  let v1036 : BitVec 32 := Scalar.extui v1035
  let c0_i32_733 : BitVec 32 := 0#32
  let v1037 : BitVec 1 := Scalar.cmpi .slt c4_i32_729 c0_i32_733
  let v1038 : BitVec 32 := Scalar.extui v1037
  let v1039 : BitVec 32 := Scalar.subi v1036 v1038
  let v1040 : BitVec 1 := Scalar.cmpi .ne v1034 v1039
  let v1041 : BitVec 32 := Scalar.remsi v2 c4_i32_729
  let c0_i32_734 : BitVec 32 := 0#32
  let v1042 : BitVec 1 := Scalar.cmpi .ne v1041 c0_i32_734
  let v1043 : BitVec 1 := Scalar.andi v1040 v1042
  let v1029 : BitVec 32 := Scalar.divsi v2 c4_i32_729
  let c1_i32_735 : BitVec 32 := 1#32
  let v1044 : BitVec 32 := Scalar.subi v1029 c1_i32_735
  let v1045 : BitVec 32 := Scalar.select v1043 v1044 v1029
  let c3_i32_736 : BitVec 32 := 3#32
  let v1046 : BitVec 32 := Scalar.andi v1045 c3_i32_736
  let c32_i32 : BitVec 32 := 32#32
  let v1047 : BitVec 32 := Scalar.muli v1046 c32_i32
  let v1048 : BitVec 32 := Scalar.addi v727 v1047
  let c0_i32_931 : BitVec 32 := 0#32
  let v1306 : BitVec 1 := Scalar.cmpi .sgt v2 c0_i32_931
  let v1307 : BitVec 32 := Scalar.extui v1306
  let c0_i32_932 : BitVec 32 := 0#32
  let v1308 : BitVec 1 := Scalar.cmpi .slt v2 c0_i32_932
  let v1309 : BitVec 32 := Scalar.extui v1308
  let v1310 : BitVec 32 := Scalar.subi v1307 v1309
  let c4_i32_930 : BitVec 32 := 4#32
  let c0_i32_933 : BitVec 32 := 0#32
  let v1311 : BitVec 1 := Scalar.cmpi .sgt c4_i32_930 c0_i32_933
  let v1312 : BitVec 32 := Scalar.extui v1311
  let c0_i32_934 : BitVec 32 := 0#32
  let v1313 : BitVec 1 := Scalar.cmpi .slt c4_i32_930 c0_i32_934
  let v1314 : BitVec 32 := Scalar.extui v1313
  let v1315 : BitVec 32 := Scalar.subi v1312 v1314
  let v1316 : BitVec 1 := Scalar.cmpi .ne v1310 v1315
  let v1317 : BitVec 32 := Scalar.remsi v2 c4_i32_930
  let c0_i32_935 : BitVec 32 := 0#32
  let v1318 : BitVec 1 := Scalar.cmpi .ne v1317 c0_i32_935
  let v1319 : BitVec 1 := Scalar.andi v1316 v1318
  let v1305 : BitVec 32 := Scalar.divsi v2 c4_i32_930
  let c1_i32_936 : BitVec 32 := 1#32
  let v1320 : BitVec 32 := Scalar.subi v1305 c1_i32_936
  let v1321 : BitVec 32 := Scalar.select v1319 v1320 v1305
  let c3_i32_937 : BitVec 32 := 3#32
  let v1322 : BitVec 32 := Scalar.andi v1321 c3_i32_937
  let c32_i32_938 : BitVec 32 := 32#32
  let v1323 : BitVec 32 := Scalar.muli v1322 c32_i32_938
  let v1324 : BitVec 32 := Scalar.subi v1048 v1323
  let v1406 : BitVec 32 := Scalar.xori v2 c4_i32_1014
  let c0_i32_1016 : BitVec 32 := 0#32
  let v1408 : BitVec 1 := Scalar.cmpi .sgt v1406 c0_i32_1016
  let v1409 : BitVec 32 := Scalar.extui v1408
  let c0_i32_1017 : BitVec 32 := 0#32
  let v1410 : BitVec 1 := Scalar.cmpi .slt v1406 c0_i32_1017
  let v1411 : BitVec 32 := Scalar.extui v1410
  let v1412 : BitVec 32 := Scalar.subi v1409 v1411
  let c4_i32_1015 : BitVec 32 := 4#32
  let c0_i32_1018 : BitVec 32 := 0#32
  let v1413 : BitVec 1 := Scalar.cmpi .sgt c4_i32_1015 c0_i32_1018
  let v1414 : BitVec 32 := Scalar.extui v1413
  let c0_i32_1019 : BitVec 32 := 0#32
  let v1415 : BitVec 1 := Scalar.cmpi .slt c4_i32_1015 c0_i32_1019
  let v1416 : BitVec 32 := Scalar.extui v1415
  let v1417 : BitVec 32 := Scalar.subi v1414 v1416
  let v1418 : BitVec 1 := Scalar.cmpi .ne v1412 v1417
  let v1419 : BitVec 32 := Scalar.remsi v1406 c4_i32_1015
  let c0_i32_1020 : BitVec 32 := 0#32
  let v1420 : BitVec 1 := Scalar.cmpi .ne v1419 c0_i32_1020
  let v1421 : BitVec 1 := Scalar.andi v1418 v1420
  let v1407 : BitVec 32 := Scalar.divsi v1406 c4_i32_1015
  let c1_i32_1021 : BitVec 32 := 1#32
  let v1422 : BitVec 32 := Scalar.subi v1407 c1_i32_1021
  let v1423 : BitVec 32 := Scalar.select v1421 v1422 v1407
  let c3_i32_1022 : BitVec 32 := 3#32
  let v1424 : BitVec 32 := Scalar.andi v1423 c3_i32_1022
  let c32_i32_1023 : BitVec 32 := 32#32
  let v1425 : BitVec 32 := Scalar.muli v1424 c32_i32_1023
  let v1426 : BitVec 32 := Scalar.addi v1324 v1425
  let v1429 : Index := Scalar.indexCast v1426
  let c0_1026 : Index := 0#32
  ![v1429.toNat, 0]
def k0_off10 (d0 : Dev nD) (c1_i32_1098 : BitVec 32) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let c3_i32_794 : BitVec 32 := 3#32
  let v1157 : BitVec 32 := Scalar.andi v2 c3_i32_794
  let c32_i32_795 : BitVec 32 := 32#32
  let v1158 : BitVec 32 := Scalar.muli v1157 c32_i32_795
  let v1159 : BitVec 32 := Scalar.addi v810 v1158
  let c3_i32_969 : BitVec 32 := 3#32
  let v1359 : BitVec 32 := Scalar.andi v2 c3_i32_969
  let c32_i32_970 : BitVec 32 := 32#32
  let v1360 : BitVec 32 := Scalar.muli v1359 c32_i32_970
  let v1361 : BitVec 32 := Scalar.subi v1159 v1360
  let v1511 : BitVec 32 := Scalar.xori v2 c1_i32_1098
  let c3_i32_1099 : BitVec 32 := 3#32
  let v1512 : BitVec 32 := Scalar.andi v1511 c3_i32_1099
  let c32_i32_1100 : BitVec 32 := 32#32
  let v1513 : BitVec 32 := Scalar.muli v1512 c32_i32_1100
  let v1514 : BitVec 32 := Scalar.addi v1361 v1513
  let v1517 : Index := Scalar.indexCast v1514
  let c0_1102 : Index := 0#32
  ![v1517.toNat, 0]
def k0_off11 (d0 : Dev nD) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let c0_i32_730 : BitVec 32 := 0#32
  let v1030 : BitVec 1 := Scalar.cmpi .sgt v2 c0_i32_730
  let v1031 : BitVec 32 := Scalar.extui v1030
  let c0_i32_731 : BitVec 32 := 0#32
  let v1032 : BitVec 1 := Scalar.cmpi .slt v2 c0_i32_731
  let v1033 : BitVec 32 := Scalar.extui v1032
  let v1034 : BitVec 32 := Scalar.subi v1031 v1033
  let c4_i32_729 : BitVec 32 := 4#32
  let c0_i32_732 : BitVec 32 := 0#32
  let v1035 : BitVec 1 := Scalar.cmpi .sgt c4_i32_729 c0_i32_732
  let v1036 : BitVec 32 := Scalar.extui v1035
  let c0_i32_733 : BitVec 32 := 0#32
  let v1037 : BitVec 1 := Scalar.cmpi .slt c4_i32_729 c0_i32_733
  let v1038 : BitVec 32 := Scalar.extui v1037
  let v1039 : BitVec 32 := Scalar.subi v1036 v1038
  let v1040 : BitVec 1 := Scalar.cmpi .ne v1034 v1039
  let v1041 : BitVec 32 := Scalar.remsi v2 c4_i32_729
  let c0_i32_734 : BitVec 32 := 0#32
  let v1042 : BitVec 1 := Scalar.cmpi .ne v1041 c0_i32_734
  let v1043 : BitVec 1 := Scalar.andi v1040 v1042
  let v1029 : BitVec 32 := Scalar.divsi v2 c4_i32_729
  let c1_i32_735 : BitVec 32 := 1#32
  let v1044 : BitVec 32 := Scalar.subi v1029 c1_i32_735
  let v1045 : BitVec 32 := Scalar.select v1043 v1044 v1029
  let c3_i32_736 : BitVec 32 := 3#32
  let v1046 : BitVec 32 := Scalar.andi v1045 c3_i32_736
  let c32_i32 : BitVec 32 := 32#32
  let v1047 : BitVec 32 := Scalar.muli v1046 c32_i32
  let v1048 : BitVec 32 := Scalar.addi v727 v1047
  let c0_i32_931 : BitVec 32 := 0#32
  let v1306 : BitVec 1 := Scalar.cmpi .sgt v2 c0_i32_931
  let v1307 : BitVec 32 := Scalar.extui v1306
  let c0_i32_932 : BitVec 32 := 0#32
  let v1308 : BitVec 1 := Scalar.cmpi .slt v2 c0_i32_932
  let v1309 : BitVec 32 := Scalar.extui v1308
  let v1310 : BitVec 32 := Scalar.subi v1307 v1309
  let c4_i32_930 : BitVec 32 := 4#32
  let c0_i32_933 : BitVec 32 := 0#32
  let v1311 : BitVec 1 := Scalar.cmpi .sgt c4_i32_930 c0_i32_933
  let v1312 : BitVec 32 := Scalar.extui v1311
  let c0_i32_934 : BitVec 32 := 0#32
  let v1313 : BitVec 1 := Scalar.cmpi .slt c4_i32_930 c0_i32_934
  let v1314 : BitVec 32 := Scalar.extui v1313
  let v1315 : BitVec 32 := Scalar.subi v1312 v1314
  let v1316 : BitVec 1 := Scalar.cmpi .ne v1310 v1315
  let v1317 : BitVec 32 := Scalar.remsi v2 c4_i32_930
  let c0_i32_935 : BitVec 32 := 0#32
  let v1318 : BitVec 1 := Scalar.cmpi .ne v1317 c0_i32_935
  let v1319 : BitVec 1 := Scalar.andi v1316 v1318
  let v1305 : BitVec 32 := Scalar.divsi v2 c4_i32_930
  let c1_i32_936 : BitVec 32 := 1#32
  let v1320 : BitVec 32 := Scalar.subi v1305 c1_i32_936
  let v1321 : BitVec 32 := Scalar.select v1319 v1320 v1305
  let c3_i32_937 : BitVec 32 := 3#32
  let v1322 : BitVec 32 := Scalar.andi v1321 c3_i32_937
  let c32_i32_938 : BitVec 32 := 32#32
  let v1323 : BitVec 32 := Scalar.muli v1322 c32_i32_938
  let v1324 : BitVec 32 := Scalar.subi v1048 v1323
  let v1558 : Index := Scalar.indexCast v1324
  let c0_1146 : Index := 0#32
  ![v1558.toNat, 0]
def k0_dev25 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1149 : BitVec 32 := 1#32
  let v1565 : BitVec 32 := Scalar.xori v2 c1_i32_1149
  let c1_i32_1152 : BitVec 32 := 1#32
  let v1566 : BitVec 32 := Scalar.muli v1565 c1_i32_1152
  let v1567 : BitVec 32 := Scalar.addi c0_i32_1153 v1566
  v1567.toNat
def k0_dev26 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1157 : BitVec 32 := 2#32
  let v1574 : BitVec 32 := Scalar.xori v2 c2_i32_1157
  let c1_i32_1160 : BitVec 32 := 1#32
  let v1575 : BitVec 32 := Scalar.muli v1574 c1_i32_1160
  let v1576 : BitVec 32 := Scalar.addi c0_i32_1161 v1575
  v1576.toNat
def k0_dev27 (d0 : Dev nD) : Nat :=
  let c0_i32_1169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1165 : BitVec 32 := 3#32
  let v1583 : BitVec 32 := Scalar.xori v2 c3_i32_1165
  let c1_i32_1168 : BitVec 32 := 1#32
  let v1584 : BitVec 32 := Scalar.muli v1583 c1_i32_1168
  let v1585 : BitVec 32 := Scalar.addi c0_i32_1169 v1584
  v1585.toNat
def k0_off12 (d0 : Dev nD) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let c3_i32_794 : BitVec 32 := 3#32
  let v1157 : BitVec 32 := Scalar.andi v2 c3_i32_794
  let c32_i32_795 : BitVec 32 := 32#32
  let v1158 : BitVec 32 := Scalar.muli v1157 c32_i32_795
  let v1159 : BitVec 32 := Scalar.addi v810 v1158
  let c3_i32_969 : BitVec 32 := 3#32
  let v1359 : BitVec 32 := Scalar.andi v2 c3_i32_969
  let c32_i32_970 : BitVec 32 := 32#32
  let v1360 : BitVec 32 := Scalar.muli v1359 c32_i32_970
  let v1361 : BitVec 32 := Scalar.subi v1159 v1360
  let v1612 : Index := Scalar.indexCast v1361
  let c0_1183 : Index := 0#32
  ![v1612.toNat, 0]
def k0_dev28 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1186 : BitVec 32 := 4#32
  let v1619 : BitVec 32 := Scalar.xori v2 c4_i32_1186
  let c1_i32_1189 : BitVec 32 := 1#32
  let v1620 : BitVec 32 := Scalar.muli v1619 c1_i32_1189
  let v1621 : BitVec 32 := Scalar.addi c0_i32_1190 v1620
  v1621.toNat
def k0_dev29 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1194 : BitVec 32 := 8#32
  let v1628 : BitVec 32 := Scalar.xori v2 c8_i32_1194
  let c1_i32_1197 : BitVec 32 := 1#32
  let v1629 : BitVec 32 := Scalar.muli v1628 c1_i32_1197
  let v1630 : BitVec 32 := Scalar.addi c0_i32_1198 v1629
  v1630.toNat
def k0_dev30 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1202 : BitVec 32 := 12#32
  let v1637 : BitVec 32 := Scalar.xori v2 c12_i32_1202
  let c1_i32_1205 : BitVec 32 := 1#32
  let v1638 : BitVec 32 := Scalar.muli v1637 c1_i32_1205
  let v1639 : BitVec 32 := Scalar.addi c0_i32_1206 v1638
  v1639.toNat
def k0_off13 (d0 : Dev nD) (c1_i32_1226 : BitVec 32) : Fin 2 → Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v725 : BitVec 32 := Scalar.andi v2 c3_i32_473
  let c128_i32_474 : BitVec 32 := 128#32
  let v726 : BitVec 32 := Scalar.muli v725 c128_i32_474
  let v727 : BitVec 32 := Scalar.addi c0_i32_475 v726
  let c0_i32_730 : BitVec 32 := 0#32
  let v1030 : BitVec 1 := Scalar.cmpi .sgt v2 c0_i32_730
  let v1031 : BitVec 32 := Scalar.extui v1030
  let c0_i32_731 : BitVec 32 := 0#32
  let v1032 : BitVec 1 := Scalar.cmpi .slt v2 c0_i32_731
  let v1033 : BitVec 32 := Scalar.extui v1032
  let v1034 : BitVec 32 := Scalar.subi v1031 v1033
  let c4_i32_729 : BitVec 32 := 4#32
  let c0_i32_732 : BitVec 32 := 0#32
  let v1035 : BitVec 1 := Scalar.cmpi .sgt c4_i32_729 c0_i32_732
  let v1036 : BitVec 32 := Scalar.extui v1035
  let c0_i32_733 : BitVec 32 := 0#32
  let v1037 : BitVec 1 := Scalar.cmpi .slt c4_i32_729 c0_i32_733
  let v1038 : BitVec 32 := Scalar.extui v1037
  let v1039 : BitVec 32 := Scalar.subi v1036 v1038
  let v1040 : BitVec 1 := Scalar.cmpi .ne v1034 v1039
  let v1041 : BitVec 32 := Scalar.remsi v2 c4_i32_729
  let c0_i32_734 : BitVec 32 := 0#32
  let v1042 : BitVec 1 := Scalar.cmpi .ne v1041 c0_i32_734
  let v1043 : BitVec 1 := Scalar.andi v1040 v1042
  let v1029 : BitVec 32 := Scalar.divsi v2 c4_i32_729
  let c1_i32_735 : BitVec 32 := 1#32
  let v1044 : BitVec 32 := Scalar.subi v1029 c1_i32_735
  let v1045 : BitVec 32 := Scalar.select v1043 v1044 v1029
  let c3_i32_736 : BitVec 32 := 3#32
  let v1046 : BitVec 32 := Scalar.andi v1045 c3_i32_736
  let c32_i32 : BitVec 32 := 32#32
  let v1047 : BitVec 32 := Scalar.muli v1046 c32_i32
  let v1048 : BitVec 32 := Scalar.addi v727 v1047
  let c0_i32_931 : BitVec 32 := 0#32
  let v1306 : BitVec 1 := Scalar.cmpi .sgt v2 c0_i32_931
  let v1307 : BitVec 32 := Scalar.extui v1306
  let c0_i32_932 : BitVec 32 := 0#32
  let v1308 : BitVec 1 := Scalar.cmpi .slt v2 c0_i32_932
  let v1309 : BitVec 32 := Scalar.extui v1308
  let v1310 : BitVec 32 := Scalar.subi v1307 v1309
  let c4_i32_930 : BitVec 32 := 4#32
  let c0_i32_933 : BitVec 32 := 0#32
  let v1311 : BitVec 1 := Scalar.cmpi .sgt c4_i32_930 c0_i32_933
  let v1312 : BitVec 32 := Scalar.extui v1311
  let c0_i32_934 : BitVec 32 := 0#32
  let v1313 : BitVec 1 := Scalar.cmpi .slt c4_i32_930 c0_i32_934
  let v1314 : BitVec 32 := Scalar.extui v1313
  let v1315 : BitVec 32 := Scalar.subi v1312 v1314
  let v1316 : BitVec 1 := Scalar.cmpi .ne v1310 v1315
  let v1317 : BitVec 32 := Scalar.remsi v2 c4_i32_930
  let c0_i32_935 : BitVec 32 := 0#32
  let v1318 : BitVec 1 := Scalar.cmpi .ne v1317 c0_i32_935
  let v1319 : BitVec 1 := Scalar.andi v1316 v1318
  let v1305 : BitVec 32 := Scalar.divsi v2 c4_i32_930
  let c1_i32_936 : BitVec 32 := 1#32
  let v1320 : BitVec 32 := Scalar.subi v1305 c1_i32_936
  let v1321 : BitVec 32 := Scalar.select v1319 v1320 v1305
  let c3_i32_937 : BitVec 32 := 3#32
  let v1322 : BitVec 32 := Scalar.andi v1321 c3_i32_937
  let c32_i32_938 : BitVec 32 := 32#32
  let v1323 : BitVec 32 := Scalar.muli v1322 c32_i32_938
  let v1324 : BitVec 32 := Scalar.subi v1048 v1323
  let c3_i32_1144 : BitVec 32 := 3#32
  let v1555 : BitVec 32 := Scalar.andi v2 c3_i32_1144
  let c128_i32_1145 : BitVec 32 := 128#32
  let v1556 : BitVec 32 := Scalar.muli v1555 c128_i32_1145
  let v1557 : BitVec 32 := Scalar.subi v1324 v1556
  let v1656 : BitVec 32 := Scalar.xori v2 c1_i32_1226
  let c3_i32_1227 : BitVec 32 := 3#32
  let v1657 : BitVec 32 := Scalar.andi v1656 c3_i32_1227
  let c128_i32_1228 : BitVec 32 := 128#32
  let v1658 : BitVec 32 := Scalar.muli v1657 c128_i32_1228
  let v1659 : BitVec 32 := Scalar.addi v1557 v1658
  let v1662 : Index := Scalar.indexCast v1659
  let c0_1230 : Index := 0#32
  ![v1662.toNat, 0]
def k0_off14 (d0 : Dev nD) (c4_i32_1287 : BitVec 32) : Fin 2 → Nat :=
  let c512_i32_539 : BitVec 32 := 512#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_531 : BitVec 32 := 0#32
  let v792 : BitVec 1 := Scalar.cmpi .sgt v2 c0_i32_531
  let v793 : BitVec 32 := Scalar.extui v792
  let c0_i32_532 : BitVec 32 := 0#32
  let v794 : BitVec 1 := Scalar.cmpi .slt v2 c0_i32_532
  let v795 : BitVec 32 := Scalar.extui v794
  let v796 : BitVec 32 := Scalar.subi v793 v795
  let c4_i32_530 : BitVec 32 := 4#32
  let c0_i32_533 : BitVec 32 := 0#32
  let v797 : BitVec 1 := Scalar.cmpi .sgt c4_i32_530 c0_i32_533
  let v798 : BitVec 32 := Scalar.extui v797
  let c0_i32_534 : BitVec 32 := 0#32
  let v799 : BitVec 1 := Scalar.cmpi .slt c4_i32_530 c0_i32_534
  let v800 : BitVec 32 := Scalar.extui v799
  let v801 : BitVec 32 := Scalar.subi v798 v800
  let v802 : BitVec 1 := Scalar.cmpi .ne v796 v801
  let v803 : BitVec 32 := Scalar.remsi v2 c4_i32_530
  let c0_i32_535 : BitVec 32 := 0#32
  let v804 : BitVec 1 := Scalar.cmpi .ne v803 c0_i32_535
  let v805 : BitVec 1 := Scalar.andi v802 v804
  let v791 : BitVec 32 := Scalar.divsi v2 c4_i32_530
  let c1_i32_536 : BitVec 32 := 1#32
  let v806 : BitVec 32 := Scalar.subi v791 c1_i32_536
  let v807 : BitVec 32 := Scalar.select v805 v806 v791
  let c3_i32_537 : BitVec 32 := 3#32
  let v808 : BitVec 32 := Scalar.andi v807 c3_i32_537
  let c128_i32_538 : BitVec 32 := 128#32
  let v809 : BitVec 32 := Scalar.muli v808 c128_i32_538
  let v810 : BitVec 32 := Scalar.addi c512_i32_539 v809
  let c3_i32_794 : BitVec 32 := 3#32
  let v1157 : BitVec 32 := Scalar.andi v2 c3_i32_794
  let c32_i32_795 : BitVec 32 := 32#32
  let v1158 : BitVec 32 := Scalar.muli v1157 c32_i32_795
  let v1159 : BitVec 32 := Scalar.addi v810 v1158
  let c3_i32_969 : BitVec 32 := 3#32
  let v1359 : BitVec 32 := Scalar.andi v2 c3_i32_969
  let c32_i32_970 : BitVec 32 := 32#32
  let v1360 : BitVec 32 := Scalar.muli v1359 c32_i32_970
  let v1361 : BitVec 32 := Scalar.subi v1159 v1360
  let c0_i32_1175 : BitVec 32 := 0#32
  let v1593 : BitVec 1 := Scalar.cmpi .sgt v2 c0_i32_1175
  let v1594 : BitVec 32 := Scalar.extui v1593
  let c0_i32_1176 : BitVec 32 := 0#32
  let v1595 : BitVec 1 := Scalar.cmpi .slt v2 c0_i32_1176
  let v1596 : BitVec 32 := Scalar.extui v1595
  let v1597 : BitVec 32 := Scalar.subi v1594 v1596
  let c4_i32_1174 : BitVec 32 := 4#32
  let c0_i32_1177 : BitVec 32 := 0#32
  let v1598 : BitVec 1 := Scalar.cmpi .sgt c4_i32_1174 c0_i32_1177
  let v1599 : BitVec 32 := Scalar.extui v1598
  let c0_i32_1178 : BitVec 32 := 0#32
  let v1600 : BitVec 1 := Scalar.cmpi .slt c4_i32_1174 c0_i32_1178
  let v1601 : BitVec 32 := Scalar.extui v1600
  let v1602 : BitVec 32 := Scalar.subi v1599 v1601
  let v1603 : BitVec 1 := Scalar.cmpi .ne v1597 v1602
  let v1604 : BitVec 32 := Scalar.remsi v2 c4_i32_1174
  let c0_i32_1179 : BitVec 32 := 0#32
  let v1605 : BitVec 1 := Scalar.cmpi .ne v1604 c0_i32_1179
  let v1606 : BitVec 1 := Scalar.andi v1603 v1605
  let v1592 : BitVec 32 := Scalar.divsi v2 c4_i32_1174
  let c1_i32_1180 : BitVec 32 := 1#32
  let v1607 : BitVec 32 := Scalar.subi v1592 c1_i32_1180
  let v1608 : BitVec 32 := Scalar.select v1606 v1607 v1592
  let c3_i32_1181 : BitVec 32 := 3#32
  let v1609 : BitVec 32 := Scalar.andi v1608 c3_i32_1181
  let c128_i32_1182 : BitVec 32 := 128#32
  let v1610 : BitVec 32 := Scalar.muli v1609 c128_i32_1182
  let v1611 : BitVec 32 := Scalar.subi v1361 v1610
  let v1710 : BitVec 32 := Scalar.xori v2 c4_i32_1287
  let c0_i32_1289 : BitVec 32 := 0#32
  let v1712 : BitVec 1 := Scalar.cmpi .sgt v1710 c0_i32_1289
  let v1713 : BitVec 32 := Scalar.extui v1712
  let c0_i32_1290 : BitVec 32 := 0#32
  let v1714 : BitVec 1 := Scalar.cmpi .slt v1710 c0_i32_1290
  let v1715 : BitVec 32 := Scalar.extui v1714
  let v1716 : BitVec 32 := Scalar.subi v1713 v1715
  let c4_i32_1288 : BitVec 32 := 4#32
  let c0_i32_1291 : BitVec 32 := 0#32
  let v1717 : BitVec 1 := Scalar.cmpi .sgt c4_i32_1288 c0_i32_1291
  let v1718 : BitVec 32 := Scalar.extui v1717
  let c0_i32_1292 : BitVec 32 := 0#32
  let v1719 : BitVec 1 := Scalar.cmpi .slt c4_i32_1288 c0_i32_1292
  let v1720 : BitVec 32 := Scalar.extui v1719
  let v1721 : BitVec 32 := Scalar.subi v1718 v1720
  let v1722 : BitVec 1 := Scalar.cmpi .ne v1716 v1721
  let v1723 : BitVec 32 := Scalar.remsi v1710 c4_i32_1288
  let c0_i32_1293 : BitVec 32 := 0#32
  let v1724 : BitVec 1 := Scalar.cmpi .ne v1723 c0_i32_1293
  let v1725 : BitVec 1 := Scalar.andi v1722 v1724
  let v1711 : BitVec 32 := Scalar.divsi v1710 c4_i32_1288
  let c1_i32_1294 : BitVec 32 := 1#32
  let v1726 : BitVec 32 := Scalar.subi v1711 c1_i32_1294
  let v1727 : BitVec 32 := Scalar.select v1725 v1726 v1711
  let c3_i32_1295 : BitVec 32 := 3#32
  let v1728 : BitVec 32 := Scalar.andi v1727 c3_i32_1295
  let c128_i32_1296 : BitVec 32 := 128#32
  let v1729 : BitVec 32 := Scalar.muli v1728 c128_i32_1296
  let v1730 : BitVec 32 := Scalar.addi v1611 v1729
  let v1733 : Index := Scalar.indexCast v1730
  let c0_1298 : Index := 0#32
  ![v1733.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S1x128x1024x1024, .f32⟩
  | .hbm, ⟨19, _⟩ => ⟨S_, .f32⟩
  | .hbm, ⟨20, _⟩ => ⟨S1x128x1024x1024, .f32⟩
  | .hbm, ⟨21, _⟩ => ⟨S1x128x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S1x128x1024x1024, .i1⟩
  | .hbm, ⟨26, _⟩ => ⟨S1x128x1024x1024, .f32⟩
  | .hbm, ⟨27, _⟩ => ⟨S1x128x1024x1024, .f32⟩
  | .hbm, ⟨28, _⟩ => ⟨S_, .f32⟩
  | .hbm, ⟨29, _⟩ => ⟨S1x128x1024, .f32⟩
  | .hbm, ⟨30, _⟩ => ⟨S1x128x1024x1, .f32⟩
  | .hbm, ⟨31, _⟩ => ⟨S1x128x1024x1024, .f32⟩
  | .hbm, ⟨32, _⟩ => ⟨S1x128x1024x1024, .f32⟩
  | .hbm, ⟨33, _⟩ => ⟨S1x128x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x128x1024, .f32⟩
  | .hbm, ⟨39, _⟩ => ⟨S1x128x1024x1, .f32⟩
  | .hbm, ⟨40, _⟩ => ⟨S_, .f32⟩
  | .hbm, ⟨41, _⟩ => ⟨S_, .f32⟩
  | .hbm, ⟨42, _⟩ => ⟨S1x128x1024x1, .i1⟩
  | .hbm, ⟨43, _⟩ => ⟨S1x128x1024x1, .f32⟩
  | .hbm, ⟨44, _⟩ => ⟨S1x128x1024x1, .f32⟩
  | .hbm, ⟨45, _⟩ => ⟨S1x128x1024x1024, .f32⟩
  | .hbm, ⟨46, _⟩ => ⟨S1x128x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x128x1024x1024, .i1⟩
  | .hbm, ⟨51, _⟩ => ⟨S1x128x1024x1024, .f32⟩
  | .hbm, ⟨52, _⟩ => ⟨S1x128x1024x1024, .f32⟩
  | .hbm, ⟨53, _⟩ => ⟨S1x128x128x1024, .f32⟩
  | .hbm, ⟨54, _⟩ => ⟨S1x1024x128x128, .f32⟩
  | .hbm, ⟨55, _⟩ => ⟨S1x1024x16384, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Common.lean ====
/-
  The protocol of the kernel's exchange, and the values it moves.

  Sixteen devices c = 4z + p (p the place in a plane, z the plane). 24 transfers, numbered in the order the body issues and
  awaits them: four stages of six; in a stage the first three belong to the upper half (rows 0..511) and the last three to
  the lower half. A transfer goes to the device whose number differs in `msk k`.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.Lib.ValueIdxCore

@[expose] public section

set_option maxRecDepth 16384

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## Tables -/

/-- How the partner's number differs. -/
def mskT : Fin 24 → ℕ := ![1,2,3,4,8,12, 4,8,12,1,2,3, 4,8,12,1,2,3, 1,2,3,4,8,12]
/-- Rows moved. -/
def rowsT : Fin 24 → ℕ := ![128,128,128,128,128,128, 32,32,32,32,32,32, 32,32,32,32,32,32, 128,128,128,128,128,128]
/-- First row read in the send buffer. -/
def srcT : Fin 24 → ℕ := ![0,128,256,384,512,640, 0,32,64,384,416,448, 0,0,0,384,384,384, 0,0,0,384,384,384]
/-- First row written in the receive buffer. -/
def dstT : Fin 24 → ℕ := ![0,128,256,384,512,640, 768,800,832,864,896,928, 0,32,64,96,128,160, 192,320,448,576,704,832]

theorem xor_lt (c : Dev nD) (m : ℕ) : (c.val ^^^ m) % 16 < nD := Nat.mod_lt _ (by decide)
def xorDev (m : ℕ) (c : Dev nD) : Dev nD := ⟨(c.val ^^^ m) % 16, xor_lt c m⟩
def peer (k : Fin 24) (c : Dev nD) : Dev nD := xorDev (mskT k) c
theorem peer_peer (k : Fin 24) (c : Dev nD) : peer k (peer k c) = c := by revert k c; decide +kernel

/-- Masks of the six signals. -/
def barT : Fin 6 → ℕ := ![1,2,3,4,8,12]
def bpeer (d : Fin 6) (c : Dev nD) : Dev nD := xorDev (barT d) c
theorem bpeer_bpeer (d : Fin 6) (c : Dev nD) : bpeer d (bpeer d c) = c := by revert d c; decide +kernel
theorem peer_of_msk {k : Fin 24} {d : Fin 6} (h : mskT k = barT d) (c : Dev nD) : peer k c = bpeer d c := by
  unfold peer bpeer; rw [h]
def bix : Fin 24 → Fin 6 := ![0,1,2,3,4,5, 3,4,5,0,1,2, 3,4,5,0,1,2, 0,1,2,3,4,5]
theorem msk_bix (k : Fin 24) : mskT k = barT (bix k) := by revert k; decide

/-- The device's digits: its place in the plane, and its plane. -/
def pl (d : Dev nD) : ℕ := d.val % 4
def zz (d : Dev nD) : ℕ := d.val / 4
def keep0 (t : ℕ) (d : Dev nD) : ℕ := t * 512 + (if t = 0 then pl d else zz d) * 128
def keep1 (t : ℕ) (d : Dev nD) : ℕ := keep0 t d + (if t = 0 then zz d else pl d) * 32
/-- First row of the sender's sum that a transfer carries. -/
def srow (k : Fin 24) (d : Dev nD) : ℕ :=
  let t := (k.val / 3) % 2
  if k.val < 6 then keep0 t (peer k d)
  else if k.val < 12 then keep0 t d + (if t = 0 then zz (peer k d) else pl (peer k d)) * 32
  else if k.val < 18 then keep1 t d
  else keep0 t d

def devOf (p z : ℕ) : Dev nD := ⟨(p + 4 * z) % 16, Nat.mod_lt _ (by decide)⟩
/-- Which device holds the finished row `r`, among those that keep `d`'s block of 128 rows. -/
def own1 (d : Dev nD) (r : ℕ) : Dev nD := if r < 512 then devOf (pl d) ((r / 32) % 4) else devOf ((r / 32) % 4) (zz d)
/-- Which device hands `d` the finished block of 128 rows that holds row `r`. -/
def own0 (d : Dev nD) (r : ℕ) : Dev nD := if r < 512 then devOf ((r / 128) % 4) (zz d) else devOf (pl d) ((r / 128) % 4)

/-! ## Values -/

def fm (n : ℕ) [NeZero n] (r : ℕ) : Fin n := ⟨r % n, Nat.mod_lt _ (NeZero.pos n)⟩
def ixA (r j : ℕ) : S1024x1024.Idx := Idealize.ShloMosaic.ValueIdx.ix2 (fm 1024 r) (fm 1024 j)
def ixB (r j : ℕ) : S128x1024.Idx := Idealize.ShloMosaic.ValueIdx.ix2 (fm 128 r) (fm 1024 j)
def ixH (r j : ℕ) : S256x128.Idx := Idealize.ShloMosaic.ValueIdx.ix2 (fm 256 r) (fm 128 j)
def ixK (h i j : ℕ) : S8x128x1024.Idx := Idealize.ShloMosaic.ValueIdx.ix3 (fm 8 h) (fm 128 i) (fm 1024 j)
def ixV (h i j : ℕ) : S8x1024x128.Idx := Idealize.ShloMosaic.ValueIdx.ix3 (fm 8 h) (fm 1024 i) (fm 128 j)

/-- What the five operands of the kernel hold on every device. -/
structure Ins (F : FTy → Type) where
  x : Dev nD → Vec F S1024x1024 .bf16
  wq : Dev nD → Vec F S1024x1024 .bf16
  kt : Dev nD → Vec F S8x128x1024 .bf16
  v : Dev nD → Vec F S8x1024x128 .bf16
  wo : Dev nD → Vec F S1024x1024 .bf16

variable (I : Ins F)

def slab (m n : ℕ) {α : Type} (f : S1024x1024.Idx → α) (r c : ℕ) : (⟨2, ![m, n]⟩ : Shape).Idx → α :=
  fun x => f (ixA (r + (x 0).val) (c + (x 1).val))
def slabK {α : Type} (f : S8x128x1024.Idx → α) (h i j : ℕ) : S1x128x512.Idx → α :=
  fun x => f (ixK (h + (x 0).val) (i + (x 1).val) (j + (x 2).val))
def slabV {α : Type} (f : S8x1024x128.Idx → α) (h i j : ℕ) : S1x512x128.Idx → α :=
  fun x => f (ixV (h + (x 0).val) (i + (x 1).val) (j + (x 2).val))

def Qv (d : Dev nD) : Vec F S1024x1024 .bf16 := k0_pay2 (I.x d) (I.wq d)

def winT (b : ℕ) : ℕ := if b = 0 then 0 else if b = 1 then 128 else if b = 2 then 384 else 512
def negV (b : ℕ) : FVec F S256x512 .f32 :=
  if b = 0 then k0_pay3 (F := F) else if b = 1 then k0_pay22 (F := F) else if b = 2 then k0_pay40 (F := F) else k0_pay57 (F := F)

/-- One head of one block of 256 rows. -/
def headV (d : Dev nD) (b h : ℕ) : FVec F S256x128 .bf16 :=
  k0_pay9 (negV b) (slab 256 128 (Qv I d) (256 * b) (128 * h)) (slabK (I.kt d) h 0 (winT b)) (slabV (I.v d) h (winT b) 0)
def ctxV (d : Dev nD) : Vec F S1024x1024 .bf16 := fun i =>
  headV I d ((i 0).val / 256) ((i 1).val / 128) (ixH (i 0).val (i 1).val)

def up (x : F .bf16) : F .f32 := FloatOps.extf .f32 bitsLt_bf16_f32 x
def dn (x : F .f32) : F .bf16 := FloatOps.truncf .bf16 bitsLt_bf16_f32 x

/-- The device's own partial product. -/
def A0 (d : Dev nD) (r j : ℕ) : F .f32 := k0_pay82 (slab 128 1024 (ctxV I d) (r / 128 * 128) 0) (I.wo d) (ixB r j)

/-- A row summed with what three partners hold of it, each rounded. -/
def red (k0 k1 k2 : Fin 24) (A : Dev nD → ℕ → ℕ → F .f32) (d : Dev nD) (r j : ℕ) : F .f32 :=
  FloatOps.addf (FloatOps.addf (FloatOps.addf (A d r j) (up (dn (A (peer k0 d) r j)))) (up (dn (A (peer k1 d) r j)))) (up (dn (A (peer k2 d) r j)))
def A1 (d : Dev nD) (r j : ℕ) : F .f32 := if r < 512 then red 0 1 2 (A0 I) d r j else red 3 4 5 (A0 I) d r j
def A2 (d : Dev nD) (r j : ℕ) : F .f32 := if r < 512 then red 6 7 8 (A1 I) d r j else red 9 10 11 (A1 I) d r j
def A3 (d : Dev nD) (r j : ℕ) : F .f32 := if own1 d r = d then A2 I d r j else up (dn (A2 I (own1 d r) r j))
def A4 (d : Dev nD) (r j : ℕ) : F .f32 := if own0 d r = d then A3 I d r j else up (dn (A3 I (own0 d r) r j))

/-- The sums a stage sends from. -/
def AS (k : Fin 24) : Dev nD → ℕ → ℕ → F .f32 :=
  if k.val < 6 then A0 I else if k.val < 12 then A1 I else if k.val < 18 then A2 I else A3 I
def sentN (k : Fin 24) (d : Dev nD) (r j : ℕ) : F .bf16 := dn (AS I k d (srow k d + r) j)

/-- The send buffer as a transfer needs it, and the receive buffer as it leaves it. -/
def srcC (k : Fin 24) (c : Dev nD) : Vec F S768x1024 .bf16 := fun i => sentN I k c ((i 0).val - srcT k) (i 1).val
def landed (k : Fin 24) (c : Dev nD) : Vec F S960x1024 .bf16 := fun i => sentN I k (peer k c) ((i 0).val - dstT k) (i 1).val

/-! ## Cells -/

abbrev UU : Type := UR sig nD τ × URounds (GSem nD τ sig) (Fin 6)
local notation "𝕄" => MT nD τ sig Unit (Elt F) ℕ UU ℕ
abbrev EP : Emb (UR sig nD τ) (MT nD τ sig Unit (Elt F) ℕ UU ℕ) := embL
abbrev ER : Emb (URounds (GSem nD τ sig) (Fin 6)) (MT nD τ sig Unit (Elt F) ℕ UU ℕ) := embR

def sendS (k : Fin 24) : DmaSem sig := ⟨6 + 24 * (k.val / 12) + k.val % 12, by show _ < 54; omega⟩
def recvS (k : Fin 24) : DmaSem sig := ⟨18 + 24 * (k.val / 12) + k.val % 12, by show _ < 54; omega⟩
abbrev barS : Sem sig := barrier0

abbrev barCell (c : Dev nD) : GSem nD τ sig := ((c : Thread nD τ), .reg barS)
abbrev sendCell (k : Fin 24) (c : Dev nD) : GSem nD τ sig := ((c : Thread nD τ), .dma (sendS k))
abbrev recvCell (k : Fin 24) (c : Dev nD) : GSem nD τ sig := ((c : Thread nD τ), .dma (recvS k))

/-- The transfer a DMA semaphore belongs to. -/
def trOf (s : DmaSem sig) : Option (Fin 24) :=
  if h : 6 ≤ s.val then some ⟨(s.val - 6) / 24 * 12 + (s.val - 6) % 12, by have : s.val < 54 := s.isLt; omega⟩ else none
def isRecv (s : DmaSem sig) : Bool := decide (12 ≤ (s.val - 6) % 24)
theorem trOf_send (k : Fin 24) : trOf (sendS k) = some k := by revert k; decide
theorem trOf_recv (k : Fin 24) : trOf (recvS k) = some k := by revert k; decide
theorem isRecv_send (k : Fin 24) : isRecv (sendS k) = false := by revert k; decide
theorem isRecv_recv (k : Fin 24) : isRecv (recvS k) = true := by revert k; decide

/-- What a transfer of `m` rows counts. -/
def amtR (m : ℕ) : ℕ := sig.dmaCredit .tc (Kind.tc.table (.core .vmem)) (View.whole cc0_scratch4).buf ⟨2, ![m, 1024]⟩ .bf16
def amt (k : Fin 24) : ℕ := amtR (rowsT k)
theorem rowsT_cases (k : Fin 24) : rowsT k = 128 ∨ rowsT k = 32 := by revert k; decide
theorem amt_pos (k : Fin 24) : 0 < amt k :=
  sig.dmaCredit_pos _ _ _ _ _ (Shape.numel_pos fun a => by
    match a with
    | ⟨0, _⟩ => show 0 < rowsT k; rcases rowsT_cases k with h | h <;> omega
    | ⟨1, _⟩ => exact Nat.succ_pos _)

def rowSet (n : ℕ) (lo cnt : ℕ) : Finset (⟨2, ![n, 1024]⟩ : Shape).Idx := Finset.univ.filter fun i => lo ≤ (i 0).val ∧ (i 0).val < lo + cnt

def recvPts (k : Fin 24) (c : Dev nD) (f : Vec F S960x1024 .bf16) : sProp 𝕄 :=
  if k.val < 12 then iprop(((c : Thread nD τ).loc cc0_scratch4) ↦[rowSet 960 (dstT k) (rowsT k)]{fullShare} f)
  else iprop(((c : Thread nD τ).loc cc0_scratch5) ↦[rowSet 960 (dstT k) (rowsT k)]{fullShare} f)
/-- The part of the source a transfer holds: three transfers read the same rows in the last two stages. -/
def shareT (k : Fin 24) : PosShare TreeShare :=
  if k.val < 12 then fullShare else if k.val % 3 = 0 then fullShare.left else if k.val % 3 = 1 then fullShare.right.left else fullShare.right.right
def srcPts (k : Fin 24) (c : Dev nD) : sProp 𝕄 :=
  iprop(((c : Thread nD τ).loc cc0_scratch3) ↦[rowSet 768 (srcT k) (rowsT k)]{shareT k} srcC I k c)

/-! ## The schedule -/

/-- What a device needs of its partner for one transfer: the rows written, and that the partner's cell stands at its start. -/
def slotOf (k : Fin 24) (c : Dev nD) : sProp 𝕄 := iprop((∃ f, recvPts (F := F) k (peer k c) f) ∗ reached ER (recvCell k (peer k c)) 0)
def barPay (c : Dev nD) (d : Fin 6) : sProp 𝕄 := bigSep (Finset.univ.filter fun k => bix k = d) (fun k => slotOf (F := F) k c)

def dmaPay (s : DmaSem sig) (c : Dev nD) : sProp 𝕄 :=
  match trOf s with
  | some k => if isRecv s then recvPts k c (landed I k c) else srcPts I k c
  | none => iprop(emp)
def payOf (g : GSem nD τ sig) (d : Fin 6) : sProp 𝕄 :=
  match g.2 with
  | .reg _ => barPay g.1.1 d
  | .dma s => dmaPay I s g.1.1
def amtOf (g : GSem nD τ sig) : ℕ :=
  match g.2 with
  | .reg _ => 1
  | .dma s => match trOf s with
    | some k => amt k
    | none => 1
def dutiesOf (g : GSem nD τ sig) : Finset (Fin 6) :=
  match g.2 with
  | .reg s => if s = barS then Finset.univ else ∅
  | .dma s => if (trOf s).isSome then {0} else ∅

def rd : Rounds.Schedule (GSem nD τ sig) (Fin 6) 𝕄 where
  duties g r := if r = 0 ∧ g.1.2 = .tc then dutiesOf g else ∅
  unitless _ := False
  amount g _ _ := amtOf g
  payload g _ d := payOf I g d
  amount_pos g _ _ _ := by
    unfold amtOf
    split
    · exact Nat.one_pos
    · split
      · exact amt_pos _
      · exact Nat.one_pos

instance recvPts_storable (k : Fin 24) (c : Dev nD) (f : Vec F S960x1024 .bf16) : BI.Storable (upEmb : UEmb _ 𝕄) (recvPts k c f) := by
  unfold recvPts; split <;> infer_instance
instance srcPts_storable (k : Fin 24) (c : Dev nD) : BI.Storable (upEmb : UEmb _ 𝕄) (srcPts I k c) := by unfold srcPts; infer_instance
instance slotOf_storable (k : Fin 24) (c : Dev nD) : BI.Storable (upEmb : UEmb _ 𝕄) (slotOf (F := F) k c) := by
  unfold slotOf; infer_instance
instance barPay_storable (c : Dev nD) (d : Fin 6) : BI.Storable (upEmb : UEmb _ 𝕄) (barPay (F := F) c d) := by
  unfold barPay; infer_instance
instance dmaPay_storable (s : DmaSem sig) (c : Dev nD) : BI.Storable (upEmb : UEmb _ 𝕄) (dmaPay I s c) := by
  unfold dmaPay; split
  · split <;> infer_instance
  · infer_instance
instance rd_storable (g : GSem nD τ sig) (r : ℕ) (d : Fin 6) : BI.Storable (upEmb : UEmb _ 𝕄) ((rd I).payload g r d) := by
  show BI.Storable upEmb (payOf I g d)
  unfold payOf; split <;> infer_instance

section Sched
variable (k : Fin 24) (c : Dev nD)

theorem duties_bar : (rd I).duties (barCell c) 0 = Finset.univ := by
  dsimp only [rd]; rw [if_pos ⟨rfl, rfl⟩]; dsimp only [dutiesOf]; rw [if_pos rfl]
theorem duties_send : (rd I).duties (sendCell k c) 0 = {0} := by
  dsimp only [rd]; rw [if_pos ⟨rfl, rfl⟩]; dsimp only [dutiesOf]; rw [trOf_send]; rfl
theorem duties_recv : (rd I).duties (recvCell k c) 0 = {0} := by
  dsimp only [rd]; rw [if_pos ⟨rfl, rfl⟩]; dsimp only [dutiesOf]; rw [trOf_recv]; rfl
theorem duties_later (g : GSem nD τ sig) : ∀ r, 1 ≤ r → (rd I).duties g r = ∅ := fun r hr => by
  dsimp only [rd]; rw [if_neg (fun h => by omega)]
theorem amount_bar (d : Fin 6) : (rd I).amount (barCell c) 0 d = 1 := rfl
theorem amount_send (d : Fin 6) : (rd I).amount (sendCell k c) 0 d = amt k := by
  dsimp only [rd, amtOf]; rw [trOf_send]
theorem amount_recv (d : Fin 6) : (rd I).amount (recvCell k c) 0 d = amt k := by
  dsimp only [rd, amtOf]; rw [trOf_recv]
theorem expect_bar : (rd I).expect (barCell c) 0 = 6 := by
  unfold Schedule.expect Schedule.amountOf; rw [duties_bar]; rfl
theorem expect_send : (rd I).expect (sendCell k c) 0 = amt k := by
  unfold Schedule.expect Schedule.amountOf; rw [duties_send, Finset.sum_singleton, amount_send]
theorem expect_recv : (rd I).expect (recvCell k c) 0 = amt k := by
  unfold Schedule.expect Schedule.amountOf; rw [duties_recv, Finset.sum_singleton, amount_recv]
theorem payload_bar (d : Fin 6) : (rd I).payload (barCell c) 0 d = barPay c d := rfl
theorem payload_send (d : Fin 6) : (rd I).payload (sendCell k c) 0 d = srcPts I k c := by
  dsimp only [rd, payOf, dmaPay]; rw [trOf_send]; dsimp only; rw [isRecv_send]; rfl
theorem payload_recv (d : Fin 6) : (rd I).payload (recvCell k c) 0 d = recvPts k c (landed I k c) := by
  dsimp only [rd, payOf, dmaPay]; rw [trOf_recv]; dsimp only; rw [isRecv_recv]; rfl
theorem rest_bar : bigSep ((rd I).duties (barCell c) 0 \ ∅) (fun d => (rd I).payload (barCell c) 0 d) = bigSep Finset.univ (fun k => slotOf (F := F) k c) := by
  rw [Finset.sdiff_empty, duties_bar]
  simp only [payload_bar]
  unfold barPay
  have hu : (Finset.univ.image bix : Finset (Fin 6)) = Finset.univ := by decide
  have h := bigSep_fiberwise (Finset.univ : Finset (Fin 24)) bix (fun k => slotOf (F := F) k c)
  rw [hu] at h
  exact h.symm
theorem rest_send : bigSep ((rd I).duties (sendCell k c) 0 \ ∅) (fun d => (rd I).payload (sendCell k c) 0 d) = srcPts I k c := by
  rw [Finset.sdiff_empty, duties_send, bigSep_singleton, payload_send]
theorem rest_recv : bigSep ((rd I).duties (recvCell k c) 0 \ ∅) (fun d => (rd I).payload (recvCell k c) 0 d) = recvPts k c (landed I k c) := by
  rw [Finset.sdiff_empty, duties_recv, bigSep_singleton, payload_recv]
end Sched

/-! ## What is owed, and the levels -/

/-- The transfers from the i-th on, each owed to its partner's cell. -/
def owedFrom (i : ℕ) (c : Dev nD) : CellTallies nD τ sig Unit :=
  ∑ k ∈ Finset.univ.filter (fun k : Fin 24 => i ≤ k.val), tallyAt (recvCell k (peer k c)) () (amt k)
theorem owedFrom_step (k : Fin 24) (c : Dev nD) :
    owedFrom k.val c = owedFrom (k.val + 1) c + tallyAt (recvCell k (peer k c)) () (amt k) := by
  unfold owedFrom
  rw [show (Finset.univ.filter fun k' : Fin 24 => k.val ≤ k'.val) = insert k (Finset.univ.filter fun k' : Fin 24 => k.val + 1 ≤ k'.val) from by
      revert k; decide, Finset.sum_insert (by simp), add_comm]
theorem owedFrom_end (c : Dev nD) : owedFrom 24 c = 0 := by
  unfold owedFrom
  rw [show (Finset.univ.filter fun k' : Fin 24 => 24 ≤ k'.val) = ∅ from by decide, Finset.sum_empty]
theorem owedFrom_pos {i : ℕ} {c : Dev nD} {g : GSem nD τ sig} {u : Unit} (h : 0 < owedFrom i c g u) :
    ∃ k : Fin 24, i ≤ k.val ∧ g = recvCell k (peer k c) := by
  by_contra hn
  push Not at hn
  have : owedFrom i c g u = 0 := by
    unfold owedFrom
    rw [Finset.sum_apply, Finsupp.finset_sum_apply]
    refine Finset.sum_eq_zero fun k hk => ?_
    rw [tallyAt_apply, if_neg (fun h' => hn k (Finset.mem_filter.mp hk).2 h'.1)]
  omega

def L (g : GSem nD τ sig) : Finset Unit := if g.1.2 = .tc then {()} else ∅
def lv (g : GSem nD τ sig) (_ : Unit) : ℕ :=
  match g.2 with
  | .reg _ => 1
  | .dma s => match trOf s with
    | some k => if isRecv s then 2 + k.val else 0
    | none => 0
theorem L_of_ne (g : GSem nD τ sig) (h : g.1.2 ≠ .tc) : L g = ∅ := if_neg h
theorem L_tc (c : Dev nD) (sm : SemLoc sig) : L ((c : Thread nD τ), sm) = {()} := if_pos rfl
theorem lv_send (k : Fin 24) (c : Dev nD) (u : Unit) : lv (sendCell k c) u = 0 := by
  dsimp only [lv]; rw [trOf_send]; dsimp only; rw [isRecv_send]; rfl
theorem lv_recv (k : Fin 24) (c : Dev nD) (u : Unit) : lv (recvCell k c) u = 2 + k.val := by
  dsimp only [lv]; rw [trOf_recv]; dsimp only; rw [isRecv_recv]; rfl

/-- A core that owes the transfers from the i-th on may wait on any cell of a lower level. -/
theorem mayWait (i b : ℕ) (c : Dev nD) (sm : SemLoc sig) (hb : b < 2 + i) (hs : lv ((c : Thread nD τ), sm) () ≤ b) :
    (levAts L lv : sProp 𝕄) ⊢ MayWait (c : Thread nD τ) sm () (owedFrom i c) :=
  MayOwe.of_cut (L := L) (lev := lv) b (fun p hp => by rw [Finset.mem_singleton.mp hp, L_tc]; exact Finset.mem_singleton_self _)
    (fun g u hg => by obtain ⟨k, -, rfl⟩ := owedFrom_pos hg; rw [L_tc]; exact Finset.mem_singleton_self _)
    (fun p hp => by rw [Finset.mem_singleton.mp hp]; exact hs)
    (fun g u hg => by obtain ⟨k, hk, rfl⟩ := owedFrom_pos hg; rw [lv_recv]; omega)
theorem mayWait_send (i : ℕ) (k : Fin 24) (c : Dev nD) : (levAts L lv : sProp 𝕄) ⊢ MayWait (c : Thread nD τ) (.dma (sendS k)) () (owedFrom i c) :=
  mayWait i 0 c _ (by omega) (by rw [lv_send])
theorem mayWait_recv (i : ℕ) (k : Fin 24) (c : Dev nD) (h : k.val < i) : (levAts L lv : sProp 𝕄) ⊢ MayWait (c : Thread nD τ) (.dma (recvS k)) () (owedFrom i c) :=
  mayWait i (2 + k.val) c _ (by omega) (by rw [lv_recv])
theorem mayWait_bar (c : Dev nD) : (levAts L lv : sProp 𝕄) ⊢ MayWait (c : Thread nD τ) (.reg barS) () (owedFrom 0 c) :=
  mayWait 0 1 c _ (by omega) (le_refl _)

/-! ## What a device holds of a transfer, by phase -/

/-- The progress of the body: sources set aside, transfers issued, departures and arrivals awaited, sources given back. -/
structure Ct where
  a : ℕ
  i : ℕ
  s : ℕ
  r : ℕ
  g : ℕ

def phase (ct : Ct) (k : ℕ) : ℕ :=
  if k < ct.g then 5 else if k < ct.r then 4 else if k < ct.s then 3 else if k < ct.i then 2 else if k < ct.a then 1 else 0

def toksOf (k : Fin 24) (c : Dev nD) : sProp 𝕄 := iprop(dutyTok ER (sendCell k c) 0 (0 : Fin 6) ∗ dutyTok ER (recvCell k (peer k c)) 0 (0 : Fin 6))

def ph0 (k : Fin 24) (c : Dev nD) : sProp 𝕄 :=
  iprop(slotOf (F := F) k c ∗ toksOf k c ∗ reached ER (sendCell k c) 0 ∗ atPos ER (sendCell k c) 0 ∅ 0 ∗ atPos ER (recvCell k c) 0 ∅ 0 ∗ cred (tallyAt (recvCell k c) () (amt k)))
def ph1 (k : Fin 24) (c : Dev nD) : sProp 𝕄 := iprop(srcPts I k c ∗ ph0 k c)
def ph2 (k : Fin 24) (c : Dev nD) : sProp 𝕄 :=
  iprop(cred (tallyAt (sendCell k c) () (amt k)) ∗ atPos ER (sendCell k c) 0 ∅ 0 ∗ atPos ER (recvCell k c) 0 ∅ 0 ∗ cred (tallyAt (recvCell k c) () (amt k)))
def ph3 (k : Fin 24) (c : Dev nD) : sProp 𝕄 :=
  iprop(srcPts I k c ∗ atPos ER (sendCell k c) 1 ∅ 0 ∗ atPos ER (recvCell k c) 0 ∅ 0 ∗ cred (tallyAt (recvCell k c) () (amt k)))
def ph5 (k : Fin 24) (c : Dev nD) : sProp 𝕄 :=
  iprop(recvPts k c (landed I k c) ∗ atPos ER (sendCell k c) 1 ∅ 0 ∗ atPos ER (recvCell k c) 1 ∅ 0)
def ph4 (k : Fin 24) (c : Dev nD) : sProp 𝕄 := iprop(srcPts I k c ∗ ph5 I k c)

def Res (p : ℕ) (k : Fin 24) (c : Dev nD) : sProp 𝕄 :=
  match p with
  | 0 => ph0 k c
  | 1 => ph1 I k c
  | 2 => ph2 k c
  | 3 => ph3 I k c
  | 4 => ph4 I k c
  | _ => ph5 I k c
def Pool (ct : Ct) (c : Dev nD) : sProp 𝕄 := bigSep Finset.univ fun k : Fin 24 => Res I (phase ct k.val) k c

/-- One transfer taken out of the pool, and put back at its next phase. -/
theorem pool_take {ct ct' : Ct} (k : Fin 24) (c : Dev nD) (h : ∀ k' : Fin 24, k' ≠ k → phase ct k'.val = phase ct' k'.val) :
    Pool I ct c ⊢ iprop(Res I (phase ct k.val) k c ∗ (Res I (phase ct' k.val) k c -∗ Pool I ct' c)) := by
  have e : bigSep (Finset.univ.erase k) (fun k : Fin 24 => Res I (phase ct k.val) k c) = bigSep (Finset.univ.erase k) (fun k : Fin 24 => Res I (phase ct' k.val) k c) :=
    bigSep_congr fun k' hk' => by rw [h k' (Finset.ne_of_mem_erase hk')]
  unfold Pool
  rw [bigSep_univ_at _ k, bigSep_univ_at (fun k : Fin 24 => Res I (phase ct' k.val) k c) k, e]
  iintro ⟨H, Hr⟩
  isplitl [H]; · iexact H
  iintro H'
  isplitl [H']; · iexact H'
  iexact Hr

/-- Rows of the send buffer not set aside. -/
def freeRows (ct : Ct) : Finset S768x1024.Idx :=
  Finset.univ.filter fun x => ∀ k : Fin 24, ct.g ≤ k.val → k.val < ct.a → (x 0).val < srcT k ∨ srcT k + rowsT k ≤ (x 0).val

/-! ## Everything a device holds in the body -/

structure St (F : FTy → Type) where
  out : Vec F S1024x1024 .f32
  p : Vec F S1024x1024 .f32
  q : Vec F S1024x1024 .bf16
  ctx : Vec F S1024x1024 .bf16

/-- The records the body consults. -/
def invs (K : GSem nD τ sig → ℕ) (c : Dev nD) : sProp 𝕄 :=
  bigSep Finset.univ fun k : Fin 24 => iprop(cellInv ER (rd I) (K (sendCell k c)) (sendCell k c) ∗ cellInv ER (rd I) (K (recvCell k c)) (recvCell k c)
    ∗ cellInv ER (rd I) (K (recvCell k (peer k c))) (recvCell k (peer k c)))
instance invs_persistent (K : GSem nD τ sig → ℕ) (c : Dev nD) : BI.Persistent (invs I K c) := by unfold invs; infer_instance

def insPts (c : Dev nD) : sProp 𝕄 :=
  iprop((((c : Thread nD τ).loc cc0_stg0_0) ↦{fullShare} I.x c) ∗ (((c : Thread nD τ).loc cc0_stg1_0) ↦{fullShare} I.wq c)
    ∗ (((c : Thread nD τ).loc cc0_stg2_0) ↦{fullShare} I.kt c) ∗ (((c : Thread nD τ).loc cc0_stg3_0) ↦{fullShare} I.v c)
    ∗ (((c : Thread nD τ).loc cc0_stg4_0) ↦{fullShare} I.wo c))
def bufPts (c : Dev nD) (σ : St F) : sProp 𝕄 :=
  iprop((((c : Thread nD τ).loc cc0_stg5_0) ↦{fullShare} σ.out) ∗ (((c : Thread nD τ).loc cc0_scratch0) ↦{fullShare} σ.p)
    ∗ (((c : Thread nD τ).loc cc0_scratch1) ↦{fullShare} σ.q) ∗ (((c : Thread nD τ).loc cc0_scratch2) ↦{fullShare} σ.ctx))

/-- A device's holdings, with whatever else rides along. -/
def MS (K : GSem nD τ sig → ℕ) (c : Dev nD) (σ : St F) (ct : Ct) (R : sProp 𝕄) : sProp 𝕄 :=
  iprop(insPts I c ∗ bufPts c σ ∗ (∃ f : Vec F S768x1024 .bf16, ((c : Thread nD τ).loc cc0_scratch3) ↦[freeRows ct]{fullShare} f)
    ∗ Pool I ct c ∗ (∃ W, owes (c : Thread nD τ) (owedFrom ct.i c) W) ∗ invs I K c ∗ levAts L lv ∗ R)

end Cert.KernelIdeal.Mesh

end
-- ==== Proof.Offs.lean ====
/-
  The partners and the rows the body computes, in closed form.
-/
module

public import proofs.«01_k».proof.Proof.Common

@[expose] public section

set_option maxRecDepth 16384

noncomputable section

namespace Cert.KernelIdeal.Mesh

open Idealize.ShloMosaic Idealize.ShloMosaic.TcCoe
open Cert.KernelIdeal Cert.KernelIdeal.Gen

theorem dev_eq {n : ℕ} (k : Fin 24) (d : Dev nD) (hn : n < nD) (h : n = (peer k d).val) : (⟨n, hn⟩ : Dev nD) = peer k d := Fin.ext h
theorem bdev_eq {n : ℕ} (k : Fin 6) (d : Dev nD) (hn : n < nD) (h : n = (bpeer k d).val) : (⟨n, hn⟩ : Dev nD) = bpeer k d := Fin.ext h

theorem dev1_eq (d : Dev nD) : k0_dev1 d = (bpeer 0 d).val := by revert d; decide +kernel
theorem dev2_eq (d : Dev nD) : k0_dev2 d = (bpeer 1 d).val := by revert d; decide +kernel
theorem dev3_eq (d : Dev nD) : k0_dev3 d = (bpeer 2 d).val := by revert d; decide +kernel
theorem dev4_eq (d : Dev nD) : k0_dev4 d = (bpeer 3 d).val := by revert d; decide +kernel
theorem dev5_eq (d : Dev nD) : k0_dev5 d = (bpeer 4 d).val := by revert d; decide +kernel
theorem dev6_eq (d : Dev nD) : k0_dev6 d = (bpeer 5 d).val := by revert d; decide +kernel
theorem dev7_eq (d : Dev nD) : k0_dev7 d = (peer 0 d).val := by revert d; decide +kernel
theorem dev8_eq (d : Dev nD) : k0_dev8 d = (peer 1 d).val := by revert d; decide +kernel
theorem dev9_eq (d : Dev nD) : k0_dev9 d = (peer 2 d).val := by revert d; decide +kernel
theorem dev10_eq (d : Dev nD) : k0_dev10 d = (peer 3 d).val := by revert d; decide +kernel
theorem dev11_eq (d : Dev nD) : k0_dev11 d = (peer 4 d).val := by revert d; decide +kernel
theorem dev12_eq (d : Dev nD) : k0_dev12 d = (peer 5 d).val := by revert d; decide +kernel
theorem dev13_eq (d : Dev nD) : k0_dev13 d = (peer 6 d).val := by revert d; decide +kernel
theorem dev14_eq (d : Dev nD) : k0_dev14 d = (peer 7 d).val := by revert d; decide +kernel
theorem dev15_eq (d : Dev nD) : k0_dev15 d = (peer 8 d).val := by revert d; decide +kernel
theorem dev16_eq (d : Dev nD) : k0_dev16 d = (peer 9 d).val := by revert d; decide +kernel
theorem dev17_eq (d : Dev nD) : k0_dev17 d = (peer 10 d).val := by revert d; decide +kernel
theorem dev18_eq (d : Dev nD) : k0_dev18 d = (peer 11 d).val := by revert d; decide +kernel
theorem dev19_eq (d : Dev nD) : k0_dev19 d = (peer 12 d).val := by revert d; decide +kernel
theorem dev20_eq (d : Dev nD) : k0_dev20 d = (peer 13 d).val := by revert d; decide +kernel
theorem dev21_eq (d : Dev nD) : k0_dev21 d = (peer 14 d).val := by revert d; decide +kernel
theorem dev22_eq (d : Dev nD) : k0_dev22 d = (peer 15 d).val := by revert d; decide +kernel
theorem dev23_eq (d : Dev nD) : k0_dev23 d = (peer 16 d).val := by revert d; decide +kernel
theorem dev24_eq (d : Dev nD) : k0_dev24 d = (peer 17 d).val := by revert d; decide +kernel
theorem dev25_eq (d : Dev nD) : k0_dev25 d = (peer 18 d).val := by revert d; decide +kernel
theorem dev26_eq (d : Dev nD) : k0_dev26 d = (peer 19 d).val := by revert d; decide +kernel
theorem dev27_eq (d : Dev nD) : k0_dev27 d = (peer 20 d).val := by revert d; decide +kernel
theorem dev28_eq (d : Dev nD) : k0_dev28 d = (peer 21 d).val := by revert d; decide +kernel
theorem dev29_eq (d : Dev nD) : k0_dev29 d = (peer 22 d).val := by revert d; decide +kernel
theorem dev30_eq (d : Dev nD) : k0_dev30 d = (peer 23 d).val := by revert d; decide +kernel
theorem off1_1 (d : Dev nD) : k0_off1 d 1#32 = ![srow 0 d, 0] := by revert d; decide +kernel
theorem off1_2 (d : Dev nD) : k0_off1 d 2#32 = ![srow 1 d, 0] := by revert d; decide +kernel
theorem off1_3 (d : Dev nD) : k0_off1 d 3#32 = ![srow 2 d, 0] := by revert d; decide +kernel
theorem off2_4 (d : Dev nD) : k0_off2 d 4#32 = ![srow 3 d, 0] := by revert d; decide +kernel
theorem off2_8 (d : Dev nD) : k0_off2 d 8#32 = ![srow 4 d, 0] := by revert d; decide +kernel
theorem off2_12 (d : Dev nD) : k0_off2 d 12#32 = ![srow 5 d, 0] := by revert d; decide +kernel
theorem off3_eq (d : Dev nD) : k0_off3 d = ![keep0 0 d, 0] := by revert d; decide +kernel
theorem off4_eq (d : Dev nD) : k0_off4 d = ![keep0 1 d, 0] := by revert d; decide +kernel
theorem off5_4 (d : Dev nD) : k0_off5 d 4#32 = ![srow 6 d, 0] := by revert d; decide +kernel
theorem off5_8 (d : Dev nD) : k0_off5 d 8#32 = ![srow 7 d, 0] := by revert d; decide +kernel
theorem off5_12 (d : Dev nD) : k0_off5 d 12#32 = ![srow 8 d, 0] := by revert d; decide +kernel
theorem off6_1 (d : Dev nD) : k0_off6 d 1#32 = ![srow 9 d, 0] := by revert d; decide +kernel
theorem off6_2 (d : Dev nD) : k0_off6 d 2#32 = ![srow 10 d, 0] := by revert d; decide +kernel
theorem off6_3 (d : Dev nD) : k0_off6 d 3#32 = ![srow 11 d, 0] := by revert d; decide +kernel
theorem off7_eq (d : Dev nD) : k0_off7 d = ![keep1 0 d, 0] := by revert d; decide +kernel
theorem off8_eq (d : Dev nD) : k0_off8 d = ![keep1 1 d, 0] := by revert d; decide +kernel
theorem off9_4 (d : Dev nD) : k0_off9 d 4#32 = ![srow 12 (peer 12 d), 0] := by revert d; decide +kernel
theorem off9_8 (d : Dev nD) : k0_off9 d 8#32 = ![srow 13 (peer 13 d), 0] := by revert d; decide +kernel
theorem off9_12 (d : Dev nD) : k0_off9 d 12#32 = ![srow 14 (peer 14 d), 0] := by revert d; decide +kernel
theorem off10_1 (d : Dev nD) : k0_off10 d 1#32 = ![srow 15 (peer 15 d), 0] := by revert d; decide +kernel
theorem off10_2 (d : Dev nD) : k0_off10 d 2#32 = ![srow 16 (peer 16 d), 0] := by revert d; decide +kernel
theorem off10_3 (d : Dev nD) : k0_off10 d 3#32 = ![srow 17 (peer 17 d), 0] := by revert d; decide +kernel
theorem off11_eq (d : Dev nD) : k0_off11 d = ![keep0 0 d, 0] := by revert d; decide +kernel
theorem off12_eq (d : Dev nD) : k0_off12 d = ![keep0 1 d, 0] := by revert d; decide +kernel
theorem off13_1 (d : Dev nD) : k0_off13 d 1#32 = ![srow 18 (peer 18 d), 0] := by revert d; decide +kernel
theorem off13_2 (d : Dev nD) : k0_off13 d 2#32 = ![srow 19 (peer 19 d), 0] := by revert d; decide +kernel
theorem off13_3 (d : Dev nD) : k0_off13 d 3#32 = ![srow 20 (peer 20 d), 0] := by revert d; decide +kernel
theorem off14_4 (d : Dev nD) : k0_off14 d 4#32 = ![srow 21 (peer 21 d), 0] := by revert d; decide +kernel
theorem off14_8 (d : Dev nD) : k0_off14 d 8#32 = ![srow 22 (peer 22 d), 0] := by revert d; decide +kernel
theorem off14_12 (d : Dev nD) : k0_off14 d 12#32 = ![srow 23 (peer 23 d), 0] := by revert d; decide +kernel

theorem keep0_mod (t : Fin 2) (d : Dev nD) : keep0 t.val d % 128 = 0 ∧ keep0 t.val d + 128 ≤ 1024 := by revert t d; decide +kernel
theorem keep1_mod (t : Fin 2) (d : Dev nD) : keep1 t.val d % 32 = 0 ∧ keep0 t.val d ≤ keep1 t.val d ∧ keep1 t.val d + 32 ≤ keep0 t.val d + 128 := by
  revert t d; decide +kernel
theorem srow_le (k : Fin 24) (d : Dev nD) : srow k d + rowsT k ≤ 1024 ∧ srow k d % rowsT k = 0 := by revert k d; decide +kernel

end Cert.KernelIdeal.Mesh

end
-- ==== Proof.Steps.lean ====
/-
  One operation of the body at a time, on a device's holdings: the loads and stores of the working buffers.
-/
module

public import proofs.«01_k».proof.Proof.Offs

@[expose] public section

set_option maxRecDepth 16384

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
abbrev MM (F : FTy → Type) := MT nD τ sig Unit (Elt F) ℕ UU ℕ

abbrev 𝒱₀ : Variants := Variants.none
abbrev PG (F : FTy → Type) (α : Type) := Prog (TpuEff nD τ sig (Elt F) Λ₀ .tc) α
/-- The weakest precondition of a piece of the body on device `c`. -/
abbrev WP (c : Dev nD) {α : Type} (p : PG F α) (Q : α → sProp (MM F)) : sProp (MM F) :=
  wp frame (wpE (defs₀ (F := F)) 𝒱₀ (c : Thread nD τ) none) Set.univ p Q

/-! ## Reading and writing rectangles -/

/-- A rectangle of a square buffer overwritten. -/
def put {m n : ℕ} {α : Type} (f : S1024x1024.Idx → α) (r c : ℕ) (w : (⟨2, ![m, n]⟩ : Shape).Idx → α) : S1024x1024.Idx → α :=
  fun i => if h : (r ≤ (i 0).val ∧ (i 0).val < r + m) ∧ (c ≤ (i 1).val ∧ (i 1).val < c + n)
    then w (Idealize.ShloMosaic.ValueIdx.ix2 ⟨(i 0).val - r, by omega⟩ ⟨(i 1).val - c, by omega⟩) else f i

theorem ix2_ext {a b : ℕ} {x y : (⟨2, ![a, b]⟩ : Shape).Idx} (h0 : (x 0).val = (y 0).val) (h1 : (x 1).val = (y 1).val) : x = y := by
  funext d; match d with
  | ⟨0, _⟩ => exact Fin.ext h0
  | ⟨1, _⟩ => exact Fin.ext h1
theorem ix3_ext {a b c : ℕ} {x y : (⟨3, ![a, b, c]⟩ : Shape).Idx} (h0 : (x 0).val = (y 0).val) (h1 : (x 1).val = (y 1).val)
    (h2 : (x 2).val = (y 2).val) : x = y := by
  funext d; match d with
  | ⟨0, _⟩ => exact Fin.ext h0
  | ⟨1, _⟩ => exact Fin.ext h1
  | ⟨2, _⟩ => exact Fin.ext h2
theorem fm_val {n : ℕ} [NeZero n] {r : ℕ} (h : r < n) : (fm n r).val = r := Nat.mod_eq_of_lt h

theorem ixA_self (i : S1024x1024.Idx) : ixA (i 0).val (i 1).val = i :=
  ix2_ext (fm_val (n := 1024) (i 0).isLt) (fm_val (n := 1024) (i 1).isLt)

section
variable {P : sProp (MM F)} {c : Dev nD} {α : Type} {Q : α → sProp (MM F)}

theorem ld_of {sp : CoreSpace} {s : Shape} {e : EltTy} {m : Memref sig .tc sp s e} {r : LoadRect s} {hl : m.view.LoadsAt r}
    {k : (r.shape.Idx → Elt F e) → PG F α} {S : Finset (Idx (m.view.loc (c : Thread nD τ)))} {q : PosShare TreeShare} {f : Buf (Elt F) (m.view.loc (c : Thread nD τ))}
    (hS : m.view.setOn r.set ⊆ S) (hP : P ⊢ iprop((m.view.loc (c : Thread nD τ) ↦[S]{q} f) ∗ ((m.view.loc (c : Thread nD τ) ↦[S]{q} f) -∗ P)))
    (hk : P ⊢ WP c (k (m.view.readAt (Elt F) r f)) Q) : P ⊢ WP c (.op (.load m r hl) k) Q := by
  refine hP.trans ?_
  iintro ⟨H, Hw⟩
  iapply (wp_load 𝒱₀ (c : Thread nD τ) none Set.univ (hl := hl) hS) $$ [H]
  · iexact H
  iintro H
  iapply hk
  iapply Hw
  iexact H

theorem st_of {sp : CoreSpace} {s : Shape} {e : EltTy} {m : Memref sig .tc sp s e} {r : Rect s} {w : r.shape.Idx → Elt F e} {Mk : Finset r.shape.Idx}
    {hx : (m.access r).Stores Mk} {hm : Mk = Finset.univ ∨ ∀ a, r.stride a = 1} {P' : sProp (MM F)}
    {k : PUnit → PG F α} {S : Finset (Idx ((m.access r).loc (c : Thread nD τ)))} {f : Buf (Elt F) ((m.access r).loc (c : Thread nD τ))}
    (hS : (m.access r).setOn Mk ⊆ S)
    (hP : P ⊢ iprop(((m.access r).loc (c : Thread nD τ) ↦[S]{fullShare} f) ∗ (((m.access r).loc (c : Thread nD τ) ↦[S]{fullShare} ((m.access r).write (Elt F) f w Mk)) -∗ P')))
    (hk : P' ⊢ WP c (k ⟨⟩) Q) : P ⊢ WP c (.op (.store m r w Mk hx hm) k) Q := by
  refine hP.trans ?_
  iintro ⟨H, Hw⟩
  iapply (wp_store 𝒱₀ (c : Thread nD τ) none Set.univ (hx := hx) (hm := hm) hS) $$ [H]
  · iexact H
  iintro H
  iapply hk
  iapply Hw
  iexact H
end

section
variable {I : Ins F} {K : GSem nD τ sig → ℕ} {c : Dev nD} {σ : St F} {ct : Ct} {R : sProp (MM F)} {α : Type} {Q : α → sProp (MM F)}

theorem lens_x : MS I K c σ ct R ⊢ iprop((((c : Thread nD τ).loc cc0_stg0_0) ↦{fullShare} I.x c) ∗ ((((c : Thread nD τ).loc cc0_stg0_0) ↦{fullShare} I.x c) -∗ MS I K c σ ct R)) := by
  unfold MS insPts
  iintro ⟨⟨I1, I2, I3, I4, I5⟩, Hr⟩
  isplitl [I1]; · iexact I1
  iintro I1
  isplitr [Hr]
  · isplitl [I1]; · iexact I1
    isplitl [I2]; · iexact I2
    isplitl [I3]; · iexact I3
    isplitl [I4]; · iexact I4
    iexact I5
  iexact Hr

theorem lens_wq : MS I K c σ ct R ⊢ iprop((((c : Thread nD τ).loc cc0_stg1_0) ↦{fullShare} I.wq c) ∗ ((((c : Thread nD τ).loc cc0_stg1_0) ↦{fullShare} I.wq c) -∗ MS I K c σ ct R)) := by
  unfold MS insPts
  iintro ⟨⟨I1, I2, I3, I4, I5⟩, Hr⟩
  isplitl [I2]; · iexact I2
  iintro I2
  isplitr [Hr]
  · isplitl [I1]; · iexact I1
    isplitl [I2]; · iexact I2
    isplitl [I3]; · iexact I3
    isplitl [I4]; · iexact I4
    iexact I5
  iexact Hr

theorem lens_kt : MS I K c σ ct R ⊢ iprop((((c : Thread nD τ).loc cc0_stg2_0) ↦{fullShare} I.kt c) ∗ ((((c : Thread nD τ).loc cc0_stg2_0) ↦{fullShare} I.kt c) -∗ MS I K c σ ct R)) := by
  unfold MS insPts
  iintro ⟨⟨I1, I2, I3, I4, I5⟩, Hr⟩
  isplitl [I3]; · iexact I3
  iintro I3
  isplitr [Hr]
  · isplitl [I1]; · iexact I1
    isplitl [I2]; · iexact I2
    isplitl [I3]; · iexact I3
    isplitl [I4]; · iexact I4
    iexact I5
  iexact Hr

theorem lens_v : MS I K c σ ct R ⊢ iprop((((c : Thread nD τ).loc cc0_stg3_0) ↦{fullShare} I.v c) ∗ ((((c : Thread nD τ).loc cc0_stg3_0) ↦{fullShare} I.v c) -∗ MS I K c σ ct R)) := by
  unfold MS insPts
  iintro ⟨⟨I1, I2, I3, I4, I5⟩, Hr⟩
  isplitl [I4]; · iexact I4
  iintro I4
  isplitr [Hr]
  · isplitl [I1]; · iexact I1
    isplitl [I2]; · iexact I2
    isplitl [I3]; · iexact I3
    isplitl [I4]; · iexact I4
    iexact I5
  iexact Hr

theorem lens_wo : MS I K c σ ct R ⊢ iprop((((c : Thread nD τ).loc cc0_stg4_0) ↦{fullShare} I.wo c) ∗ ((((c : Thread nD τ).loc cc0_stg4_0) ↦{fullShare} I.wo c) -∗ MS I K c σ ct R)) := by
  unfold MS insPts
  iintro ⟨⟨I1, I2, I3, I4, I5⟩, Hr⟩
  isplitl [I5]; · iexact I5
  iintro I5
  isplitr [Hr]
  · isplitl [I1]; · iexact I1
    isplitl [I2]; · iexact I2
    isplitl [I3]; · iexact I3
    isplitl [I4]; · iexact I4
    iexact I5
  iexact Hr

theorem lens_out : MS I K c σ ct R ⊢ iprop((((c : Thread nD τ).loc cc0_stg5_0) ↦{fullShare} σ.out) ∗ (∀ f, (((c : Thread nD τ).loc cc0_stg5_0) ↦{fullShare} f) -∗ MS I K c { σ with out := f } ct R)) := by
  unfold MS bufPts
  iintro ⟨Hi, ⟨B1, B2, B3, B4⟩, Hr⟩
  isplitl [B1]; · iexact B1
  iintro %f B1
  isplitl [Hi]; · iexact Hi
  isplitr [Hr]
  · isplitl [B1]; · iexact B1
    isplitl [B2]; · iexact B2
    isplitl [B3]; · iexact B3
    iexact B4
  iexact Hr

theorem lens_p : MS I K c σ ct R ⊢ iprop((((c : Thread nD τ).loc cc0_scratch0) ↦{fullShare} σ.p) ∗ (∀ f, (((c : Thread nD τ).loc cc0_scratch0) ↦{fullShare} f) -∗ MS I K c { σ with p := f } ct R)) := by
  unfold MS bufPts
  iintro ⟨Hi, ⟨B1, B2, B3, B4⟩, Hr⟩
  isplitl [B2]; · iexact B2
  iintro %f B2
  isplitl [Hi]; · iexact Hi
  isplitr [Hr]
  · isplitl [B1]; · iexact B1
    isplitl [B2]; · iexact B2
    isplitl [B3]; · iexact B3
    iexact B4
  iexact Hr

theorem lens_q : MS I K c σ ct R ⊢ iprop((((c : Thread nD τ).loc cc0_scratch1) ↦{fullShare} σ.q) ∗ (∀ f, (((c : Thread nD τ).loc cc0_scratch1) ↦{fullShare} f) -∗ MS I K c { σ with q := f } ct R)) := by
  unfold MS bufPts
  iintro ⟨Hi, ⟨B1, B2, B3, B4⟩, Hr⟩
  isplitl [B3]; · iexact B3
  iintro %f B3
  isplitl [Hi]; · iexact Hi
  isplitr [Hr]
  · isplitl [B1]; · iexact B1
    isplitl [B2]; · iexact B2
    isplitl [B3]; · iexact B3
    iexact B4
  iexact Hr

theorem lens_ctx : MS I K c σ ct R ⊢ iprop((((c : Thread nD τ).loc cc0_scratch2) ↦{fullShare} σ.ctx) ∗ (∀ f, (((c : Thread nD τ).loc cc0_scratch2) ↦{fullShare} f) -∗ MS I K c { σ with ctx := f } ct R)) := by
  unfold MS bufPts
  iintro ⟨Hi, ⟨B1, B2, B3, B4⟩, Hr⟩
  isplitl [B4]; · iexact B4
  iintro %f B4
  isplitl [Hi]; · iexact Hi
  isplitr [Hr]
  · isplitl [B1]; · iexact B1
    isplitl [B2]; · iexact B2
    isplitl [B3]; · iexact B3
    iexact B4
  iexact Hr

theorem read_x {m n : ℕ} {off : Fin 2 → ℕ} {inb : ∀ a, off a + (![m, n] : Fin 2 → ℕ) a ≤ S1024x1024.size a} {r c : ℕ} (ho : off = ![r, c]) (f : Vec F S1024x1024 .bf16) :
    (Memref.whole cc0_stg0_0).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_x {m n : ℕ} {off : Fin 2 → ℕ} {inb : ∀ a, off a + (![m, n] : Fin 2 → ℕ) a ≤ S1024x1024.size a} (r c0 : ℕ) (ho : off = ![r, c0])
    {hl : (Memref.whole cc0_stg0_0).view.LoadsAt (Rect.unit (s := S1024x1024) off ![m, n] inb).toLoadRect}
    {k : Vec F ⟨2, ![m, n]⟩ .bf16 → PG F α} (hk : MS I K c σ ct R ⊢ WP c (k (slab m n (I.x c) r c0)) Q) :
    MS I K c σ ct R ⊢ WP c (.op (.load (Memref.whole cc0_stg0_0) (Rect.unit (s := S1024x1024) off ![m, n] inb).toLoadRect hl) k) Q := by
  refine ld_of (m := Memref.whole cc0_stg0_0) (S := Finset.univ) (q := fullShare) (f := I.x c) (Finset.subset_univ _) lens_x ?_
  rw [read_x ho]
  exact hk

theorem read_wq {m n : ℕ} {off : Fin 2 → ℕ} {inb : ∀ a, off a + (![m, n] : Fin 2 → ℕ) a ≤ S1024x1024.size a} {r c : ℕ} (ho : off = ![r, c]) (f : Vec F S1024x1024 .bf16) :
    (Memref.whole cc0_stg1_0).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_wq {m n : ℕ} {off : Fin 2 → ℕ} {inb : ∀ a, off a + (![m, n] : Fin 2 → ℕ) a ≤ S1024x1024.size a} (r c0 : ℕ) (ho : off = ![r, c0])
    {hl : (Memref.whole cc0_stg1_0).view.LoadsAt (Rect.unit (s := S1024x1024) off ![m, n] inb).toLoadRect}
    {k : Vec F ⟨2, ![m, n]⟩ .bf16 → PG F α} (hk : MS I K c σ ct R ⊢ WP c (k (slab m n (I.wq c) r c0)) Q) :
    MS I K c σ ct R ⊢ WP c (.op (.load (Memref.whole cc0_stg1_0) (Rect.unit (s := S1024x1024) off ![m, n] inb).toLoadRect hl) k) Q := by
  refine ld_of (m := Memref.whole cc0_stg1_0) (S := Finset.univ) (q := fullShare) (f := I.wq c) (Finset.subset_univ _) lens_wq ?_
  rw [read_wq ho]
  exact hk

theorem read_kt {off : Fin 3 → ℕ} {inb : ∀ a, off a + (![1, 128, 512] : Fin 3 → ℕ) a ≤ S8x128x1024.size a} {h i j : ℕ} (ho : off = ![h, i, j]) (f : Vec F S8x128x1024 .bf16) :
    (Memref.whole cc0_stg2_0).view.readAt (Elt F) (Rect.unit (s := S8x128x1024) off ![1, 128, 512] inb).toLoadRect f = slabK f h i j := by
  subst ho
  funext x
  have h0 : h + 1 ≤ 8 := inb 0
  have h1 : i + 128 ≤ 128 := inb 1
  have h2 : j + 512 ≤ 1024 := inb 2
  have hx0 : (x 0).val < 1 := (x 0).isLt
  have hx1 : (x 1).val < 128 := (x 1).isLt
  have hx2 : (x 2).val < 512 := (x 2).isLt
  show f _ = f _
  congr 1
  refine ix3_ext ?_ ?_ ?_
  · show h + 1 * (x 0).val = (h + (x 0).val) % 8
    rw [Nat.mod_eq_of_lt (by omega), Nat.one_mul]
  · show i + 1 * (x 1).val = (i + (x 1).val) % 128
    rw [Nat.mod_eq_of_lt (by omega), Nat.one_mul]
  · show j + 1 * (x 2).val = (j + (x 2).val) % 1024
    rw [Nat.mod_eq_of_lt (by omega), Nat.one_mul]

theorem st_ld_kt {off : Fin 3 → ℕ} {inb : ∀ a, off a + (![1, 128, 512] : Fin 3 → ℕ) a ≤ S8x128x1024.size a} (h i j : ℕ) (ho : off = ![h, i, j])
    {hl : (Memref.whole cc0_stg2_0).view.LoadsAt (Rect.unit (s := S8x128x1024) off ![1, 128, 512] inb).toLoadRect}
    {k : Vec F ⟨3, ![1, 128, 512]⟩ .bf16 → PG F α} (hk : MS I K c σ ct R ⊢ WP c (k (slabK (I.kt c) h i j)) Q) :
    MS I K c σ ct R ⊢ WP c (.op (.load (Memref.whole cc0_stg2_0) (Rect.unit (s := S8x128x1024) off ![1, 128, 512] inb).toLoadRect hl) k) Q := by
  refine ld_of (m := Memref.whole cc0_stg2_0) (S := Finset.univ) (q := fullShare) (f := I.kt c) (Finset.subset_univ _) lens_kt ?_
  rw [read_kt ho]
  exact hk

theorem read_v {off : Fin 3 → ℕ} {inb : ∀ a, off a + (![1, 512, 128] : Fin 3 → ℕ) a ≤ S8x1024x128.size a} {h i j : ℕ} (ho : off = ![h, i, j]) (f : Vec F S8x1024x128 .bf16) :
    (Memref.whole cc0_stg3_0).view.readAt (Elt F) (Rect.unit (s := S8x1024x128) off ![1, 512, 128] inb).toLoadRect f = slabV f h i j := by
  subst ho
  funext x
  have h0 : h + 1 ≤ 8 := inb 0
  have h1 : i + 512 ≤ 1024 := inb 1
  have h2 : j + 128 ≤ 128 := inb 2
  have hx0 : (x 0).val < 1 := (x 0).isLt
  have hx1 : (x 1).val < 512 := (x 1).isLt
  have hx2 : (x 2).val < 128 := (x 2).isLt
  show f _ = f _
  congr 1
  refine ix3_ext ?_ ?_ ?_
  · show h + 1 * (x 0).val = (h + (x 0).val) % 8
    rw [Nat.mod_eq_of_lt (by omega), Nat.one_mul]
  · show i + 1 * (x 1).val = (i + (x 1).val) % 1024
    rw [Nat.mod_eq_of_lt (by omega), Nat.one_mul]
  · show j + 1 * (x 2).val = (j + (x 2).val) % 128
    rw [Nat.mod_eq_of_lt (by omega), Nat.one_mul]

theorem st_ld_v {off : Fin 3 → ℕ} {inb : ∀ a, off a + (![1, 512, 128] : Fin 3 → ℕ) a ≤ S8x1024x128.size a} (h i j : ℕ) (ho : off = ![h, i, j])
    {hl : (Memref.whole cc0_stg3_0).view.LoadsAt (Rect.unit (s := S8x1024x128) off ![1, 512, 128] inb).toLoadRect}
    {k : Vec F ⟨3, ![1, 512, 128]⟩ .bf16 → PG F α} (hk : MS I K c σ ct R ⊢ WP c (k (slabV (I.v c) h i j)) Q) :
    MS I K c σ ct R ⊢ WP c (.op (.load (Memref.whole cc0_stg3_0) (Rect.unit (s := S8x1024x128) off ![1, 512, 128] inb).toLoadRect hl) k) Q := by
  refine ld_of (m := Memref.whole cc0_stg3_0) (S := Finset.univ) (q := fullShare) (f := I.v c) (Finset.subset_univ _) lens_v ?_
  rw [read_v ho]
  exact hk

theorem read_wo {m n : ℕ} {off : Fin 2 → ℕ} {inb : ∀ a, off a + (![m, n] : Fin 2 → ℕ) a ≤ S1024x1024.size a} {r c : ℕ} (ho : off = ![r, c]) (f : Vec F S1024x1024 .bf16) :
    (Memref.whole cc0_stg4_0).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_wo {m n : ℕ} {off : Fin 2 → ℕ} {inb : ∀ a, off a + (![m, n] : Fin 2 → ℕ) a ≤ S1024x1024.size a} (r c0 : ℕ) (ho : off = ![r, c0])
    {hl : (Memref.whole cc0_stg4_0).view.LoadsAt (Rect.unit (s := S1024x1024) off ![m, n] inb).toLoadRect}
    {k : Vec F ⟨2, ![m, n]⟩ .bf16 → PG F α} (hk : MS I K c σ ct R ⊢ WP c (k (slab m n (I.wo c) r c0)) Q) :
    MS I K c σ ct R ⊢ WP c (.op (.load (Memref.whole cc0_stg4_0) (Rect.unit (s := S1024x1024) off ![m, n] inb).toLoadRect hl) k) Q := by
  refine ld_of (m := Memref.whole cc0_stg4_0) (S := Finset.univ) (q := fullShare) (f := I.wo c) (Finset.subset_univ _) lens_wo ?_
  rw [read_wo ho]
  exact hk

theorem read_out {m n : ℕ} {off : Fin 2 → ℕ} {inb : ∀ a, off a + (![m, n] : Fin 2 → ℕ) a ≤ S1024x1024.size a} {r c : ℕ} (ho : off = ![r, c]) (f : Vec F S1024x1024 .f32) :
    (Memref.whole cc0_stg5_0).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_out {m n : ℕ} {off : Fin 2 → ℕ} {inb : ∀ a, off a + (![m, n] : Fin 2 → ℕ) a ≤ S1024x1024.size a} (r c0 : ℕ) (ho : off = ![r, c0])
    {hl : (Memref.whole cc0_stg5_0).view.LoadsAt (Rect.unit (s := S1024x1024) off ![m, n] inb).toLoadRect}
    {k : Vec F ⟨2, ![m, n]⟩ .f32 → PG F α} (hk : MS I K c σ ct R ⊢ WP c (k (slab m n (σ.out) r c0)) Q) :
    MS I K c σ ct R ⊢ WP c (.op (.load (Memref.whole cc0_stg5_0) (Rect.unit (s := S1024x1024) off ![m, n] inb).toLoadRect hl) k) Q := by
  refine ld_of (m := Memref.whole cc0_stg5_0) (S := Finset.univ) (q := fullShare) (f := σ.out) (Finset.subset_univ _) (lens_out.trans (sep_mono_right (forall_elim σ.out))) ?_
  rw [read_out ho]
  exact hk

theorem read_p {m n : ℕ} {off : Fin 2 → ℕ} {inb : ∀ a, off a + (![m, n] : Fin 2 → ℕ) a ≤ S1024x1024.size a} {r c : ℕ} (ho : off = ![r, c]) (f : Vec F S1024x1024 .f32) :
    (Memref.whole cc0_scratch0).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_p {m n : ℕ} {off : Fin 2 → ℕ} {inb : ∀ a, off a + (![m, n] : Fin 2 → ℕ) a ≤ S1024x1024.size a} (r c0 : ℕ) (ho : off = ![r, c0])
    {hl : (Memref.whole cc0_scratch0).view.LoadsAt (Rect.unit (s := S1024x1024) off ![m, n] inb).toLoadRect}
    {k : Vec F ⟨2, ![m, n]⟩ .f32 → PG F α} (hk : MS I K c σ ct R ⊢ WP c (k (slab m n (σ.p) r c0)) Q) :
    MS I K c σ ct R ⊢ WP c (.op (.load (Memref.whole cc0_scratch0) (Rect.unit (s := S1024x1024) off ![m, n] inb).toLoadRect hl) k) Q := by
  refine ld_of (m := Memref.whole cc0_scratch0) (S := Finset.univ) (q := fullShare) (f := σ.p) (Finset.subset_univ _) (lens_p.trans (sep_mono_right (forall_elim σ.p))) ?_
  rw [read_p ho]
  exact hk

theorem read_q {m n : ℕ} {off : Fin 2 → ℕ} {inb : ∀ a, off a + (![m, n] : Fin 2 → ℕ) a ≤ S1024x1024.size a} {r c : ℕ} (ho : off = ![r, c]) (f : Vec F S1024x1024 .bf16) :
    (Memref.whole cc0_scratch1).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_q {m n : ℕ} {off : Fin 2 → ℕ} {inb : ∀ a, off a + (![m, n] : Fin 2 → ℕ) a ≤ S1024x1024.size a} (r c0 : ℕ) (ho : off = ![r, c0])
    {hl : (Memref.whole cc0_scratch1).view.LoadsAt (Rect.unit (s := S1024x1024) off ![m, n] inb).toLoadRect}
    {k : Vec F ⟨2, ![m, n]⟩ .bf16 → PG F α} (hk : MS I K c σ ct R ⊢ WP c (k (slab m n (σ.q) r c0)) Q) :
    MS I K c σ ct R ⊢ WP c (.op (.load (Memref.whole cc0_scratch1) (Rect.unit (s := S1024x1024) off ![m, n] inb).toLoadRect hl) k) Q := by
  refine ld_of (m := Memref.whole cc0_scratch1) (S := Finset.univ) (q := fullShare) (f := σ.q) (Finset.subset_univ _) (lens_q.trans (sep_mono_right (forall_elim σ.q))) ?_
  rw [read_q ho]
  exact hk

theorem read_ctx {m n : ℕ} {off : Fin 2 → ℕ} {inb : ∀ a, off a + (![m, n] : Fin 2 → ℕ) a ≤ S1024x1024.size a} {r c : ℕ} (ho : off = ![r, c]) (f : Vec F S1024x1024 .bf16) :
    (Memref.whole cc0_scratch2).view.readAt (Elt F) (Rect.unit (s := S1024x1024) off ![m, n] inb).toLoadRect f = slab m n f r c := by
  subst ho
  funext x
  have h0 : r + m ≤ 1024 := inb 0
  have h1 : c + n ≤ 1024 := inb 1
  have hx0 : (x 0).val < m := (x 0).isLt
  have hx1 : (x 1).val < n := (x 1).isLt
  show f _ = f _
  congr 1
  refine ix2_ext ?_ ?_
  · show r + 1 * (x 0).val = (r + (x 0).val) % 1024
    rw [Nat.mod_eq_of_lt (by omega), Nat.one_mul]
  · show c + 1 * (x 1).val = (c + (x 1).val) % 1024
    rw [Nat.mod_eq_of_lt (by omega), Nat.one_mul]

theorem st_ld_ctx {m n : ℕ} {off : Fin 2 → ℕ} {inb : ∀ a, off a + (![m, n] : Fin 2 → ℕ) a ≤ S1024x1024.size a} (r c0 : ℕ) (ho : off = ![r, c0])
    {hl : (Memref.whole cc0_scratch2).view.LoadsAt (Rect.unit (s := S1024x1024) off ![m, n] inb).toLoadRect}
    {k : Vec F ⟨2, ![m, n]⟩ .bf16 → PG F α} (hk : MS I K c σ ct R ⊢ WP c (k (slab m n (σ.ctx) r c0)) Q) :
    MS I K c σ ct R ⊢ WP c (.op (.load (Memref.whole cc0_scratch2) (Rect.unit (s := S1024x1024) off ![m, n] inb).toLoadRect hl) k) Q := by
  refine ld_of (m := Memref.whole cc0_scratch2) (S := Finset.univ) (q := fullShare) (f := σ.ctx) (Finset.subset_univ _) (lens_ctx.trans (sep_mono_right (forall_elim σ.ctx))) ?_
  rw [read_ctx ho]
  exact hk

theorem write_out {m n : ℕ} {off : Fin 2 → ℕ} {inb : ∀ a, off a + (![m, n] : Fin 2 → ℕ) a ≤ S1024x1024.size a} {r c : ℕ} (ho : off = ![r, c])
    (f : Vec F S1024x1024 .f32) (w : Vec F ⟨2, ![m, n]⟩ .f32) :
    ((Memref.whole cc0_stg5_0).access (Rect.unit (s := S1024x1024) off ![m, n] inb)).write (Elt F) f w Finset.univ = put f r c w := by
  subst ho
  funext i
  have h0 : r + m ≤ 1024 := inb 0
  have h1 : c + n ≤ 1024 := inb 1
  unfold put
  split
  · rename_i h
    have hi : ((Memref.whole cc0_stg5_0).access (Rect.unit (s := S1024x1024) ![r, c] ![m, n] inb)).emb (Idealize.ShloMosaic.ValueIdx.ix2 ⟨(i 0).val - r, by omega⟩ ⟨(i 1).val - c, by omega⟩) = i := by
      refine ix2_ext ?_ ?_
      · show r + 1 * ((i 0).val - r) = (i 0).val
        omega
      · show c + 1 * ((i 1).val - c) = (i 1).val
        omega
    conv_lhs => rw [← hi]
    exact View.write_emb_of_mem (v := ((Memref.whole cc0_stg5_0).access (Rect.unit (s := S1024x1024) ![r, c] ![m, n] inb))) f w (Finset.mem_univ _)
  · rename_i h
    refine View.write_of_not_mem (v := ((Memref.whole cc0_stg5_0).access (Rect.unit (s := S1024x1024) ![r, c] ![m, n] inb))) f w _ (fun hm => h ?_)
    obtain ⟨x, -, rfl⟩ := Finset.mem_map.mp hm
    have hx0 : (x 0).val < m := (x 0).isLt
    have hx1 : (x 1).val < n := (x 1).isLt
    have e0 : ((((Memref.whole cc0_stg5_0).access (Rect.unit (s := S1024x1024) ![r, c] ![m, n] inb)).emb x : S1024x1024.Idx) 0).val = r + 1 * (x 0).val := rfl
    have e1 : ((((Memref.whole cc0_stg5_0).access (Rect.unit (s := S1024x1024) ![r, c] ![m, n] inb)).emb x : S1024x1024.Idx) 1).val = c + 1 * (x 1).val := rfl
    constructor
    · constructor
      · exact le_of_le_of_eq (by omega) e0.symm
      · exact lt_of_eq_of_lt e0 (by omega)
    · constructor
      · exact le_of_le_of_eq (by omega) e1.symm
      · exact lt_of_eq_of_lt e1 (by omega)

theorem st_st_out {m n : ℕ} {off : Fin 2 → ℕ} {inb : ∀ a, off a + (![m, n] : Fin 2 → ℕ) a ≤ S1024x1024.size a} (r c0 : ℕ) (ho : off = ![r, c0])
    {w : Vec F ⟨2, ![m, n]⟩ .f32} {hx : ((Memref.whole cc0_stg5_0).access (Rect.unit (s := S1024x1024) off ![m, n] inb)).Stores Finset.univ}
    {hm : (Finset.univ : Finset (Rect.unit (s := S1024x1024) off ![m, n] inb).shape.Idx) = Finset.univ ∨ ∀ a, (Rect.unit (s := S1024x1024) off ![m, n] inb).stride a = 1}
    {k : PUnit → PG F α} (hk : MS I K c { σ with out := put σ.out r c0 w } ct R ⊢ WP c (k ⟨⟩) Q) :
    MS I K c σ ct R ⊢ WP c (.op (.store (Memref.whole cc0_stg5_0) (Rect.unit (s := S1024x1024) off ![m, n] inb) w Finset.univ hx hm) k) Q := by
  refine st_of (m := Memref.whole cc0_stg5_0) (S := Finset.univ) (f := σ.out) (P' := MS I K c { σ with out := put σ.out r c0 w } ct R) (Finset.subset_univ _)
    (lens_out.trans (sep_mono_right ((forall_elim (put σ.out r c0 w)).trans (Entails.of_eq ?_)))) hk
  rw [write_out ho]

theorem write_p {m n : ℕ} {off : Fin 2 → ℕ} {inb : ∀ a, off a + (![m, n] : Fin 2 → ℕ) a ≤ S1024x1024.size a} {r c : ℕ} (ho : off = ![r, c])
    (f : Vec F S1024x1024 .f32) (w : Vec F ⟨2, ![m, n]⟩ .f32) :
    ((Memref.whole cc0_scratch0).access (Rect.unit (s := S1024x1024) off ![m, n] inb)).write (Elt F) f w Finset.univ = put f r c w := by
  subst ho
  funext i
  have h0 : r + m ≤ 1024 := inb 0
  have h1 : c + n ≤ 1024 := inb 1
  unfold put
  split
  · rename_i h
    have hi : ((Memref.whole cc0_scratch0).access (Rect.unit (s := S1024x1024) ![r, c] ![m, n] inb)).emb (Idealize.ShloMosaic.ValueIdx.ix2 ⟨(i 0).val - r, by omega⟩ ⟨(i 1).val - c, by omega⟩) = i := by
      refine ix2_ext ?_ ?_
      · show r + 1 * ((i 0).val - r) = (i 0).val
        omega
      · show c + 1 * ((i 1).val - c) = (i 1).val
        omega
    conv_lhs => rw [← hi]
    exact View.write_emb_of_mem (v := ((Memref.whole cc0_scratch0).access (Rect.unit (s := S1024x1024) ![r, c] ![m, n] inb))) f w (Finset.mem_univ _)
  · rename_i h
    refine View.write_of_not_mem (v := ((Memref.whole cc0_scratch0).access (Rect.unit (s := S1024x1024) ![r, c] ![m, n] inb))) f w _ (fun hm => h ?_)
    obtain ⟨x, -, rfl⟩ := Finset.mem_map.mp hm
    have hx0 : (x 0).val < m := (x 0).isLt
    have hx1 : (x 1).val < n := (x 1).isLt
    have e0 : ((((Memref.whole cc0_scratch0).access (Rect.unit (s := S1024x1024) ![r, c] ![m, n] inb)).emb x : S1024x1024.Idx) 0).val = r + 1 * (x 0).val := rfl
    have e1 : ((((Memref.whole cc0_scratch0).access (Rect.unit (s := S1024x1024) ![r, c] ![m, n] inb)).emb x : S1024x1024.Idx) 1).val = c + 1 * (x 1).val := rfl
    constructor
    · constructor
      · exact le_of_le_of_eq (by omega) e0.symm
      · exact lt_of_eq_of_lt e0 (by omega)
    · constructor
      · exact le_of_le_of_eq (by omega) e1.symm
      · exact lt_of_eq_of_lt e1 (by omega)

theorem st_st_p {m n : ℕ} {off : Fin 2 → ℕ} {inb : ∀ a, off a + (![m, n] : Fin 2 → ℕ) a ≤ S1024x1024.size a} (r c0 : ℕ) (ho : off = ![r, c0])
    {w : Vec F ⟨2, ![m, n]⟩ .f32} {hx : ((Memref.whole cc0_scratch0).access (Rect.unit (s := S1024x1024) off ![m, n] inb)).Stores Finset.univ}
    {hm : (Finset.univ : Finset (Rect.unit (s := S1024x1024) off ![m, n] inb).shape.Idx) = Finset.univ ∨ ∀ a, (Rect.unit (s := S1024x1024) off ![m, n] inb).stride a = 1}
    {k : PUnit → PG F α} (hk : MS I K c { σ with p := put σ.p r c0 w } ct R ⊢ WP c (k ⟨⟩) Q) :
    MS I K c σ ct R ⊢ WP c (.op (.store (Memref.whole cc0_scratch0) (Rect.unit (s := S1024x1024) off ![m, n] inb) w Finset.univ hx hm) k) Q := by
  refine st_of (m := Memref.whole cc0_scratch0) (S := Finset.univ) (f := σ.p) (P' := MS I K c { σ with p := put σ.p r c0 w } ct R) (Finset.subset_univ _)
    (lens_p.trans (sep_mono_right ((forall_elim (put σ.p r c0 w)).trans (Entails.of_eq ?_)))) hk
  rw [write_p ho]

theorem write_q {m n : ℕ} {off : Fin 2 → ℕ} {inb : ∀ a, off a + (![m, n] : Fin 2 → ℕ) a ≤ S1024x1024.size a} {r c : ℕ} (ho : off = ![r, c])
    (f : Vec F S1024x1024 .bf16) (w : Vec F ⟨2, ![m, n]⟩ .bf16) :
    ((Memref.whole cc0_scratch1).access (Rect.unit (s := S1024x1024) off ![m, n] inb)).write (Elt F) f w Finset.univ = put f r c w := by
  subst ho
  funext i
  have h0 : r + m ≤ 1024 := inb 0
  have h1 : c + n ≤ 1024 := inb 1
  unfold put
  split
  · rename_i h
    have hi : ((Memref.whole cc0_scratch1).access (Rect.unit (s := S1024x1024) ![r, c] ![m, n] inb)).emb (Idealize.ShloMosaic.ValueIdx.ix2 ⟨(i 0).val - r, by omega⟩ ⟨(i 1).val - c, by omega⟩) = i := by
      refine ix2_ext ?_ ?_
      · show r + 1 * ((i 0).val - r) = (i 0).val
        omega
      · show c + 1 * ((i 1).val - c) = (i 1).val
        omega
    conv_lhs => rw [← hi]
    exact View.write_emb_of_mem (v := ((Memref.whole cc0_scratch1).access (Rect.unit (s := S1024x1024) ![r, c] ![m, n] inb))) f w (Finset.mem_univ _)
  · rename_i h
    refine View.write_of_not_mem (v := ((Memref.whole cc0_scratch1).access (Rect.unit (s := S1024x1024) ![r, c] ![m, n] inb))) f w _ (fun hm => h ?_)
    obtain ⟨x, -, rfl⟩ := Finset.mem_map.mp hm
    have hx0 : (x 0).val < m := (x 0).isLt
    have hx1 : (x 1).val < n := (x 1).isLt
    have e0 : ((((Memref.whole cc0_scratch1).access (Rect.unit (s := S1024x1024) ![r, c] ![m, n] inb)).emb x : S1024x1024.Idx) 0).val = r + 1 * (x 0).val := rfl
    have e1 : ((((Memref.whole cc0_scratch1).access (Rect.unit (s := S1024x1024) ![r, c] ![m, n] inb)).emb x : S1024x1024.Idx) 1).val = c + 1 * (x 1).val := rfl
    constructor
    · constructor
      · exact le_of_le_of_eq (by omega) e0.symm
      · exact lt_of_eq_of_lt e0 (by omega)
    · constructor
      · exact le_of_le_of_eq (by omega) e1.symm
      · exact lt_of_eq_of_lt e1 (by omega)

theorem st_st_q {m n : ℕ} {off : Fin 2 → ℕ} {inb : ∀ a, off a + (![m, n] : Fin 2 → ℕ) a ≤ S1024x1024.size a} (r c0 : ℕ) (ho : off = ![r, c0])
    {w : Vec F ⟨2, ![m, n]⟩ .bf16} {hx : ((Memref.whole cc0_scratch1).access (Rect.unit (s := S1024x1024) off ![m, n] inb)).Stores Finset.univ}
    {hm : (Finset.univ : Finset (Rect.unit (s := S1024x1024) off ![m, n] inb).shape.Idx) = Finset.univ ∨ ∀ a, (Rect.unit (s := S1024x1024) off ![m, n] inb).stride a = 1}
    {k : PUnit → PG F α} (hk : MS I K c { σ with q := put σ.q r c0 w } ct R ⊢ WP c (k ⟨⟩) Q) :
    MS I K c σ ct R ⊢ WP c (.op (.store (Memref.whole cc0_scratch1) (Rect.unit (s := S1024x1024) off ![m, n] inb) w Finset.univ hx hm) k) Q := by
  refine st_of (m := Memref.whole cc0_scratch1) (S := Finset.univ) (f := σ.q) (P' := MS I K c { σ with q := put σ.q r c0 w } ct R) (Finset.subset_univ _)
    (lens_q.trans (sep_mono_right ((forall_elim (put σ.q r c0 w)).trans (Entails.of_eq ?_)))) hk
  rw [write_q ho]

theorem write_ctx {m n : ℕ} {off : Fin 2 → ℕ} {inb : ∀ a, off a + (![m, n] : Fin 2 → ℕ) a ≤ S1024x1024.size a} {r c : ℕ} (ho : off = ![r, c])
    (f : Vec F S1024x1024 .bf16) (w : Vec F ⟨2, ![m, n]⟩ .bf16) :
    ((Memref.whole cc0_scratch2).access (Rect.unit (s := S1024x1024) off ![m, n] inb)).write (Elt F) f w Finset.univ = put f r c w := by
  subst ho
  funext i
  have h0 : r + m ≤ 1024 := inb 0
  have h1 : c + n ≤ 1024 := inb 1
  unfold put
  split
  · rename_i h
    have hi : ((Memref.whole cc0_scratch2).access (Rect.unit (s := S1024x1024) ![r, c] ![m, n] inb)).emb (Idealize.ShloMosaic.ValueIdx.ix2 ⟨(i 0).val - r, by omega⟩ ⟨(i 1).val - c, by omega⟩) = i := by
      refine ix2_ext ?_ ?_
      · show r + 1 * ((i 0).val - r) = (i 0).val
        omega
      · show c + 1 * ((i 1).val - c) = (i 1).val
        omega
    conv_lhs => rw [← hi]
    exact View.write_emb_of_mem (v := ((Memref.whole cc0_scratch2).access (Rect.unit (s := S1024x1024) ![r, c] ![m, n] inb))) f w (Finset.mem_univ _)
  · rename_i h
    refine View.write_of_not_mem (v := ((Memref.whole cc0_scratch2).access (Rect.unit (s := S1024x1024) ![r, c] ![m, n] inb))) f w _ (fun hm => h ?_)
    obtain ⟨x, -, rfl⟩ := Finset.mem_map.mp hm
    have hx0 : (x 0).val < m := (x 0).isLt
    have hx1 : (x 1).val < n := (x 1).isLt
    have e0 : ((((Memref.whole cc0_scratch2).access (Rect.unit (s := S1024x1024) ![r, c] ![m, n] inb)).emb x : S1024x1024.Idx) 0).val = r + 1 * (x 0).val := rfl
    have e1 : ((((Memref.whole cc0_scratch2).access (Rect.unit (s := S1024x1024) ![r, c] ![m, n] inb)).emb x : S1024x1024.Idx) 1).val = c + 1 * (x 1).val := rfl
    constructor
    · constructor
      · exact le_of_le_of_eq (by omega) e0.symm
      · exact lt_of_eq_of_lt e0 (by omega)
    · constructor
      · exact le_of_le_of_eq (by omega) e1.symm
      · exact lt_of_eq_of_lt e1 (by omega)

theorem st_st_ctx {m n : ℕ} {off : Fin 2 → ℕ} {inb : ∀ a, off a + (![m, n] : Fin 2 → ℕ) a ≤ S1024x1024.size a} (r c0 : ℕ) (ho : off = ![r, c0])
    {w : Vec F ⟨2, ![m, n]⟩ .bf16} {hx : ((Memref.whole cc0_scratch2).access (Rect.unit (s := S1024x1024) off ![m, n] inb)).Stores Finset.univ}
    {hm : (Finset.univ : Finset (Rect.unit (s := S1024x1024) off ![m, n] inb).shape.Idx) = Finset.univ ∨ ∀ a, (Rect.unit (s := S1024x1024) off ![m, n] inb).stride a = 1}
    {k : PUnit → PG F α} (hk : MS I K c { σ with ctx := put σ.ctx r c0 w } ct R ⊢ WP c (k ⟨⟩) Q) :
    MS I K c σ ct R ⊢ WP c (.op (.store (Memref.whole cc0_scratch2) (Rect.unit (s := S1024x1024) off ![m, n] inb) w Finset.univ hx hm) k) Q := by
  refine st_of (m := Memref.whole cc0_scratch2) (S := Finset.univ) (f := σ.ctx) (P' := MS I K c { σ with ctx := put σ.ctx r c0 w } ct R) (Finset.subset_univ _)
    (lens_ctx.trans (sep_mono_right ((forall_elim (put σ.ctx r c0 w)).trans (Entails.of_eq ?_)))) hk
  rw [write_ctx ho]

end

end Cert.KernelIdeal.Mesh

end
-- ==== Proof.Talk.lean ====
/-
  One operation of the body at a time: setting a source aside, issuing a transfer, awaiting its departure and its arrival, reading
  what landed, giving a source back.
-/
module

public import proofs.«01_k».proof.Proof.Steps
public import Idealize.ShloMosaic.Lib.Ring.Trips

@[expose] public section

set_option maxRecDepth 16384

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## Credits and rows -/

theorem credit_3 {m : ℕ} {off : Fin 2 → ℕ} {inb : ∀ a, off a + (![m, 1024] : Fin 2 → ℕ) a ≤ S768x1024.size a} {hu : ∀ a, (Rect.unit (s := S768x1024) off ![m, 1024] inb).stride a = 1} :
    ((Memref.whole cc0_scratch3).slice (Rect.unit (s := S768x1024) off ![m, 1024] inb) hu).view.dmaCredit = amtR m := rfl

theorem set_3 {m r : ℕ} {off : Fin 2 → ℕ} (ho : off = ![r, 0]) {inb : ∀ a, off a + (![m, 1024] : Fin 2 → ℕ) a ≤ S768x1024.size a} {hu : ∀ a, (Rect.unit (s := S768x1024) off ![m, 1024] inb).stride a = 1} :
    (((Memref.whole cc0_scratch3).slice (Rect.unit (s := S768x1024) off ![m, 1024] inb) hu).view.set : Finset S768x1024.Idx) = rowSet 768 r m := by
  subst ho
  refine (View.set_slice_whole cc0_scratch3 (Rect.unit (s := S768x1024) ![r, 0] ![m, 1024] inb)).trans ?_
  ext i
  rw [Rect.mem_set_unit]
  unfold rowSet
  rw [Finset.mem_filter]
  constructor
  · intro h
    exact ⟨Finset.mem_univ _, (h 0).1, (h 0).2⟩
  · rintro ⟨-, h⟩ a
    match a with
    | ⟨0, _⟩ => exact h
    | ⟨1, _⟩ => exact ⟨Nat.zero_le _, (i 1).isLt.trans_eq (Nat.zero_add 1024).symm⟩

theorem emb_3 {m r : ℕ} {inb : ∀ a, (![r, 0] : Fin 2 → ℕ) a + (![m, 1024] : Fin 2 → ℕ) a ≤ S768x1024.size a} {hu : ∀ a, (Rect.unit (s := S768x1024) ![r, 0] ![m, 1024] inb).stride a = 1}
    (x : (⟨2, ![m, 1024]⟩ : Shape).Idx) :
    (((((Memref.whole cc0_scratch3).slice (Rect.unit (s := S768x1024) ![r, 0] ![m, 1024] inb) hu).view.emb x : S768x1024.Idx) 0).val = r + (x 0).val)
      ∧ (((((Memref.whole cc0_scratch3).slice (Rect.unit (s := S768x1024) ![r, 0] ![m, 1024] inb) hu).view.emb x : S768x1024.Idx) 1).val = (x 1).val) := by
  constructor
  · show r + 1 * (x 0).val = _
    omega
  · show 0 + 1 * (x 1).val = _
    omega

theorem credit_4 {m : ℕ} {off : Fin 2 → ℕ} {inb : ∀ a, off a + (![m, 1024] : Fin 2 → ℕ) a ≤ S960x1024.size a} {hu : ∀ a, (Rect.unit (s := S960x1024) off ![m, 1024] inb).stride a = 1} :
    ((Memref.whole cc0_scratch4).slice (Rect.unit (s := S960x1024) off ![m, 1024] inb) hu).view.dmaCredit = amtR m := rfl

theorem set_4 {m r : ℕ} {off : Fin 2 → ℕ} (ho : off = ![r, 0]) {inb : ∀ a, off a + (![m, 1024] : Fin 2 → ℕ) a ≤ S960x1024.size a} {hu : ∀ a, (Rect.unit (s := S960x1024) off ![m, 1024] inb).stride a = 1} :
    (((Memref.whole cc0_scratch4).slice (Rect.unit (s := S960x1024) off ![m, 1024] inb) hu).view.set : Finset S960x1024.Idx) = rowSet 960 r m := by
  subst ho
  refine (View.set_slice_whole cc0_scratch4 (Rect.unit (s := S960x1024) ![r, 0] ![m, 1024] inb)).trans ?_
  ext i
  rw [Rect.mem_set_unit]
  unfold rowSet
  rw [Finset.mem_filter]
  constructor
  · intro h
    exact ⟨Finset.mem_univ _, (h 0).1, (h 0).2⟩
  · rintro ⟨-, h⟩ a
    match a with
    | ⟨0, _⟩ => exact h
    | ⟨1, _⟩ => exact ⟨Nat.zero_le _, (i 1).isLt.trans_eq (Nat.zero_add 1024).symm⟩

theorem emb_4 {m r : ℕ} {inb : ∀ a, (![r, 0] : Fin 2 → ℕ) a + (![m, 1024] : Fin 2 → ℕ) a ≤ S960x1024.size a} {hu : ∀ a, (Rect.unit (s := S960x1024) ![r, 0] ![m, 1024] inb).stride a = 1}
    (x : (⟨2, ![m, 1024]⟩ : Shape).Idx) :
    (((((Memref.whole cc0_scratch4).slice (Rect.unit (s := S960x1024) ![r, 0] ![m, 1024] inb) hu).view.emb x : S960x1024.Idx) 0).val = r + (x 0).val)
      ∧ (((((Memref.whole cc0_scratch4).slice (Rect.unit (s := S960x1024) ![r, 0] ![m, 1024] inb) hu).view.emb x : S960x1024.Idx) 1).val = (x 1).val) := by
  constructor
  · show r + 1 * (x 0).val = _
    omega
  · show 0 + 1 * (x 1).val = _
    omega

theorem credit_5 {m : ℕ} {off : Fin 2 → ℕ} {inb : ∀ a, off a + (![m, 1024] : Fin 2 → ℕ) a ≤ S960x1024.size a} {hu : ∀ a, (Rect.unit (s := S960x1024) off ![m, 1024] inb).stride a = 1} :
    ((Memref.whole cc0_scratch5).slice (Rect.unit (s := S960x1024) off ![m, 1024] inb) hu).view.dmaCredit = amtR m := rfl

theorem set_5 {m r : ℕ} {off : Fin 2 → ℕ} (ho : off = ![r, 0]) {inb : ∀ a, off a + (![m, 1024] : Fin 2 → ℕ) a ≤ S960x1024.size a} {hu : ∀ a, (Rect.unit (s := S960x1024) off ![m, 1024] inb).stride a = 1} :
    (((Memref.whole cc0_scratch5).slice (Rect.unit (s := S960x1024) off ![m, 1024] inb) hu).view.set : Finset S960x1024.Idx) = rowSet 960 r m := by
  subst ho
  refine (View.set_slice_whole cc0_scratch5 (Rect.unit (s := S960x1024) ![r, 0] ![m, 1024] inb)).trans ?_
  ext i
  rw [Rect.mem_set_unit]
  unfold rowSet
  rw [Finset.mem_filter]
  constructor
  · intro h
    exact ⟨Finset.mem_univ _, (h 0).1, (h 0).2⟩
  · rintro ⟨-, h⟩ a
    match a with
    | ⟨0, _⟩ => exact h
    | ⟨1, _⟩ => exact ⟨Nat.zero_le _, (i 1).isLt.trans_eq (Nat.zero_add 1024).symm⟩

theorem emb_5 {m r : ℕ} {inb : ∀ a, (![r, 0] : Fin 2 → ℕ) a + (![m, 1024] : Fin 2 → ℕ) a ≤ S960x1024.size a} {hu : ∀ a, (Rect.unit (s := S960x1024) ![r, 0] ![m, 1024] inb).stride a = 1}
    (x : (⟨2, ![m, 1024]⟩ : Shape).Idx) :
    (((((Memref.whole cc0_scratch5).slice (Rect.unit (s := S960x1024) ![r, 0] ![m, 1024] inb) hu).view.emb x : S960x1024.Idx) 0).val = r + (x 0).val)
      ∧ (((((Memref.whole cc0_scratch5).slice (Rect.unit (s := S960x1024) ![r, 0] ![m, 1024] inb) hu).view.emb x : S960x1024.Idx) 1).val = (x 1).val) := by
  constructor
  · show r + 1 * (x 0).val = _
    omega
  · show 0 + 1 * (x 1).val = _
    omega

theorem mem_rowSet {n lo cnt : ℕ} {i : (⟨2, ![n, 1024]⟩ : Shape).Idx} : i ∈ rowSet n lo cnt ↔ lo ≤ (i 0).val ∧ (i 0).val < lo + cnt := by
  unfold rowSet; rw [Finset.mem_filter]; exact ⟨fun h => h.2, fun h => ⟨Finset.mem_univ _, h⟩⟩

/-- Rows apart from every source set aside. -/
def Apart (ct : Ct) (lo cnt : ℕ) : Prop := ∀ k : Fin 24, ct.g ≤ k.val → k.val < ct.a → lo + cnt ≤ srcT k ∨ srcT k + rowsT k ≤ lo

instance (ct : Ct) (lo cnt : ℕ) : Decidable (Apart ct lo cnt) := by unfold Apart; infer_instance

theorem rows_free {ct : Ct} {lo cnt : ℕ} (h : Apart ct lo cnt) : rowSet 768 lo cnt ⊆ freeRows ct := by
  intro i hi
  have h' := mem_rowSet.mp hi
  unfold freeRows
  rw [Finset.mem_filter]
  exact ⟨Finset.mem_univ _, fun k hg ha => by rcases h k hg ha with h | h <;> omega⟩

section
variable {I : Ins F} {K : GSem nD τ sig → ℕ} {c : Dev nD} {σ : St F} {ct ct' : Ct} {R : sProp (MM F)} {α : Type} {Q : α → sProp (MM F)}

/-- A device's holdings but for the send buffer's free rows. -/
def MSr (I : Ins F) (K : GSem nD τ sig → ℕ) (c : Dev nD) (σ : St F) (ct : Ct) (R : sProp (MM F)) : sProp (MM F) :=
  iprop(insPts I c ∗ bufPts c σ ∗ (∃ W, owes (c : Thread nD τ) (owedFrom ct.i c) W) ∗ invs I K c ∗ levAts L lv ∗ R)

theorem ms_out : MS I K c σ ct R ⊢ iprop((∃ f : Vec F S768x1024 .bf16, ((c : Thread nD τ).loc cc0_scratch3) ↦[freeRows ct]{fullShare} f) ∗ Pool I ct c ∗ MSr I K c σ ct R) := by
  unfold MS MSr
  iintro ⟨Hi, Hb, Hs, Hp, HO, HI, Hl, HR⟩
  isplitl [Hs]; · iexact Hs
  isplitl [Hp]; · iexact Hp
  isplitl [Hi]; · iexact Hi
  isplitl [Hb]; · iexact Hb
  isplitl [HO]; · iexact HO
  isplitl [HI]; · iexact HI
  isplitl [Hl]; · iexact Hl
  iexact HR
theorem ms_in : iprop((∃ f : Vec F S768x1024 .bf16, ((c : Thread nD τ).loc cc0_scratch3) ↦[freeRows ct]{fullShare} f) ∗ Pool I ct c ∗ MSr I K c σ ct R) ⊢ MS I K c σ ct R := by
  unfold MS MSr
  iintro ⟨Hs, Hp, Hi, Hb, HO, HI, Hl, HR⟩
  isplitl [Hi]; · iexact Hi
  isplitl [Hb]; · iexact Hb
  isplitl [Hs]; · iexact Hs
  isplitl [Hp]; · iexact Hp
  isplitl [HO]; · iexact HO
  isplitl [HI]; · iexact HI
  isplitl [Hl]; · iexact Hl
  iexact HR

/-! ## Reading rows about to be overwritten -/

theorem st_ld_dead {m r : ℕ} {off : Fin 2 → ℕ} (ho : off = ![r, 0]) {inb : ∀ a, off a + (![m, 1024] : Fin 2 → ℕ) a ≤ S768x1024.size a}
    (hA : Apart ct r m)
    {hl : (Memref.whole cc0_scratch3).view.LoadsAt (Rect.unit (s := S768x1024) off ![m, 1024] inb).toLoadRect}
    {k : Vec F ⟨2, ![m, 1024]⟩ .bf16 → PG F α} (hk : ∀ v, MS I K c σ ct R ⊢ WP c (k v) Q) :
    MS I K c σ ct R ⊢ WP c (.op (.load (Memref.whole cc0_scratch3) (Rect.unit (s := S768x1024) off ![m, 1024] inb).toLoadRect hl) k) Q := by
  refine ms_out.trans ?_
  iintro ⟨⟨%f, Hs⟩, Hp, Hr⟩
  iapply (wp_load_rect (m := Memref.whole cc0_scratch3) (r := Rect.unit (s := S768x1024) off ![m, 1024] inb) 𝒱₀ (c : Thread nD τ) none Set.univ (hl := hl) (S := freeRows ct) (f := f)
    (by
      have e := set_3 (m := m) ho (inb := inb) (hu := fun _ => rfl)
      exact (Finset.Subset.trans (Finset.subset_of_eq e) (rows_free hA)))) $$ [Hs]
  · iexact Hs
  iintro Hs
  iapply (hk _)
  iapply ms_in
  isplitl [Hs]; · iexists f; iexact Hs
  isplitl [Hp]; · iexact Hp
  iexact Hr

/-! ## Setting a source aside -/

theorem free_split {ct : Ct} {k : Fin 24} {n : ℕ} (hA : Apart ct (srcT k) (rowsT k)) (ha : ct.a = k.val) (hg : ct.g ≤ k.val)
    (hn : ∀ k' : Fin 24, k.val ≤ k'.val → k'.val < k.val + n → srcT k' = srcT k ∧ rowsT k' = rowsT k) (hn0 : 0 < n) :
    freeRows ct = rowSet 768 (srcT k) (rowsT k) ∪ freeRows ⟨k.val + n, ct.i, ct.s, ct.r, ct.g⟩ ∧ Disjoint (rowSet 768 (srcT k) (rowsT k)) (freeRows ⟨k.val + n, ct.i, ct.s, ct.r, ct.g⟩) := by
  constructor
  · ext i
    unfold freeRows
    simp only [Finset.mem_union, mem_rowSet, Finset.mem_filter, Finset.mem_univ, true_and]
    constructor
    · intro h
      by_cases hi : srcT k ≤ (i 0).val ∧ (i 0).val < srcT k + rowsT k
      · exact .inl hi
      · refine .inr fun k' hg' ha' => ?_
        by_cases hk : k'.val < k.val
        · exact h k' hg' (by omega)
        · obtain ⟨e1, e2⟩ := hn k' (by omega) ha'
          omega
    · rintro (h | h) k' hg' ha'
      · rcases hA k' hg' ha' with h' | h' <;> omega
      · exact h k' hg' (by show k'.val < k.val + n; omega)
  · rw [Finset.disjoint_left]
    intro i hi hf
    have h' := mem_rowSet.mp hi
    have := (Finset.mem_filter.mp hf).2 k hg (by show k.val < k.val + n; omega)
    omega

theorem src_of_write {k : Fin 24} {off : Fin 2 → ℕ} {m : ℕ} (ho : off = ![srcT k, 0]) (hm : rowsT k = m)
    {inb : ∀ a, off a + (![m, 1024] : Fin 2 → ℕ) a ≤ S768x1024.size a} {w : Vec F ⟨2, ![m, 1024]⟩ .bf16}
    (hw : ∀ x, w x = sentN I k c (x 0).val (x 1).val) (f : Vec F S768x1024 .bf16) :
    ∀ i ∈ rowSet 768 (srcT k) (rowsT k),
      (((Memref.whole cc0_scratch3).access (Rect.unit (s := S768x1024) off ![m, 1024] inb)).write (Elt F) f w Finset.univ : Vec F S768x1024 .bf16) i = srcC I k c i := by
  subst ho hm
  intro i hi
  obtain ⟨h1, h2⟩ := mem_rowSet.mp hi
  have hj : (i 1).val < 1024 := (i 1).isLt
  have e : (((Memref.whole cc0_scratch3).access (Rect.unit (s := S768x1024) ![srcT k, 0] ![rowsT k, 1024] inb)).emb
      (Idealize.ShloMosaic.ValueIdx.ix2 ⟨(i 0).val - srcT k, by omega⟩ ⟨(i 1).val, hj⟩) : S768x1024.Idx) = i := by
    refine ix2_ext ?_ ?_
    · show srcT k + 1 * ((i 0).val - srcT k) = (i 0).val
      omega
    · show 0 + 1 * (i 1).val = (i 1).val
      omega
  conv_lhs => rw [← e]
  refine (View.write_emb_of_mem (v := (Memref.whole cc0_scratch3).access (Rect.unit (s := S768x1024) ![srcT k, 0] ![rowsT k, 1024] inb)) f w (Finset.mem_univ _)).trans ?_
  exact hw _

theorem arm_pts {k : Fin 24} {off : Fin 2 → ℕ} {m : ℕ} (ho : off = ![srcT k, 0]) (hm : rowsT k = m)
    {inb : ∀ a, off a + (![m, 1024] : Fin 2 → ℕ) a ≤ S768x1024.size a} {w : Vec F ⟨2, ![m, 1024]⟩ .bf16}
    (hw : ∀ x, w x = sentN I k c (x 0).val (x 1).val) (f : Vec F S768x1024 .bf16) :
    (((c : Thread nD τ).loc cc0_scratch3) ↦[rowSet 768 (srcT k) (rowsT k)]{fullShare}
      (((Memref.whole cc0_scratch3).access (Rect.unit (s := S768x1024) off ![m, 1024] inb)).write (Elt F) f w Finset.univ : Vec F S768x1024 .bf16) : sProp (MM F))
      ⊢ iprop(((c : Thread nD τ).loc cc0_scratch3) ↦[rowSet 768 (srcT k) (rowsT k)]{fullShare} srcC I k c) :=
  Entails.of_eq (pointsTo_congr (ℓ := (c : Thread nD τ).loc cc0_scratch3) (src_of_write ho hm hw f))

theorem res_0 (I : Ins F) {p : ℕ} {k : Fin 24} (c : Dev nD) (h : p = 0) : Res I p k c = ph0 k c := by rw [h]; rfl
theorem res_1 (I : Ins F) {p : ℕ} {k : Fin 24} (c : Dev nD) (h : p = 1) : Res I p k c = ph1 I k c := by rw [h]; rfl
theorem res_2 (I : Ins F) {p : ℕ} {k : Fin 24} (c : Dev nD) (h : p = 2) : Res I p k c = ph2 k c := by rw [h]; rfl
theorem res_3 (I : Ins F) {p : ℕ} {k : Fin 24} (c : Dev nD) (h : p = 3) : Res I p k c = ph3 I k c := by rw [h]; rfl
theorem res_4 (I : Ins F) {p : ℕ} {k : Fin 24} (c : Dev nD) (h : p = 4) : Res I p k c = ph4 I k c := by rw [h]; rfl
theorem res_5 (I : Ins F) {p : ℕ} {k : Fin 24} (c : Dev nD) (h : p = 5) : Res I p k c = ph5 I k c := by rw [h]; rfl

theorem phase_arm {ct : Ct} {k k' : Fin 24} {n : ℕ} (ha : ct.a = k.val) (hlt : ¬ (k.val ≤ k'.val ∧ k'.val < k.val + n)) : phase ct k'.val = phase ⟨k.val + n, ct.i, ct.s, ct.r, ct.g⟩ k'.val := by
  unfold phase; dsimp only; split_ifs <;> omega

theorem src_full (I : Ins F) {k : Fin 24} (c : Dev nD) (h : k.val < 12) :
    srcPts I k c = iprop(((c : Thread nD τ).loc cc0_scratch3) ↦[rowSet 768 (srcT k) (rowsT k)]{fullShare} srcC I k c) := by
  unfold srcPts; rw [show shareT k = fullShare from if_pos h]

theorem st_arm (k : Fin 24) {m : ℕ} {off : Fin 2 → ℕ} (ho : off = ![srcT k, 0]) (hm : rowsT k = m)
    {inb : ∀ a, off a + (![m, 1024] : Fin 2 → ℕ) a ≤ S768x1024.size a} {w : Vec F ⟨2, ![m, 1024]⟩ .bf16}
    (hct : ct' = ⟨k.val + 1, ct.i, ct.s, ct.r, ct.g⟩) (ha : ct.a = k.val) (hlo : ct.g ≤ k.val ∧ ct.r ≤ k.val ∧ ct.s ≤ k.val ∧ ct.i ≤ k.val) (hA : Apart ct (srcT k) (rowsT k)) (hk12 : k.val < 12)
    (hw : ∀ x, w x = sentN I k c (x 0).val (x 1).val)
    {hx : ((Memref.whole cc0_scratch3).access (Rect.unit (s := S768x1024) off ![m, 1024] inb)).Stores Finset.univ}
    {hmk : (Finset.univ : Finset (Rect.unit (s := S768x1024) off ![m, 1024] inb).shape.Idx) = Finset.univ ∨ ∀ a, (Rect.unit (s := S768x1024) off ![m, 1024] inb).stride a = 1}
    {kk : PUnit → PG F α} (hk : MS I K c σ ct' R ⊢ WP c (kk ⟨⟩) Q) :
    MS I K c σ ct R ⊢ WP c (.op (.store (Memref.whole cc0_scratch3) (Rect.unit (s := S768x1024) off ![m, 1024] inb) w Finset.univ hx hmk) kk) Q := by
  subst hct
  obtain ⟨hU, hD⟩ := free_split (n := 1) hA ha hlo.1 (fun k' h1 h2 => by rw [show k' = k from Fin.ext (by omega)]; exact ⟨rfl, rfl⟩) Nat.one_pos
  refine ms_out.trans ?_
  iintro ⟨⟨%f, Hs⟩, Hp, Hr⟩
  iapply (wp_store (m := Memref.whole cc0_scratch3) (r := Rect.unit (s := S768x1024) off ![m, 1024] inb) 𝒱₀ (c : Thread nD τ) none Set.univ (hx := hx) (hm := hmk) (S := freeRows ct) (f := f)
    (by
      have e := set_3 (m := m) ho (inb := inb) (hu := fun _ => rfl)
      exact (Finset.Subset.trans (Finset.subset_of_eq e) (rows_free (hm ▸ hA))))) $$ [Hs]
  · iexact Hs
  iintro Hs
  iapply hk
  iapply ms_in
  rw [hU]
  ihave Hs' := (pointsTo_union hD).1 $$ Hs
  icases Hs' with ⟨H1, H2⟩
  isplitl [H2]
  · iexists _; iexact H2
  ihave Hp' := (pool_take (ct' := ⟨k.val + 1, ct.i, ct.s, ct.r, ct.g⟩) I k c (fun k' hne => phase_arm (n := 1) ha (fun h => hne (Fin.ext (by omega))))) $$ Hp
  icases Hp' with ⟨H0, Hw⟩
  isplitr [Hr]
  · iapply Hw
    have p0 : phase ct k.val = 0 := by unfold phase; split_ifs <;> omega
    have p1 : phase ⟨k.val + 1, ct.i, ct.s, ct.r, ct.g⟩ k.val = 1 := by unfold phase; dsimp only; split_ifs <;> omega
    ihave H0 := (Entails.of_eq (res_0 I c p0)) $$ H0
    iapply (Entails.of_eq (res_1 I c p1).symm)
    unfold ph1
    isplitl [H1]
    · iapply (Entails.of_eq (src_full I c hk12).symm)
      iapply (arm_pts (I := I) (inb := inb) ho hm hw f)
      iexact H1
    iexact H0
  iexact Hr

/-! ## Three transfers from the same rows -/

theorem src_third (I : Ins F) {k k0 : Fin 24} (c : Dev nD) (e1 : srcT k = srcT k0) (e2 : rowsT k = rowsT k0) (e3 : srow k c = srow k0 c) (e4 : AS I k = AS I k0) :
    srcPts I k c = iprop(((c : Thread nD τ).loc cc0_scratch3) ↦[rowSet 768 (srcT k0) (rowsT k0)]{shareT k} srcC I k0 c) := by
  unfold srcPts
  have : srcC I k c = srcC I k0 c := by
    funext i; unfold srcC sentN; rw [e1, e3, e4]
  rw [this, e1, e2]

/-- The last two stages' first transfers of each half. -/
structure Trip (I : Ins F) (k k1 k2 : Fin 24) : Prop where
  n1 : k1.val = k.val + 1
  n2 : k2.val = k.val + 2
  s1 : srcT k1 = srcT k
  s2 : srcT k2 = srcT k
  r1 : rowsT k1 = rowsT k
  r2 : rowsT k2 = rowsT k
  w1 : ∀ c, srow k1 c = srow k c
  w2 : ∀ c, srow k2 c = srow k c
  a1 : AS I k1 = AS I k
  a2 : AS I k2 = AS I k
  q0 : shareT k = fullShare.left
  q1 : shareT k1 = fullShare.right.left
  q2 : shareT k2 = fullShare.right.right

theorem trip12 (I : Ins F) : Trip I 12 13 14 := ⟨rfl, rfl, rfl, rfl, rfl, rfl, fun _ => rfl, fun _ => rfl, rfl, rfl, rfl, rfl, rfl⟩
theorem trip15 (I : Ins F) : Trip I 15 16 17 := ⟨rfl, rfl, rfl, rfl, rfl, rfl, fun _ => rfl, fun _ => rfl, rfl, rfl, rfl, rfl, rfl⟩
theorem trip18 (I : Ins F) : Trip I 18 19 20 := ⟨rfl, rfl, rfl, rfl, rfl, rfl, fun _ => rfl, fun _ => rfl, rfl, rfl, rfl, rfl, rfl⟩
theorem trip21 (I : Ins F) : Trip I 21 22 23 := ⟨rfl, rfl, rfl, rfl, rfl, rfl, fun _ => rfl, fun _ => rfl, rfl, rfl, rfl, rfl, rfl⟩

theorem src_trip {k k1 k2 : Fin 24} (h : Trip I k k1 k2) (c : Dev nD) :
    iprop(((c : Thread nD τ).loc cc0_scratch3) ↦[rowSet 768 (srcT k) (rowsT k)]{fullShare} srcC I k c) ⊣⊢ iprop(srcPts I k c ∗ srcPts I k1 c ∗ srcPts I k2 c) := by
  rw [src_third I c rfl rfl rfl rfl (k := k) (k0 := k), src_third I c h.s1 h.r1 (h.w1 c) h.a1, src_third I c h.s2 h.r2 (h.w2 c) h.a2, h.q0, h.q1, h.q2]
  exact (pointsTo_share (PosShare.mem_left_op_right fullShare)).trans ⟨sep_mono_r (pointsTo_share (PosShare.mem_left_op_right fullShare.right)).1, sep_mono_r (pointsTo_share (PosShare.mem_left_op_right fullShare.right)).2⟩

/-- Three neighbours taken out of the pool at once. -/
theorem pool_take3 {k k1 k2 : Fin 24} (h1 : k1.val = k.val + 1) (h2 : k2.val = k.val + 2)
    (h : ∀ k' : Fin 24, ¬ (k.val ≤ k'.val ∧ k'.val < k.val + 3) → phase ct k'.val = phase ct' k'.val) :
    Pool I ct c ⊢ iprop((Res I (phase ct k.val) k c ∗ Res I (phase ct k1.val) k1 c ∗ Res I (phase ct k2.val) k2 c)
      ∗ ((Res I (phase ct' k.val) k c ∗ Res I (phase ct' k1.val) k1 c ∗ Res I (phase ct' k2.val) k2 c) -∗ Pool I ct' c)) := by
  have n1 : k1 ∈ Finset.univ.erase k := Finset.mem_erase.mpr ⟨fun e => by rw [e] at h1; omega, Finset.mem_univ _⟩
  have n2 : k2 ∈ (Finset.univ.erase k).erase k1 :=
    Finset.mem_erase.mpr ⟨fun e => by rw [e] at h2; omega, Finset.mem_erase.mpr ⟨fun e => by rw [e] at h2; omega, Finset.mem_univ _⟩⟩
  have e : bigSep (((Finset.univ.erase k).erase k1).erase k2) (fun k : Fin 24 => Res I (phase ct k.val) k c)
      = bigSep (((Finset.univ.erase k).erase k1).erase k2) (fun k : Fin 24 => Res I (phase ct' k.val) k c) :=
    bigSep_congr fun k' hk' => by
      obtain ⟨a2, hk'⟩ := Finset.mem_erase.mp hk'
      obtain ⟨a1, hk'⟩ := Finset.mem_erase.mp hk'
      obtain ⟨a0, -⟩ := Finset.mem_erase.mp hk'
      rw [h k' (fun hh => by
        have b0 : k'.val ≠ k.val := fun e => a0 (Fin.ext e)
        have b1 : k'.val ≠ k1.val := fun e => a1 (Fin.ext e)
        have b2 : k'.val ≠ k2.val := fun e => a2 (Fin.ext e)
        omega)]
  have sp : ∀ ct : Ct, Pool I ct c = iprop(Res I (phase ct k.val) k c ∗ Res I (phase ct k1.val) k1 c ∗ Res I (phase ct k2.val) k2 c
      ∗ bigSep (((Finset.univ.erase k).erase k1).erase k2) (fun k : Fin 24 => Res I (phase ct k.val) k c)) := fun ct => by
    unfold Pool
    rw [bigSep_erase (Finset.mem_univ k), bigSep_erase n1, bigSep_erase n2]
    rfl
  rw [sp ct, sp ct', e]
  iintro ⟨H0, H1, H2, Hr⟩
  isplitl [H0 H1 H2]
  · isplitl [H0]; · iexact H0
    isplitl [H1]; · iexact H1
    iexact H2
  iintro ⟨H0, H1, H2⟩
  isplitl [H0]; · iexact H0
  isplitl [H1]; · iexact H1
  isplitl [H2]; · iexact H2
  iexact Hr

theorem st_arm3 {k k1 k2 : Fin 24} (hT : Trip I k k1 k2) {m : ℕ} {off : Fin 2 → ℕ} (ho : off = ![srcT k, 0]) (hm : rowsT k = m)
    {inb : ∀ a, off a + (![m, 1024] : Fin 2 → ℕ) a ≤ S768x1024.size a} {w : Vec F ⟨2, ![m, 1024]⟩ .bf16}
    (hct : ct' = ⟨k.val + 3, ct.i, ct.s, ct.r, ct.g⟩) (ha : ct.a = k.val) (hlo : ct.g ≤ k.val ∧ ct.r ≤ k.val ∧ ct.s ≤ k.val ∧ ct.i ≤ k.val) (hA : Apart ct (srcT k) (rowsT k))
    (hw : ∀ x, w x = sentN I k c (x 0).val (x 1).val)
    {hx : ((Memref.whole cc0_scratch3).access (Rect.unit (s := S768x1024) off ![m, 1024] inb)).Stores Finset.univ}
    {hmk : (Finset.univ : Finset (Rect.unit (s := S768x1024) off ![m, 1024] inb).shape.Idx) = Finset.univ ∨ ∀ a, (Rect.unit (s := S768x1024) off ![m, 1024] inb).stride a = 1}
    {kk : PUnit → PG F α} (hk : MS I K c σ ct' R ⊢ WP c (kk ⟨⟩) Q) :
    MS I K c σ ct R ⊢ WP c (.op (.store (Memref.whole cc0_scratch3) (Rect.unit (s := S768x1024) off ![m, 1024] inb) w Finset.univ hx hmk) kk) Q := by
  subst hct
  obtain ⟨hU, hD⟩ := free_split (n := 3) hA ha hlo.1 (fun k' h1 h2 => by
    have n1 := hT.n1; have n2 := hT.n2
    rcases (show k'.val = k.val ∨ k'.val = k1.val ∨ k'.val = k2.val by omega) with e | e | e
    · rw [Fin.ext e]; exact ⟨rfl, rfl⟩
    · rw [Fin.ext e]; exact ⟨hT.s1, hT.r1⟩
    · rw [Fin.ext e]; exact ⟨hT.s2, hT.r2⟩) (by omega)
  refine ms_out.trans ?_
  iintro ⟨⟨%f, Hs⟩, Hp, Hr⟩
  iapply (wp_store (m := Memref.whole cc0_scratch3) (r := Rect.unit (s := S768x1024) off ![m, 1024] inb) 𝒱₀ (c : Thread nD τ) none Set.univ (hx := hx) (hm := hmk) (S := freeRows ct) (f := f)
    (by
      have e := set_3 (m := m) ho (inb := inb) (hu := fun _ => rfl)
      exact (Finset.Subset.trans (Finset.subset_of_eq e) (rows_free (hm ▸ hA))))) $$ [Hs]
  · iexact Hs
  iintro Hs
  iapply hk
  iapply ms_in
  rw [hU]
  ihave Hs' := (pointsTo_union hD).1 $$ Hs
  icases Hs' with ⟨H1, H2⟩
  isplitl [H2]
  · iexists _; iexact H2
  ihave H1 := (arm_pts (I := I) (inb := inb) ho hm hw f) $$ H1
  ihave H1 := (src_trip hT c).1 $$ H1
  icases H1 with ⟨Ha, Hb, Hc⟩
  ihave Hp' := (pool_take3 (ct' := ⟨k.val + 3, ct.i, ct.s, ct.r, ct.g⟩) (I := I) (c := c) hT.n1 hT.n2 (fun k' hne => phase_arm (n := 3) ha hne)) $$ Hp
  icases Hp' with ⟨⟨H0, H1, H2⟩, Hw⟩
  have n1 := hT.n1
  have n2 := hT.n2
  have p0 : phase ct k.val = 0 := by unfold phase; split_ifs <;> omega
  have p1 : phase ct k1.val = 0 := by unfold phase; split_ifs <;> omega
  have p2 : phase ct k2.val = 0 := by unfold phase; split_ifs <;> omega
  have q0 : phase ⟨k.val + 3, ct.i, ct.s, ct.r, ct.g⟩ k.val = 1 := by unfold phase; dsimp only; split_ifs <;> omega
  have q1 : phase ⟨k.val + 3, ct.i, ct.s, ct.r, ct.g⟩ k1.val = 1 := by unfold phase; dsimp only; split_ifs <;> omega
  have q2 : phase ⟨k.val + 3, ct.i, ct.s, ct.r, ct.g⟩ k2.val = 1 := by unfold phase; dsimp only; split_ifs <;> omega
  ihave H0 := (Entails.of_eq (res_0 I c p0)) $$ H0
  ihave H1 := (Entails.of_eq (res_0 I c p1)) $$ H1
  ihave H2 := (Entails.of_eq (res_0 I c p2)) $$ H2
  isplitr [Hr]
  · iapply Hw
    isplitl [Ha H0]
    · iapply (Entails.of_eq (res_1 I c q0).symm)
      unfold ph1
      isplitl [Ha]; · iexact Ha
      iexact H0
    isplitl [Hb H1]
    · iapply (Entails.of_eq (res_1 I c q1).symm)
      unfold ph1
      isplitl [Hb]; · iexact Hb
      iexact H1
    · iapply (Entails.of_eq (res_1 I c q2).symm)
      unfold ph1
      isplitl [Hc]; · iexact Hc
      iexact H2
  iexact Hr

end

end Cert.KernelIdeal.Mesh

end
-- ==== Proof.Talk2.lean ====
/-
  One operation of the body at a time: issuing a transfer, awaiting its departure and its arrival, reading what landed, giving a
  source back.
-/
module

public import proofs.«01_k».proof.Proof.Talk

@[expose] public section

set_option maxRecDepth 16384

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

section
variable {I : Ins F} {K : GSem nD τ sig → ℕ} {c : Dev nD} {σ : St F} {ct ct' : Ct} {R : sProp (MM F)} {α : Type} {Q : α → sProp (MM F)}

theorem route_tc (c c' : Dev nD) : τ.routes (c : Thread nD τ) (c' : Thread nD τ) = true := by
  simp only [Topo.routes_same, Topo.routes_self, Topo.routes_tc, Topo.routes_scScalar, Dev.tc]

theorem and_of3 {A B C : sProp (MM F)} : (iprop(A ∗ B ∗ C) ⊢ A) ∧ (iprop(A ∗ B ∗ C) ⊢ B) ∧ (iprop(A ∗ B ∗ C) ⊢ C) := by
  refine ⟨?_, ?_, ?_⟩
  · iintro ⟨H, -, -⟩; iexact H
  · iintro ⟨-, H, -⟩; iexact H
  · iintro ⟨-, -, H⟩; iexact H

theorem inv_send (I : Ins F) (K : GSem nD τ sig → ℕ) (c : Dev nD) (k : Fin 24) : invs I K c ⊢ cellInv ER (rd I) (K (sendCell k c)) (sendCell k c) := by
  unfold invs
  refine (bigSep_elim (Finset.mem_univ k)).trans ?_
  exact and_of3.1
theorem inv_recv (I : Ins F) (K : GSem nD τ sig → ℕ) (c : Dev nD) (k : Fin 24) : invs I K c ⊢ cellInv ER (rd I) (K (recvCell k c)) (recvCell k c) := by
  unfold invs
  refine (bigSep_elim (Finset.mem_univ k)).trans ?_
  exact and_of3.2.1
theorem inv_peer (I : Ins F) (K : GSem nD τ sig → ℕ) (c : Dev nD) (k : Fin 24) : invs I K c ⊢ cellInv ER (rd I) (K (recvCell k (peer k c))) (recvCell k (peer k c)) := by
  unfold invs
  refine (bigSep_elim (Finset.mem_univ k)).trans ?_
  exact and_of3.2.2

theorem src_pts (I : Ins F) (c : Dev nD) (k : Fin 24) {inb : ∀ a, (![srcT k, 0] : Fin 2 → ℕ) a + (![rowsT k, 1024] : Fin 2 → ℕ) a ≤ S768x1024.size a} {hu : ∀ a, (Rect.unit (s := S768x1024) ![srcT k, 0] ![rowsT k, 1024] inb).stride a = 1} :
    srcPts I k c = iprop((((Memref.whole cc0_scratch3).slice (Rect.unit (s := S768x1024) ![srcT k, 0] ![rowsT k, 1024] inb) hu).view.loc (c : Thread nD τ)) ↦[((Memref.whole cc0_scratch3).slice (Rect.unit (s := S768x1024) ![srcT k, 0] ![rowsT k, 1024] inb) hu).view.set]{shareT k} srcC I k c) :=
  congrArg (fun S : Finset S768x1024.Idx => iprop(((c : Thread nD τ).loc cc0_scratch3) ↦[S]{shareT k} srcC I k c)) (set_3 rfl).symm

theorem recv_pts_4 (c : Dev nD) (k : Fin 24) (hk : k.val < 12) (f : Vec F S960x1024 .bf16) :
    recvPts k c f = iprop(((c : Thread nD τ).loc cc0_scratch4) ↦[rowSet 960 (dstT k) (rowsT k)]{fullShare} f) := if_pos hk

theorem dst_pts_4 (c : Dev nD) (k : Fin 24) (hk : k.val < 12) (f : Vec F S960x1024 .bf16) {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} :
    recvPts k c f = iprop((((Memref.whole cc0_scratch4).slice (Rect.unit (s := S960x1024) ![dstT k, 0] ![rowsT k, 1024] inb) hu).view.loc (c : Thread nD τ)) ↦[((Memref.whole cc0_scratch4).slice (Rect.unit (s := S960x1024) ![dstT k, 0] ![rowsT k, 1024] inb) hu).view.set]{fullShare} f) :=
  (recv_pts_4 c k hk f).trans (congrArg (fun S : Finset S960x1024.Idx => iprop(((c : Thread nD τ).loc cc0_scratch4) ↦[S]{fullShare} f)) (set_4 rfl).symm)

/-- What a transfer leaves in its partner's rows. -/
theorem land_4 (I : Ins F) (c : Dev nD) (k : Fin 24) {inbS : ∀ a, (![srcT k, 0] : Fin 2 → ℕ) a + (![rowsT k, 1024] : Fin 2 → ℕ) a ≤ S768x1024.size a} {huS : ∀ a, (Rect.unit (s := S768x1024) ![srcT k, 0] ![rowsT k, 1024] inbS).stride a = 1}
    {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} (fd : Vec F S960x1024 .bf16) :
    ∀ i ∈ rowSet 960 (dstT k) (rowsT k),
      (((Memref.whole cc0_scratch4).slice (Rect.unit (s := S960x1024) ![dstT k, 0] ![rowsT k, 1024] inb) hu).view.write (Elt F) fd
        (((Memref.whole cc0_scratch3).slice (Rect.unit (s := S768x1024) ![srcT k, 0] ![rowsT k, 1024] inbS) huS).view.read (Elt F) (srcC I k c)) Finset.univ : Vec F S960x1024 .bf16) i
      = landed I k (peer k c) i := by
  intro i hi
  obtain ⟨h1, h2⟩ := mem_rowSet.mp hi
  have hj : (i 1).val < 1024 := (i 1).isLt
  have e : (((Memref.whole cc0_scratch4).slice (Rect.unit (s := S960x1024) ![dstT k, 0] ![rowsT k, 1024] inb) hu).view.emb
      (Idealize.ShloMosaic.ValueIdx.ix2 ⟨(i 0).val - dstT k, by omega⟩ ⟨(i 1).val, hj⟩) : S960x1024.Idx) = i := by
    refine ix2_ext ?_ ?_
    · show dstT k + 1 * ((i 0).val - dstT k) = (i 0).val
      omega
    · show 0 + 1 * (i 1).val = (i 1).val
      omega
  conv_lhs => rw [← e]
  refine (View.write_emb_of_mem (v := ((Memref.whole cc0_scratch4).slice (Rect.unit (s := S960x1024) ![dstT k, 0] ![rowsT k, 1024] inb) hu).view) fd _ (Finset.mem_univ _)).trans ?_
  show sentN I k c (srcT k + 1 * ((i 0).val - dstT k) - srcT k) (0 + 1 * (i 1).val) = sentN I k (peer k (peer k c)) ((i 0).val - dstT k) (i 1).val
  rw [peer_peer, show srcT k + 1 * ((i 0).val - dstT k) - srcT k = (i 0).val - dstT k from by omega, show 0 + 1 * (i 1).val = (i 1).val from by omega]

theorem send_rule_4 (I : Ins F) (K : GSem nD τ sig → ℕ) (c c' : Dev nD) {sS sR : DmaSem sig} {m lo1 lo2 N : ℕ} {sh : PosShare TreeShare} {fs : Vec F S768x1024 .bf16} {fd : Vec F S960x1024 .bf16}
    {inbS : ∀ a, (![lo1, 0] : Fin 2 → ℕ) a + (![m, 1024] : Fin 2 → ℕ) a ≤ S768x1024.size a} {huS : ∀ a, (Rect.unit (s := S768x1024) ![lo1, 0] ![m, 1024] inbS).stride a = 1}
    {inbD : ∀ a, (![lo2, 0] : Fin 2 → ℕ) a + (![m, 1024] : Fin 2 → ℕ) a ≤ S960x1024.size a} {huD : ∀ a, (Rect.unit (s := S960x1024) ![lo2, 0] ![m, 1024] inbD).stride a = 1}
    {hsc : ((Memref.whole cc0_scratch4).slice (Rect.unit (s := S960x1024) ![lo2, 0] ![m, 1024] inbD) huD).view.ref.isScScratch = false}
    {hsrc : ((Memref.whole cc0_scratch3).slice (Rect.unit (s := S768x1024) ![lo1, 0] ![m, 1024] inbS) huS).view.WordExact}
    {hdst : ((Memref.whole cc0_scratch4).slice (Rect.unit (s := S960x1024) ![lo2, 0] ![m, 1024] inbD) huD).view.WordExact}
    {hsem : DmaTarget.Typed (nD := nD) (τ := τ) (.vmem) (.dma sR) (.remote (Dev.tc c') ((Memref.whole cc0_scratch4).slice (Rect.unit (s := S960x1024) ![lo2, 0] ![m, 1024] inbD) huD) (.dma sS) hsc)}
    {kk : PUnit → PG F α} {W : Waits sig Unit} (O' : CellTallies nD τ sig Unit) {O : CellTallies nD τ sig Unit} (hO : O = O' + tallyAt ((c' : Thread nD τ), SemLoc.dma sR) () N)
    (h1 : (0 : Fin 6) ∈ (rd I).duties ((c : Thread nD τ), SemLoc.dma sS) 0) (h2 : (0 : Fin 6) ∈ (rd I).duties ((c' : Thread nD τ), SemLoc.dma sR) 0) (hN : amtR m = N)
    (a1 : (rd I).amount ((c : Thread nD τ), SemLoc.dma sS) 0 0 = N) (a2 : (rd I).amount ((c' : Thread nD τ), SemLoc.dma sR) 0 0 = N)
    (p1 : (iprop((((Memref.whole cc0_scratch3).slice (Rect.unit (s := S768x1024) ![lo1, 0] ![m, 1024] inbS) huS).view.loc (c : Thread nD τ)) ↦[((Memref.whole cc0_scratch3).slice (Rect.unit (s := S768x1024) ![lo1, 0] ![m, 1024] inbS) huS).view.set]{sh} fs) : sProp (MM F))
      ⊢ (rd I).payload ((c : Thread nD τ), SemLoc.dma sS) 0 0)
    (p2 : (iprop((((Memref.whole cc0_scratch4).slice (Rect.unit (s := S960x1024) ![lo2, 0] ![m, 1024] inbD) huD).view.loc (c' : Thread nD τ)) ↦[((Memref.whole cc0_scratch4).slice (Rect.unit (s := S960x1024) ![lo2, 0] ![m, 1024] inbD) huD).view.set]{fullShare}
        (((Memref.whole cc0_scratch4).slice (Rect.unit (s := S960x1024) ![lo2, 0] ![m, 1024] inbD) huD).view.write (Elt F) fd
        (((Memref.whole cc0_scratch3).slice (Rect.unit (s := S768x1024) ![lo1, 0] ![m, 1024] inbS) huS).view.read (Elt F) fs) Finset.univ)) : sProp (MM F))
      ⊢ (rd I).payload ((c' : Thread nD τ), SemLoc.dma sR) 0 0) :
    iprop(cellInv ER (rd I) (K ((c : Thread nD τ), SemLoc.dma sS)) ((c : Thread nD τ), SemLoc.dma sS) ∗ cellInv ER (rd I) (K ((c' : Thread nD τ), SemLoc.dma sR)) ((c' : Thread nD τ), SemLoc.dma sR)
        ∗ ((((Memref.whole cc0_scratch3).slice (Rect.unit (s := S768x1024) ![lo1, 0] ![m, 1024] inbS) huS).view.loc (c : Thread nD τ)) ↦[((Memref.whole cc0_scratch3).slice (Rect.unit (s := S768x1024) ![lo1, 0] ![m, 1024] inbS) huS).view.set]{sh} fs)
        ∗ ((((Memref.whole cc0_scratch4).slice (Rect.unit (s := S960x1024) ![lo2, 0] ![m, 1024] inbD) huD).view.loc (c' : Thread nD τ)) ↦[((Memref.whole cc0_scratch4).slice (Rect.unit (s := S960x1024) ![lo2, 0] ![m, 1024] inbD) huD).view.set]{fullShare} fd)
        ∗ owes (c : Thread nD τ) O W
        ∗ dutyTok ER ((c : Thread nD τ), SemLoc.dma sS) 0 (0 : Fin 6) ∗ reached ER ((c : Thread nD τ), SemLoc.dma sS) 0
        ∗ dutyTok ER ((c' : Thread nD τ), SemLoc.dma sR) 0 (0 : Fin 6) ∗ reached ER ((c' : Thread nD τ), SemLoc.dma sR) 0)
      ⊢ iprop(((cred (tallyAt ((c : Thread nD τ), SemLoc.dma sS) () N) ∗ owes (c : Thread nD τ) O' W) -∗ WP c (kk ⟨⟩) Q)
          -∗ WP c (.op (.enqueueDma ((Memref.whole cc0_scratch3).slice (Rect.unit (s := S768x1024) ![lo1, 0] ![m, 1024] inbS) huS)
      (.remote (Dev.tc c') ((Memref.whole cc0_scratch4).slice (Rect.unit (s := S960x1024) ![lo2, 0] ![m, 1024] inbD) huD) (.dma sS) hsc) (.dma sR) hsrc hdst hsem) kk) Q) :=
  Rounds.wp_send_pointsTo 𝒱₀ ER (rd I) (c : Thread nD τ) none (c' := (c' : Thread nD τ))
      (src := (Memref.whole cc0_scratch3).slice (Rect.unit (s := S768x1024) ![lo1, 0] ![m, 1024] inbS) huS)
      (dst := (Memref.whole cc0_scratch4).slice (Rect.unit (s := S960x1024) ![lo2, 0] ![m, 1024] inbD) huD)
      (sS := .dma sS) (sem := .dma sR) (q := sh) (fs := fs) (κ₁ := K ((c : Thread nD τ), SemLoc.dma sS)) (κ₂ := K ((c' : Thread nD τ), SemLoc.dma sR))
      (r₁ := 0) (r₂ := 0) (d₁ := 0) (d₂ := 0) (fd := fd) h1 h2 () () N (credit_4.trans hN) a1 a2 O' hO (W := W) p1 p2 (hr := route_tc c c')

theorem hpay_4 (I : Ins F) (c : Dev nD) (k : Fin 24) (hk12 : k.val < 12) {inbS : ∀ a, (![srcT k, 0] : Fin 2 → ℕ) a + (![rowsT k, 1024] : Fin 2 → ℕ) a ≤ S768x1024.size a} {huS : ∀ a, (Rect.unit (s := S768x1024) ![srcT k, 0] ![rowsT k, 1024] inbS).stride a = 1}
    {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} (fd : Vec F S960x1024 .bf16) :
    (iprop((((Memref.whole cc0_scratch4).slice (Rect.unit (s := S960x1024) ![dstT k, 0] ![rowsT k, 1024] inb) hu).view.loc (peer k c : Thread nD τ)) ↦[((Memref.whole cc0_scratch4).slice (Rect.unit (s := S960x1024) ![dstT k, 0] ![rowsT k, 1024] inb) hu).view.set]{fullShare}
      (((Memref.whole cc0_scratch4).slice (Rect.unit (s := S960x1024) ![dstT k, 0] ![rowsT k, 1024] inb) hu).view.write (Elt F) fd
        (((Memref.whole cc0_scratch3).slice (Rect.unit (s := S768x1024) ![srcT k, 0] ![rowsT k, 1024] inbS) huS).view.read (Elt F) (srcC I k c)) Finset.univ : Vec F S960x1024 .bf16)) : sProp (MM F))
      ⊢ (rd I).payload (recvCell k (peer k c)) 0 0 := by
  rw [payload_recv]
  refine BIBase.Entails.trans ?_ (Entails.of_eq (dst_pts_4 (peer k c) k hk12 (landed I k (peer k c)) (inb := inb) (hu := hu)).symm)
  refine Entails.of_eq (pointsTo_congr (ℓ := (peer k c : Thread nD τ).loc cc0_scratch4) (fun i h => land_4 I c k fd i ?_))
  have e := set_4 (m := rowsT k) (r := dstT k) rfl (inb := inb) (hu := hu)
  exact e ▸ h

theorem st_send_4 (k : Fin 24) (hk12 : k.val < 12) {m : ℕ} (hm : rowsT k = m) {offS offD : Fin 2 → ℕ} (hoS : offS = ![srcT k, 0]) (hoD : offD = ![dstT k, 0])
    {inbS : ∀ a, offS a + (![m, 1024] : Fin 2 → ℕ) a ≤ S768x1024.size a} {huS : ∀ a, (Rect.unit (s := S768x1024) offS ![m, 1024] inbS).stride a = 1}
    {inbD : ∀ a, offD a + (![m, 1024] : Fin 2 → ℕ) a ≤ S960x1024.size a} {huD : ∀ a, (Rect.unit (s := S960x1024) offD ![m, 1024] inbD).stride a = 1}
    {dev : Dev nD} (hdev : dev = peer k c) {sS sR : DmaSem sig} (hsS : sS = sendS k) (hsR : sR = recvS k)
    (hct : ct' = ⟨ct.a, k.val + 1, ct.s, ct.r, ct.g⟩) (hi : ct.i = k.val) (hlo : k.val < ct.a ∧ ct.g ≤ k.val ∧ ct.r ≤ k.val ∧ ct.s ≤ k.val)
    {hsc : ((Memref.whole cc0_scratch4).slice (Rect.unit (s := S960x1024) offD ![m, 1024] inbD) huD).view.ref.isScScratch = false}
    {hsrc : ((Memref.whole cc0_scratch3).slice (Rect.unit (s := S768x1024) offS ![m, 1024] inbS) huS).view.WordExact}
    {hdst : ((Memref.whole cc0_scratch4).slice (Rect.unit (s := S960x1024) offD ![m, 1024] inbD) huD).view.WordExact}
    {hsem : DmaTarget.Typed (nD := nD) (τ := τ) (.vmem) (.dma sR) (.remote (Dev.tc dev) ((Memref.whole cc0_scratch4).slice (Rect.unit (s := S960x1024) offD ![m, 1024] inbD) huD) (.dma sS) hsc)}
    {kk : PUnit → PG F α} (hk : MS I K c σ ct' R ⊢ WP c (kk ⟨⟩) Q) :
    MS I K c σ ct R ⊢ WP c (.op (.enqueueDma ((Memref.whole cc0_scratch3).slice (Rect.unit (s := S768x1024) offS ![m, 1024] inbS) huS)
      (.remote (Dev.tc dev) ((Memref.whole cc0_scratch4).slice (Rect.unit (s := S960x1024) offD ![m, 1024] inbD) huD) (.dma sS) hsc) (.dma sR) hsrc hdst hsem) kk) Q := by
  subst hct hm hoS hoD hdev hsS hsR
  refine ms_out.trans ?_
  unfold MSr
  iintro ⟨Hs, Hp, Hi, Hb, ⟨%W, HO⟩, #HI, #Hl, HR⟩
  ihave Hp' := (pool_take (ct' := ⟨ct.a, k.val + 1, ct.s, ct.r, ct.g⟩) I k c (fun k' hne => by
    have : k'.val ≠ k.val := fun e => hne (Fin.ext e)
    unfold phase; dsimp only; split_ifs <;> omega)) $$ Hp
  icases Hp' with ⟨H0, Hw⟩
  have p0 : phase ct k.val = 1 := by unfold phase; split_ifs <;> omega
  have p1 : phase ⟨ct.a, k.val + 1, ct.s, ct.r, ct.g⟩ k.val = 2 := by unfold phase; dsimp only; split_ifs <;> omega
  ihave H0 := (Entails.of_eq (res_1 I c p0)) $$ H0
  unfold ph1 ph0 slotOf toksOf
  icases H0 with ⟨Hsrc, ⟨⟨%fd, Hd⟩, #HrP⟩, ⟨HtS, HtR⟩, #HrS, HaS, HaR, HcR⟩
  ihave Hsrc := (Entails.of_eq (src_pts I c k (inb := inbS) (hu := huS))) $$ Hsrc
  ihave Hd := (Entails.of_eq (dst_pts_4 (peer k c) k hk12 fd (inb := inbD) (hu := huD))) $$ Hd
  iapply (send_rule_4 I K c (peer k c) (owedFrom (k.val + 1) c) (O := owedFrom ct.i c) (N := amt k) ((congrArg (fun i => owedFrom i c) hi).trans (owedFrom_step k c))
      (by rw [← sendCell, duties_send]; exact Finset.mem_singleton_self _) (by rw [← recvCell, duties_recv]; exact Finset.mem_singleton_self _) rfl
      (amount_send I k c 0) (amount_recv I k (peer k c) 0) ((Entails.of_eq (src_pts I c k).symm).trans (Entails.of_eq (payload_send I k c 0).symm))
      (hpay_4 I c k hk12 (inb := inbD) (hu := huD) fd)) $$ [Hsrc Hd HO HtS HtR]
  · isplitr; · iapply (inv_send I K c k); iexact HI
    isplitr; · iapply (inv_peer I K c k); iexact HI
    isplitl [Hsrc]; · iexact Hsrc
    isplitl [Hd]; · iexact Hd
    isplitl [HO]; · iexact HO
    isplitl [HtS]; · iexact HtS
    isplitr; · iexact HrS
    isplitl [HtR]; · iexact HtR
    iexact HrP
  iintro ⟨HcS, HO⟩
  iapply hk
  iapply ms_in
  unfold MSr
  isplitl [Hs]; · iexact Hs
  isplitl [Hw HcS HaS HaR HcR]
  · iapply Hw
    iapply (Entails.of_eq (res_2 I c p1).symm)
    unfold ph2
    isplitl [HcS]; · iexact HcS
    isplitl [HaS]; · iexact HaS
    isplitl [HaR]; · iexact HaR
    iexact HcR
  isplitl [Hi]; · iexact Hi
  isplitl [Hb]; · iexact Hb
  isplitl [HO]; · iexists W; iexact HO
  isplitr; · iexact HI
  isplitr; · iexact Hl
  iexact HR

/-- Reading what a transfer brought. -/
theorem st_ld_land_4 (k : Fin 24) (hk12 : k.val < 12) {m : ℕ} (hm : rowsT k = m) {off : Fin 2 → ℕ} (ho : off = ![dstT k, 0]) {inb : ∀ a, off a + (![m, 1024] : Fin 2 → ℕ) a ≤ S960x1024.size a}
    (hlo : k.val < ct.r ∧ ct.g ≤ k.val)
    {hl : (Memref.whole cc0_scratch4).view.LoadsAt (Rect.unit (s := S960x1024) off ![m, 1024] inb).toLoadRect}
    {kk : Vec F ⟨2, ![m, 1024]⟩ .bf16 → PG F α} (hk : MS I K c σ ct R ⊢ WP c (kk (fun x => sentN I k (peer k c) (x 0).val (x 1).val)) Q) :
    MS I K c σ ct R ⊢ WP c (.op (.load (Memref.whole cc0_scratch4) (Rect.unit (s := S960x1024) off ![m, 1024] inb).toLoadRect hl) kk) Q := by
  subst hm ho
  have p0 : phase ct k.val = 4 := by unfold phase; split_ifs <;> omega
  have ev : ((Memref.whole cc0_scratch4).view.readAt (Elt F) (Rect.unit (s := S960x1024) ![dstT k, 0] ![rowsT k, 1024] inb).toLoadRect (landed I k c) : Vec F ⟨2, ![rowsT k, 1024]⟩ .bf16)
      = fun x => sentN I k (peer k c) (x 0).val (x 1).val := by
    funext x
    show sentN I k (peer k c) (dstT k + 1 * (x 0).val - dstT k) (0 + 1 * (x 1).val) = _
    rw [show dstT k + 1 * (x 0).val - dstT k = (x 0).val from by omega, show 0 + 1 * (x 1).val = (x 1).val from by omega]
  refine ld_of (m := Memref.whole cc0_scratch4) (S := rowSet 960 (dstT k) (rowsT k)) (q := fullShare) (f := landed I k c)
    (Finset.subset_of_eq (by
      have e := set_4 (m := rowsT k) (r := dstT k) rfl (inb := inb) (hu := fun _ => rfl)
      have e' : (((Memref.whole cc0_scratch4).access (Rect.unit (s := S960x1024) ![dstT k, 0] ![rowsT k, 1024] inb)).set : Finset S960x1024.Idx) = rowSet 960 (dstT k) (rowsT k) := e
      rwa [View.set_slice] at e')) ?_ (by rw [ev]; exact hk)
  refine ms_out.trans ?_
  iintro ⟨Hs, Hp, Hr⟩
  ihave Hp' := (pool_take (ct' := ct) I k c (fun _ _ => rfl)) $$ Hp
  icases Hp' with ⟨H0, Hw⟩
  ihave H0 := (Entails.of_eq (res_4 I c p0)) $$ H0
  unfold ph4 ph5
  icases H0 with ⟨Hsrc, Hd, Ha⟩
  ihave Hd := (Entails.of_eq (recv_pts_4 c k hk12 (landed I k c))) $$ Hd
  isplitl [Hd]; · iexact Hd
  iintro Hd
  iapply ms_in
  isplitl [Hs]; · iexact Hs
  isplitr [Hr]
  · iapply Hw
    iapply (Entails.of_eq (res_4 I c p0).symm)
    unfold ph4 ph5
    isplitl [Hsrc]; · iexact Hsrc
    isplitl [Hd]
    · iapply (Entails.of_eq (recv_pts_4 c k hk12 (landed I k c)).symm); iexact Hd
    iexact Ha
  iexact Hr

theorem recv_pts_5 (c : Dev nD) (k : Fin 24) (hk : 12 ≤ k.val) (f : Vec F S960x1024 .bf16) :
    recvPts k c f = iprop(((c : Thread nD τ).loc cc0_scratch5) ↦[rowSet 960 (dstT k) (rowsT k)]{fullShare} f) := if_neg (by omega)

theorem dst_pts_5 (c : Dev nD) (k : Fin 24) (hk : 12 ≤ k.val) (f : Vec F S960x1024 .bf16) {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} :
    recvPts k c f = iprop((((Memref.whole cc0_scratch5).slice (Rect.unit (s := S960x1024) ![dstT k, 0] ![rowsT k, 1024] inb) hu).view.loc (c : Thread nD τ)) ↦[((Memref.whole cc0_scratch5).slice (Rect.unit (s := S960x1024) ![dstT k, 0] ![rowsT k, 1024] inb) hu).view.set]{fullShare} f) :=
  (recv_pts_5 c k hk f).trans (congrArg (fun S : Finset S960x1024.Idx => iprop(((c : Thread nD τ).loc cc0_scratch5) ↦[S]{fullShare} f)) (set_5 rfl).symm)

/-- What a transfer leaves in its partner's rows. -/
theorem land_5 (I : Ins F) (c : Dev nD) (k : Fin 24) {inbS : ∀ a, (![srcT k, 0] : Fin 2 → ℕ) a + (![rowsT k, 1024] : Fin 2 → ℕ) a ≤ S768x1024.size a} {huS : ∀ a, (Rect.unit (s := S768x1024) ![srcT k, 0] ![rowsT k, 1024] inbS).stride a = 1}
    {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} (fd : Vec F S960x1024 .bf16) :
    ∀ i ∈ rowSet 960 (dstT k) (rowsT k),
      (((Memref.whole cc0_scratch5).slice (Rect.unit (s := S960x1024) ![dstT k, 0] ![rowsT k, 1024] inb) hu).view.write (Elt F) fd
        (((Memref.whole cc0_scratch3).slice (Rect.unit (s := S768x1024) ![srcT k, 0] ![rowsT k, 1024] inbS) huS).view.read (Elt F) (srcC I k c)) Finset.univ : Vec F S960x1024 .bf16) i
      = landed I k (peer k c) i := by
  intro i hi
  obtain ⟨h1, h2⟩ := mem_rowSet.mp hi
  have hj : (i 1).val < 1024 := (i 1).isLt
  have e : (((Memref.whole cc0_scratch5).slice (Rect.unit (s := S960x1024) ![dstT k, 0] ![rowsT k, 1024] inb) hu).view.emb
      (Idealize.ShloMosaic.ValueIdx.ix2 ⟨(i 0).val - dstT k, by omega⟩ ⟨(i 1).val, hj⟩) : S960x1024.Idx) = i := by
    refine ix2_ext ?_ ?_
    · show dstT k + 1 * ((i 0).val - dstT k) = (i 0).val
      omega
    · show 0 + 1 * (i 1).val = (i 1).val
      omega
  conv_lhs => rw [← e]
  refine (View.write_emb_of_mem (v := ((Memref.whole cc0_scratch5).slice (Rect.unit (s := S960x1024) ![dstT k, 0] ![rowsT k, 1024] inb) hu).view) fd _ (Finset.mem_univ _)).trans ?_
  show sentN I k c (srcT k + 1 * ((i 0).val - dstT k) - srcT k) (0 + 1 * (i 1).val) = sentN I k (peer k (peer k c)) ((i 0).val - dstT k) (i 1).val
  rw [peer_peer, show srcT k + 1 * ((i 0).val - dstT k) - srcT k = (i 0).val - dstT k from by omega, show 0 + 1 * (i 1).val = (i 1).val from by omega]

theorem send_rule_5 (I : Ins F) (K : GSem nD τ sig → ℕ) (c c' : Dev nD) {sS sR : DmaSem sig} {m lo1 lo2 N : ℕ} {sh : PosShare TreeShare} {fs : Vec F S768x1024 .bf16} {fd : Vec F S960x1024 .bf16}
    {inbS : ∀ a, (![lo1, 0] : Fin 2 → ℕ) a + (![m, 1024] : Fin 2 → ℕ) a ≤ S768x1024.size a} {huS : ∀ a, (Rect.unit (s := S768x1024) ![lo1, 0] ![m, 1024] inbS).stride a = 1}
    {inbD : ∀ a, (![lo2, 0] : Fin 2 → ℕ) a + (![m, 1024] : Fin 2 → ℕ) a ≤ S960x1024.size a} {huD : ∀ a, (Rect.unit (s := S960x1024) ![lo2, 0] ![m, 1024] inbD).stride a = 1}
    {hsc : ((Memref.whole cc0_scratch5).slice (Rect.unit (s := S960x1024) ![lo2, 0] ![m, 1024] inbD) huD).view.ref.isScScratch = false}
    {hsrc : ((Memref.whole cc0_scratch3).slice (Rect.unit (s := S768x1024) ![lo1, 0] ![m, 1024] inbS) huS).view.WordExact}
    {hdst : ((Memref.whole cc0_scratch5).slice (Rect.unit (s := S960x1024) ![lo2, 0] ![m, 1024] inbD) huD).view.WordExact}
    {hsem : DmaTarget.Typed (nD := nD) (τ := τ) (.vmem) (.dma sR) (.remote (Dev.tc c') ((Memref.whole cc0_scratch5).slice (Rect.unit (s := S960x1024) ![lo2, 0] ![m, 1024] inbD) huD) (.dma sS) hsc)}
    {kk : PUnit → PG F α} {W : Waits sig Unit} (O' : CellTallies nD τ sig Unit) {O : CellTallies nD τ sig Unit} (hO : O = O' + tallyAt ((c' : Thread nD τ), SemLoc.dma sR) () N)
    (h1 : (0 : Fin 6) ∈ (rd I).duties ((c : Thread nD τ), SemLoc.dma sS) 0) (h2 : (0 : Fin 6) ∈ (rd I).duties ((c' : Thread nD τ), SemLoc.dma sR) 0) (hN : amtR m = N)
    (a1 : (rd I).amount ((c : Thread nD τ), SemLoc.dma sS) 0 0 = N) (a2 : (rd I).amount ((c' : Thread nD τ), SemLoc.dma sR) 0 0 = N)
    (p1 : (iprop((((Memref.whole cc0_scratch3).slice (Rect.unit (s := S768x1024) ![lo1, 0] ![m, 1024] inbS) huS).view.loc (c : Thread nD τ)) ↦[((Memref.whole cc0_scratch3).slice (Rect.unit (s := S768x1024) ![lo1, 0] ![m, 1024] inbS) huS).view.set]{sh} fs) : sProp (MM F))
      ⊢ (rd I).payload ((c : Thread nD τ), SemLoc.dma sS) 0 0)
    (p2 : (iprop((((Memref.whole cc0_scratch5).slice (Rect.unit (s := S960x1024) ![lo2, 0] ![m, 1024] inbD) huD).view.loc (c' : Thread nD τ)) ↦[((Memref.whole cc0_scratch5).slice (Rect.unit (s := S960x1024) ![lo2, 0] ![m, 1024] inbD) huD).view.set]{fullShare}
        (((Memref.whole cc0_scratch5).slice (Rect.unit (s := S960x1024) ![lo2, 0] ![m, 1024] inbD) huD).view.write (Elt F) fd
        (((Memref.whole cc0_scratch3).slice (Rect.unit (s := S768x1024) ![lo1, 0] ![m, 1024] inbS) huS).view.read (Elt F) fs) Finset.univ)) : sProp (MM F))
      ⊢ (rd I).payload ((c' : Thread nD τ), SemLoc.dma sR) 0 0) :
    iprop(cellInv ER (rd I) (K ((c : Thread nD τ), SemLoc.dma sS)) ((c : Thread nD τ), SemLoc.dma sS) ∗ cellInv ER (rd I) (K ((c' : Thread nD τ), SemLoc.dma sR)) ((c' : Thread nD τ), SemLoc.dma sR)
        ∗ ((((Memref.whole cc0_scratch3).slice (Rect.unit (s := S768x1024) ![lo1, 0] ![m, 1024] inbS) huS).view.loc (c : Thread nD τ)) ↦[((Memref.whole cc0_scratch3).slice (Rect.unit (s := S768x1024) ![lo1, 0] ![m, 1024] inbS) huS).view.set]{sh} fs)
        ∗ ((((Memref.whole cc0_scratch5).slice (Rect.unit (s := S960x1024) ![lo2, 0] ![m, 1024] inbD) huD).view.loc (c' : Thread nD τ)) ↦[((Memref.whole cc0_scratch5).slice (Rect.unit (s := S960x1024) ![lo2, 0] ![m, 1024] inbD) huD).view.set]{fullShare} fd)
        ∗ owes (c : Thread nD τ) O W
        ∗ dutyTok ER ((c : Thread nD τ), SemLoc.dma sS) 0 (0 : Fin 6) ∗ reached ER ((c : Thread nD τ), SemLoc.dma sS) 0
        ∗ dutyTok ER ((c' : Thread nD τ), SemLoc.dma sR) 0 (0 : Fin 6) ∗ reached ER ((c' : Thread nD τ), SemLoc.dma sR) 0)
      ⊢ iprop(((cred (tallyAt ((c : Thread nD τ), SemLoc.dma sS) () N) ∗ owes (c : Thread nD τ) O' W) -∗ WP c (kk ⟨⟩) Q)
          -∗ WP c (.op (.enqueueDma ((Memref.whole cc0_scratch3).slice (Rect.unit (s := S768x1024) ![lo1, 0] ![m, 1024] inbS) huS)
      (.remote (Dev.tc c') ((Memref.whole cc0_scratch5).slice (Rect.unit (s := S960x1024) ![lo2, 0] ![m, 1024] inbD) huD) (.dma sS) hsc) (.dma sR) hsrc hdst hsem) kk) Q) :=
  Rounds.wp_send_pointsTo 𝒱₀ ER (rd I) (c : Thread nD τ) none (c' := (c' : Thread nD τ))
      (src := (Memref.whole cc0_scratch3).slice (Rect.unit (s := S768x1024) ![lo1, 0] ![m, 1024] inbS) huS)
      (dst := (Memref.whole cc0_scratch5).slice (Rect.unit (s := S960x1024) ![lo2, 0] ![m, 1024] inbD) huD)
      (sS := .dma sS) (sem := .dma sR) (q := sh) (fs := fs) (κ₁ := K ((c : Thread nD τ), SemLoc.dma sS)) (κ₂ := K ((c' : Thread nD τ), SemLoc.dma sR))
      (r₁ := 0) (r₂ := 0) (d₁ := 0) (d₂ := 0) (fd := fd) h1 h2 () () N (credit_5.trans hN) a1 a2 O' hO (W := W) p1 p2 (hr := route_tc c c')

theorem hpay_5 (I : Ins F) (c : Dev nD) (k : Fin 24) (hk12 : 12 ≤ k.val) {inbS : ∀ a, (![srcT k, 0] : Fin 2 → ℕ) a + (![rowsT k, 1024] : Fin 2 → ℕ) a ≤ S768x1024.size a} {huS : ∀ a, (Rect.unit (s := S768x1024) ![srcT k, 0] ![rowsT k, 1024] inbS).stride a = 1}
    {inb : ∀ a, (![dstT k, 0] : Fin 2 → ℕ) a + (![rowsT k, 1024] : Fin 2 → ℕ) a ≤ S960x1024.size a} {hu : ∀ a, (Rect.unit (s := S960x1024) ![dstT k, 0] ![rowsT k, 1024] inb).stride a = 1} (fd : Vec F S960x1024 .bf16) :
    (iprop((((Memref.whole cc0_scratch5).slice (Rect.unit (s := S960x1024) ![dstT k, 0] ![rowsT k, 1024] inb) hu).view.loc (peer k c : Thread nD τ)) ↦[((Memref.whole cc0_scratch5).slice (Rect.unit (s := S960x1024) ![dstT k, 0] ![rowsT k, 1024] inb) hu).view.set]{fullShare}
      (((Memref.whole cc0_scratch5).slice (Rect.unit (s := S960x1024) ![dstT k, 0] ![rowsT k, 1024] inb) hu).view.write (Elt F) fd
        (((Memref.whole cc0_scratch3).slice (Rect.unit (s := S768x1024) ![srcT k, 0] ![rowsT k, 1024] inbS) huS).view.read (Elt F) (srcC I k c)) Finset.univ : Vec F S960x1024 .bf16)) : sProp (MM F))
      ⊢ (rd I).payload (recvCell k (peer k c)) 0 0 := by
  rw [payload_recv]
  refine BIBase.Entails.trans ?_ (Entails.of_eq (dst_pts_5 (peer k c) k hk12 (landed I k (peer k c)) (inb := inb) (hu := hu)).symm)
  refine Entails.of_eq (pointsTo_congr (ℓ := (peer k c : Thread nD τ).loc cc0_scratch5) (fun i h => land_5 I c k fd i ?_))
  have e := set_5 (m := rowsT k) (r := dstT k) rfl (inb := inb) (hu := hu)
  exact e ▸ h

theorem st_send_5 (k : Fin 24) (hk12 : 12 ≤ k.val) {m : ℕ} (hm : rowsT k = m) {offS offD : Fin 2 → ℕ} (hoS : offS = ![srcT k, 0]) (hoD : offD = ![dstT k, 0])
    {inbS : ∀ a, offS a + (![m, 1024] : Fin 2 → ℕ) a ≤ S768x1024.size a} {huS : ∀ a, (Rect.unit (s := S768x1024) offS ![m, 1024] inbS).stride a = 1}
    {inbD : ∀ a, offD a + (![m, 1024] : Fin 2 → ℕ) a ≤ S960x1024.size a} {huD : ∀ a, (Rect.unit (s := S960x1024) offD ![m, 1024] inbD).stride a = 1}
    {dev : Dev nD} (hdev : dev = peer k c) {sS sR : DmaSem sig} (hsS : sS = sendS k) (hsR : sR = recvS k)
    (hct : ct' = ⟨ct.a, k.val + 1, ct.s, ct.r, ct.g⟩) (hi : ct.i = k.val) (hlo : k.val < ct.a ∧ ct.g ≤ k.val ∧ ct.r ≤ k.val ∧ ct.s ≤ k.val)
    {hsc : ((Memref.whole cc0_scratch5).slice (Rect.unit (s := S960x1024) offD ![m, 1024] inbD) huD).view.ref.isScScratch = false}
    {hsrc : ((Memref.whole cc0_scratch3).slice (Rect.unit (s := S768x1024) offS ![m, 1024] inbS) huS).view.WordExact}
    {hdst : ((Memref.whole cc0_scratch5).slice (Rect.unit (s := S960x1024) offD ![m, 1024] inbD) huD).view.WordExact}
    {hsem : DmaTarget.Typed (nD := nD) (τ := τ) (.vmem) (.dma sR) (.remote (Dev.tc dev) ((Memref.whole cc0_scratch5).slice (Rect.unit (s := S960x1024) offD ![m, 1024] inbD) huD) (.dma sS) hsc)}
    {kk : PUnit → PG F α} (hk : MS I K c σ ct' R ⊢ WP c (kk ⟨⟩) Q) :
    MS I K c σ ct R ⊢ WP c (.op (.enqueueDma ((Memref.whole cc0_scratch3).slice (Rect.unit (s := S768x1024) offS ![m, 1024] inbS) huS)
      (.remote (Dev.tc dev) ((Memref.whole cc0_scratch5).slice (Rect.unit (s := S960x1024) offD ![m, 1024] inbD) huD) (.dma sS) hsc) (.dma sR) hsrc hdst hsem) kk) Q := by
  subst hct hm hoS hoD hdev hsS hsR
  refine ms_out.trans ?_
  unfold MSr
  iintro ⟨Hs, Hp, Hi, Hb, ⟨%W, HO⟩, #HI, #Hl, HR⟩
  ihave Hp' := (pool_take (ct' := ⟨ct.a, k.val + 1, ct.s, ct.r, ct.g⟩) I k c (fun k' hne => by
    have : k'.val ≠ k.val := fun e => hne (Fin.ext e)
    unfold phase; dsimp only; split_ifs <;> omega)) $$ Hp
  icases Hp' with ⟨H0, Hw⟩
  have p0 : phase ct k.val = 1 := by unfold phase; split_ifs <;> omega
  have p1 : phase ⟨ct.a, k.val + 1, ct.s, ct.r, ct.g⟩ k.val = 2 := by unfold phase; dsimp only; split_ifs <;> omega
  ihave H0 := (Entails.of_eq (res_1 I c p0)) $$ H0
  unfold ph1 ph0 slotOf toksOf
  icases H0 with ⟨Hsrc, ⟨⟨%fd, Hd⟩, #HrP⟩, ⟨HtS, HtR⟩, #HrS, HaS, HaR, HcR⟩
  ihave Hsrc := (Entails.of_eq (src_pts I c k (inb := inbS) (hu := huS))) $$ Hsrc
  ihave Hd := (Entails.of_eq (dst_pts_5 (peer k c) k hk12 fd (inb := inbD) (hu := huD))) $$ Hd
  iapply (send_rule_5 I K c (peer k c) (owedFrom (k.val + 1) c) (O := owedFrom ct.i c) (N := amt k) ((congrArg (fun i => owedFrom i c) hi).trans (owedFrom_step k c))
      (by rw [← sendCell, duties_send]; exact Finset.mem_singleton_self _) (by rw [← recvCell, duties_recv]; exact Finset.mem_singleton_self _) rfl
      (amount_send I k c 0) (amount_recv I k (peer k c) 0) ((Entails.of_eq (src_pts I c k).symm).trans (Entails.of_eq (payload_send I k c 0).symm))
      (hpay_5 I c k hk12 (inb := inbD) (hu := huD) fd)) $$ [Hsrc Hd HO HtS HtR]
  · isplitr; · iapply (inv_send I K c k); iexact HI
    isplitr; · iapply (inv_peer I K c k); iexact HI
    isplitl [Hsrc]; · iexact Hsrc
    isplitl [Hd]; · iexact Hd
    isplitl [HO]; · iexact HO
    isplitl [HtS]; · iexact HtS
    isplitr; · iexact HrS
    isplitl [HtR]; · iexact HtR
    iexact HrP
  iintro ⟨HcS, HO⟩
  iapply hk
  iapply ms_in
  unfold MSr
  isplitl [Hs]; · iexact Hs
  isplitl [Hw HcS HaS HaR HcR]
  · iapply Hw
    iapply (Entails.of_eq (res_2 I c p1).symm)
    unfold ph2
    isplitl [HcS]; · iexact HcS
    isplitl [HaS]; · iexact HaS
    isplitl [HaR]; · iexact HaR
    iexact HcR
  isplitl [Hi]; · iexact Hi
  isplitl [Hb]; · iexact Hb
  isplitl [HO]; · iexists W; iexact HO
  isplitr; · iexact HI
  isplitr; · iexact Hl
  iexact HR

/-- Reading what a transfer brought. -/
theorem st_ld_land_5 (k : Fin 24) (hk12 : 12 ≤ k.val) {m : ℕ} (hm : rowsT k = m) {off : Fin 2 → ℕ} (ho : off = ![dstT k, 0]) {inb : ∀ a, off a + (![m, 1024] : Fin 2 → ℕ) a ≤ S960x1024.size a}
    (hlo : k.val < ct.r ∧ ct.g ≤ k.val)
    {hl : (Memref.whole cc0_scratch5).view.LoadsAt (Rect.unit (s := S960x1024) off ![m, 1024] inb).toLoadRect}
    {kk : Vec F ⟨2, ![m, 1024]⟩ .bf16 → PG F α} (hk : MS I K c σ ct R ⊢ WP c (kk (fun x => sentN I k (peer k c) (x 0).val (x 1).val)) Q) :
    MS I K c σ ct R ⊢ WP c (.op (.load (Memref.whole cc0_scratch5) (Rect.unit (s := S960x1024) off ![m, 1024] inb).toLoadRect hl) kk) Q := by
  subst hm ho
  have p0 : phase ct k.val = 4 := by unfold phase; split_ifs <;> omega
  have ev : ((Memref.whole cc0_scratch5).view.readAt (Elt F) (Rect.unit (s := S960x1024) ![dstT k, 0] ![rowsT k, 1024] inb).toLoadRect (landed I k c) : Vec F ⟨2, ![rowsT k, 1024]⟩ .bf16)
      = fun x => sentN I k (peer k c) (x 0).val (x 1).val := by
    funext x
    show sentN I k (peer k c) (dstT k + 1 * (x 0).val - dstT k) (0 + 1 * (x 1).val) = _
    rw [show dstT k + 1 * (x 0).val - dstT k = (x 0).val from by omega, show 0 + 1 * (x 1).val = (x 1).val from by omega]
  refine ld_of (m := Memref.whole cc0_scratch5) (S := rowSet 960 (dstT k) (rowsT k)) (q := fullShare) (f := landed I k c)
    (Finset.subset_of_eq (by
      have e := set_5 (m := rowsT k) (r := dstT k) rfl (inb := inb) (hu := fun _ => rfl)
      have e' : (((Memref.whole cc0_scratch5).access (Rect.unit (s := S960x1024) ![dstT k, 0] ![rowsT k, 1024] inb)).set : Finset S960x1024.Idx) = rowSet 960 (dstT k) (rowsT k) := e
      rwa [View.set_slice] at e')) ?_ (by rw [ev]; exact hk)
  refine ms_out.trans ?_
  iintro ⟨Hs, Hp, Hr⟩
  ihave Hp' := (pool_take (ct' := ct) I k c (fun _ _ => rfl)) $$ Hp
  icases Hp' with ⟨H0, Hw⟩
  ihave H0 := (Entails.of_eq (res_4 I c p0)) $$ H0
  unfold ph4 ph5
  icases H0 with ⟨Hsrc, Hd, Ha⟩
  ihave Hd := (Entails.of_eq (recv_pts_5 c k hk12 (landed I k c))) $$ Hd
  isplitl [Hd]; · iexact Hd
  iintro Hd
  iapply ms_in
  isplitl [Hs]; · iexact Hs
  isplitr [Hr]
  · iapply Hw
    iapply (Entails.of_eq (res_4 I c p0).symm)
    unfold ph4 ph5
    isplitl [Hsrc]; · iexact Hsrc
    isplitl [Hd]
    · iapply (Entails.of_eq (recv_pts_5 c k hk12 (landed I k c)).symm); iexact Hd
    iexact Ha
  iexact Hr

theorem st_depart (k : Fin 24) {m : ℕ} (hm : rowsT k = m) {off : Fin 2 → ℕ}
    {inb : ∀ a, off a + (![m, 1024] : Fin 2 → ℕ) a ≤ S768x1024.size a} {hu : ∀ a, (Rect.unit (s := S768x1024) off ![m, 1024] inb).stride a = 1}
    {sm : DmaSem sig} (hsm : sm = sendS k) (hct : ct' = ⟨ct.a, ct.i, k.val + 1, ct.r, ct.g⟩) (hs : ct.s = k.val) (hlo : k.val < ct.i ∧ ct.g ≤ k.val ∧ ct.r ≤ k.val)
    {sp : Space} {s : Shape} {e : EltTy} {src : Memref sig .tc sp s e} {hsrc : src.view.WordExact}
    {hdst : ((Memref.whole cc0_scratch3).slice (Rect.unit (s := S768x1024) off ![m, 1024] inb) hu).view.WordExact}
    {kk : PUnit → PG F α} (hk : MS I K c σ ct' R ⊢ WP c (kk ⟨⟩) Q) :
    MS I K c σ ct R ⊢ WP c (.op (.waitDma2 sm src ((Memref.whole cc0_scratch3).slice (Rect.unit (s := S768x1024) off ![m, 1024] inb) hu) hsrc hdst) kk) Q := by
  subst hct hm hsm
  refine ms_out.trans ?_
  unfold MSr
  iintro ⟨Hs, Hp, Hi, Hb, ⟨%W, HO⟩, #HI, #Hl, HR⟩
  ihave Hp' := (pool_take (ct' := ⟨ct.a, ct.i, k.val + 1, ct.r, ct.g⟩) I k c (fun k' hne => by
    have : k'.val ≠ k.val := fun e => hne (Fin.ext e)
    unfold phase; dsimp only; split_ifs <;> omega)) $$ Hp
  icases Hp' with ⟨H0, Hw⟩
  have p0 : phase ct k.val = 2 := by unfold phase; split_ifs <;> omega
  have p1 : phase ⟨ct.a, ct.i, k.val + 1, ct.r, ct.g⟩ k.val = 3 := by unfold phase; dsimp only; split_ifs <;> omega
  ihave H0 := (Entails.of_eq (res_2 I c p0)) $$ H0
  unfold ph2
  icases H0 with ⟨HcS, HaS, HaR, HcR⟩
  iapply (Rounds.wp_wait_rest_token 𝒱₀ ER (rd I) (c : Thread nD τ) none (κ := K (sendCell k c))
      (wpE_waitDma2_eq 𝒱₀ (c : Thread nD τ) none Set.univ) (Set.mem_univ _) () (O := owedFrom ct.i c) (W := W) (R := 0) (m := 0) (T := ∅)
      ((Nat.zero_add _).trans (credit_3.trans (expect_send I k c).symm))) $$ [HcS HO HaS]
  · isplitr; · iapply (inv_send I K c k); iexact HI
    isplitl [HcS]; · iexact HcS
    isplitl [HO]; · iexact HO
    isplitr; · iapply (mayWait_send ct.i k c); iexact Hl
    iexact HaS
  iintro ⟨HO, HaS, -, Hpay⟩
  iapply hk
  iapply ms_in
  unfold MSr
  isplitl [Hs]; · iexact Hs
  isplitl [Hw Hpay HaS HaR HcR]
  · iapply Hw
    iapply (Entails.of_eq (res_3 I c p1).symm)
    unfold ph3
    isplitl [Hpay]; · iapply (Entails.of_eq (rest_send I k c)); iexact Hpay
    isplitl [HaS]; · iexact HaS
    isplitl [HaR]; · iexact HaR
    iexact HcR
  isplitl [Hi]; · iexact Hi
  isplitl [Hb]; · iexact Hb
  isplitl [HO]; · iexists _; iexact HO
  isplitr; · iexact HI
  isplitr; · iexact Hl
  iexact HR

theorem st_arrive4 (k : Fin 24) {m : ℕ} (hm : rowsT k = m) {off : Fin 2 → ℕ}
    {inb : ∀ a, off a + (![m, 1024] : Fin 2 → ℕ) a ≤ S960x1024.size a} {hu : ∀ a, (Rect.unit (s := S960x1024) off ![m, 1024] inb).stride a = 1}
    {sm : DmaSem sig} (hsm : sm = recvS k) (hct : ct' = ⟨ct.a, ct.i, ct.s, k.val + 1, ct.g⟩) (hs : ct.r = k.val) (hlo : k.val < ct.i ∧ ct.g ≤ k.val ∧ k.val < ct.s)
    {sp : Space} {s : Shape} {e : EltTy} {src : Memref sig .tc sp s e} {hsrc : src.view.WordExact}
    {hdst : ((Memref.whole cc0_scratch4).slice (Rect.unit (s := S960x1024) off ![m, 1024] inb) hu).view.WordExact}
    {kk : PUnit → PG F α} (hk : MS I K c σ ct' R ⊢ WP c (kk ⟨⟩) Q) :
    MS I K c σ ct R ⊢ WP c (.op (.waitDma2 sm src ((Memref.whole cc0_scratch4).slice (Rect.unit (s := S960x1024) off ![m, 1024] inb) hu) hsrc hdst) kk) Q := by
  subst hct hm hsm
  refine ms_out.trans ?_
  unfold MSr
  iintro ⟨Hs, Hp, Hi, Hb, ⟨%W, HO⟩, #HI, #Hl, HR⟩
  ihave Hp' := (pool_take (ct' := ⟨ct.a, ct.i, ct.s, k.val + 1, ct.g⟩) I k c (fun k' hne => by
    have : k'.val ≠ k.val := fun e => hne (Fin.ext e)
    unfold phase; dsimp only; split_ifs <;> omega)) $$ Hp
  icases Hp' with ⟨H0, Hw⟩
  have p0 : phase ct k.val = 3 := by unfold phase; split_ifs <;> omega
  have p1 : phase ⟨ct.a, ct.i, ct.s, k.val + 1, ct.g⟩ k.val = 4 := by unfold phase; dsimp only; split_ifs <;> omega
  ihave H0 := (Entails.of_eq (res_3 I c p0)) $$ H0
  unfold ph3
  icases H0 with ⟨Hsrc, HaS, HaR, HcR⟩
  iapply (Rounds.wp_wait_rest_token 𝒱₀ ER (rd I) (c : Thread nD τ) none (κ := K (recvCell k c))
      (wpE_waitDma2_eq 𝒱₀ (c : Thread nD τ) none Set.univ) (Set.mem_univ _) () (O := owedFrom ct.i c) (W := W) (R := 0) (m := 0) (T := ∅)
      ((Nat.zero_add _).trans (credit_4.trans (expect_recv I k c).symm))) $$ [HcR HO HaR]
  · isplitr; · iapply (inv_recv I K c k); iexact HI
    isplitl [HcR]; · iexact HcR
    isplitl [HO]; · iexact HO
    isplitr; · iapply (mayWait_recv ct.i k c hlo.1); iexact Hl
    iexact HaR
  iintro ⟨HO, HaR, -, Hpay⟩
  iapply hk
  iapply ms_in
  unfold MSr
  isplitl [Hs]; · iexact Hs
  isplitl [Hw Hpay HaS HaR Hsrc]
  · iapply Hw
    iapply (Entails.of_eq (res_4 I c p1).symm)
    unfold ph4 ph5
    isplitl [Hsrc]; · iexact Hsrc
    isplitl [Hpay]; · iapply (Entails.of_eq (rest_recv I k c)); iexact Hpay
    isplitl [HaS]; · iexact HaS
    iexact HaR
  isplitl [Hi]; · iexact Hi
  isplitl [Hb]; · iexact Hb
  isplitl [HO]; · iexists _; iexact HO
  isplitr; · iexact HI
  isplitr; · iexact Hl
  iexact HR

theorem st_arrive5 (k : Fin 24) {m : ℕ} (hm : rowsT k = m) {off : Fin 2 → ℕ}
    {inb : ∀ a, off a + (![m, 1024] : Fin 2 → ℕ) a ≤ S960x1024.size a} {hu : ∀ a, (Rect.unit (s := S960x1024) off ![m, 1024] inb).stride a = 1}
    {sm : DmaSem sig} (hsm : sm = recvS k) (hct : ct' = ⟨ct.a, ct.i, ct.s, k.val + 1, ct.g⟩) (hs : ct.r = k.val) (hlo : k.val < ct.i ∧ ct.g ≤ k.val ∧ k.val < ct.s)
    {sp : Space} {s : Shape} {e : EltTy} {src : Memref sig .tc sp s e} {hsrc : src.view.WordExact}
    {hdst : ((Memref.whole cc0_scratch5).slice (Rect.unit (s := S960x1024) off ![m, 1024] inb) hu).view.WordExact}
    {kk : PUnit → PG F α} (hk : MS I K c σ ct' R ⊢ WP c (kk ⟨⟩) Q) :
    MS I K c σ ct R ⊢ WP c (.op (.waitDma2 sm src ((Memref.whole cc0_scratch5).slice (Rect.unit (s := S960x1024) off ![m, 1024] inb) hu) hsrc hdst) kk) Q := by
  subst hct hm hsm
  refine ms_out.trans ?_
  unfold MSr
  iintro ⟨Hs, Hp, Hi, Hb, ⟨%W, HO⟩, #HI, #Hl, HR⟩
  ihave Hp' := (pool_take (ct' := ⟨ct.a, ct.i, ct.s, k.val + 1, ct.g⟩) I k c (fun k' hne => by
    have : k'.val ≠ k.val := fun e => hne (Fin.ext e)
    unfold phase; dsimp only; split_ifs <;> omega)) $$ Hp
  icases Hp' with ⟨H0, Hw⟩
  have p0 : phase ct k.val = 3 := by unfold phase; split_ifs <;> omega
  have p1 : phase ⟨ct.a, ct.i, ct.s, k.val + 1, ct.g⟩ k.val = 4 := by unfold phase; dsimp only; split_ifs <;> omega
  ihave H0 := (Entails.of_eq (res_3 I c p0)) $$ H0
  unfold ph3
  icases H0 with ⟨Hsrc, HaS, HaR, HcR⟩
  iapply (Rounds.wp_wait_rest_token 𝒱₀ ER (rd I) (c : Thread nD τ) none (κ := K (recvCell k c))
      (wpE_waitDma2_eq 𝒱₀ (c : Thread nD τ) none Set.univ) (Set.mem_univ _) () (O := owedFrom ct.i c) (W := W) (R := 0) (m := 0) (T := ∅)
      ((Nat.zero_add _).trans (credit_5.trans (expect_recv I k c).symm))) $$ [HcR HO HaR]
  · isplitr; · iapply (inv_recv I K c k); iexact HI
    isplitl [HcR]; · iexact HcR
    isplitl [HO]; · iexact HO
    isplitr; · iapply (mayWait_recv ct.i k c hlo.1); iexact Hl
    iexact HaR
  iintro ⟨HO, HaR, -, Hpay⟩
  iapply hk
  iapply ms_in
  unfold MSr
  isplitl [Hs]; · iexact Hs
  isplitl [Hw Hpay HaS HaR Hsrc]
  · iapply Hw
    iapply (Entails.of_eq (res_4 I c p1).symm)
    unfold ph4 ph5
    isplitl [Hsrc]; · iexact Hsrc
    isplitl [Hpay]; · iapply (Entails.of_eq (rest_recv I k c)); iexact Hpay
    isplitl [HaS]; · iexact HaS
    iexact HaR
  isplitl [Hi]; · iexact Hi
  isplitl [Hb]; · iexact Hb
  isplitl [HO]; · iexists _; iexact HO
  isplitr; · iexact HI
  isplitr; · iexact Hl
  iexact HR

/-! ## Giving a source back -/

theorem free_join {ct : Ct} {k : Fin 24} {n : ℕ} (hA : Apart ⟨ct.a, ct.i, ct.s, ct.r, k.val + n⟩ (srcT k) (rowsT k)) (hg : ct.g = k.val) (ha : k.val < ct.a)
    (hn : ∀ k' : Fin 24, k.val ≤ k'.val → k'.val < k.val + n → srcT k' = srcT k ∧ rowsT k' = rowsT k) :
    freeRows ⟨ct.a, ct.i, ct.s, ct.r, k.val + n⟩ = rowSet 768 (srcT k) (rowsT k) ∪ freeRows ct ∧ Disjoint (rowSet 768 (srcT k) (rowsT k)) (freeRows ct) := by
  constructor
  · ext i
    unfold freeRows
    simp only [Finset.mem_union, mem_rowSet, Finset.mem_filter, Finset.mem_univ, true_and]
    constructor
    · intro h
      by_cases hi : srcT k ≤ (i 0).val ∧ (i 0).val < srcT k + rowsT k
      · exact .inl hi
      · refine .inr fun k' hg' ha' => ?_
        by_cases hk : k.val + n ≤ k'.val
        · exact h k' hk ha'
        · obtain ⟨e1, e2⟩ := hn k' (by omega) (by omega)
          omega
    · rintro (h | h) k' hg' ha'
      · rcases hA k' hg' ha' with h' | h' <;> omega
      · by_cases hk : ct.g ≤ k'.val
        · exact h k' hk ha'
        · omega
  · rw [Finset.disjoint_left]
    intro i hi hf
    have h' := mem_rowSet.mp hi
    have := (Finset.mem_filter.mp hf).2 k (by omega) ha
    omega

theorem free_glue {ct ct' : Ct} {k : Fin 24} (hU : freeRows ct' = rowSet 768 (srcT k) (rowsT k) ∪ freeRows ct) (hD : Disjoint (rowSet 768 (srcT k) (rowsT k)) (freeRows ct))
    (g f : Vec F S768x1024 .bf16) :
    iprop((((c : Thread nD τ).loc cc0_scratch3) ↦[rowSet 768 (srcT k) (rowsT k)]{fullShare} g) ∗ (((c : Thread nD τ).loc cc0_scratch3) ↦[freeRows ct]{fullShare} f))
      ⊢ (iprop(∃ f : Vec F S768x1024 .bf16, ((c : Thread nD τ).loc cc0_scratch3) ↦[freeRows ct']{fullShare} f) : sProp (MM F)) := by
  rw [hU]
  iintro ⟨H1, H2⟩
  iexists _
  iapply (pointsTo_join hD)
  isplitl [H1]; · iexact H1
  iexact H2

theorem back (k : Fin 24) (hct : ct' = ⟨ct.a, ct.i, ct.s, ct.r, k.val + 1⟩) (hg : ct.g = k.val) (hr : k.val < ct.r ∧ k.val < ct.a) (hk12 : k.val < 12)
    (hA : Apart ⟨ct.a, ct.i, ct.s, ct.r, k.val + 1⟩ (srcT k) (rowsT k)) : MS I K c σ ct R ⊢ MS I K c σ ct' R := by
  subst hct
  obtain ⟨hU, hD⟩ := free_join (n := 1) hA hg hr.2 (fun k' h1 h2 => by rw [show k' = k from Fin.ext (by omega)]; exact ⟨rfl, rfl⟩)
  refine ms_out.trans ?_
  iintro ⟨⟨%f, Hs⟩, Hp, Hr⟩
  ihave Hp' := (pool_take (ct' := ⟨ct.a, ct.i, ct.s, ct.r, k.val + 1⟩) I k c (fun k' hne => by
    have : k'.val ≠ k.val := fun e => hne (Fin.ext e)
    unfold phase; dsimp only; split_ifs <;> omega)) $$ Hp
  icases Hp' with ⟨H0, Hw⟩
  have p0 : phase ct k.val = 4 := by unfold phase; split_ifs <;> omega
  have p1 : phase ⟨ct.a, ct.i, ct.s, ct.r, k.val + 1⟩ k.val = 5 := by unfold phase; dsimp only; split_ifs <;> omega
  ihave H0 := (Entails.of_eq (res_4 I c p0)) $$ H0
  unfold ph4
  icases H0 with ⟨Hsrc, H5⟩
  ihave Hsrc := (Entails.of_eq (src_full I c hk12)) $$ Hsrc
  iapply ms_in
  isplitl [Hs Hsrc]
  · iapply (free_glue hU hD _ f)
    isplitl [Hsrc]; · iexact Hsrc
    iexact Hs
  isplitr [Hr]
  · iapply Hw
    iapply (Entails.of_eq (res_5 I c p1).symm)
    iexact H5
  iexact Hr

theorem back3 {k k1 k2 : Fin 24} (hT : Trip I k k1 k2) (hct : ct' = ⟨ct.a, ct.i, ct.s, ct.r, k.val + 3⟩) (hg : ct.g = k.val) (hr : k2.val < ct.r ∧ k2.val < ct.a)
    (hA : Apart ⟨ct.a, ct.i, ct.s, ct.r, k.val + 3⟩ (srcT k) (rowsT k)) : MS I K c σ ct R ⊢ MS I K c σ ct' R := by
  subst hct
  have n1 := hT.n1
  have n2 := hT.n2
  obtain ⟨hU, hD⟩ := free_join (n := 3) hA hg (by omega) (fun k' h1 h2 => by
    rcases (show k'.val = k.val ∨ k'.val = k1.val ∨ k'.val = k2.val by omega) with e | e | e
    · rw [Fin.ext e]; exact ⟨rfl, rfl⟩
    · rw [Fin.ext e]; exact ⟨hT.s1, hT.r1⟩
    · rw [Fin.ext e]; exact ⟨hT.s2, hT.r2⟩)
  refine ms_out.trans ?_
  iintro ⟨⟨%f, Hs⟩, Hp, Hr⟩
  ihave Hp' := (pool_take3 (ct' := ⟨ct.a, ct.i, ct.s, ct.r, k.val + 3⟩) (I := I) (c := c) hT.n1 hT.n2 (fun k' hne => by
    unfold phase; dsimp only; split_ifs <;> omega)) $$ Hp
  icases Hp' with ⟨⟨H0, H1, H2⟩, Hw⟩
  have p0 : phase ct k.val = 4 := by unfold phase; split_ifs <;> omega
  have p1 : phase ct k1.val = 4 := by unfold phase; split_ifs <;> omega
  have p2 : phase ct k2.val = 4 := by unfold phase; split_ifs <;> omega
  have q0 : phase ⟨ct.a, ct.i, ct.s, ct.r, k.val + 3⟩ k.val = 5 := by unfold phase; dsimp only; split_ifs <;> omega
  have q1 : phase ⟨ct.a, ct.i, ct.s, ct.r, k.val + 3⟩ k1.val = 5 := by unfold phase; dsimp only; split_ifs <;> omega
  have q2 : phase ⟨ct.a, ct.i, ct.s, ct.r, k.val + 3⟩ k2.val = 5 := by unfold phase; dsimp only; split_ifs <;> omega
  ihave H0 := (Entails.of_eq (res_4 I c p0)) $$ H0
  ihave H1 := (Entails.of_eq (res_4 I c p1)) $$ H1
  ihave H2 := (Entails.of_eq (res_4 I c p2)) $$ H2
  unfold ph4
  icases H0 with ⟨S0, H0⟩
  icases H1 with ⟨S1, H1⟩
  icases H2 with ⟨S2, H2⟩
  iapply ms_in
  isplitl [Hs S0 S1 S2]
  · iapply (free_glue hU hD (srcC I k c) f)
    isplitl [S0 S1 S2]
    · iapply (src_trip hT c).2
      isplitl [S0]; · iexact S0
      isplitl [S1]; · iexact S1
      iexact S2
    iexact Hs
  isplitr [Hr]
  · iapply Hw
    isplitl [H0]
    · iapply (Entails.of_eq (res_5 I c q0).symm); iexact H0
    isplitl [H1]
    · iapply (Entails.of_eq (res_5 I c q1).symm); iexact H1
    · iapply (Entails.of_eq (res_5 I c q2).symm); iexact H2
  iexact Hr

end

end Cert.KernelIdeal.Mesh

end
-- ==== Proof.Vals.lean ====
/-
  What the words stored by the body come to: a head of a block of rows, a partial product, a row summed with what three partners
  sent, a finished row handed on.
-/
module

public import proofs.«01_k».proof.Proof.Talk2
public import Idealize.ShloMosaic.Lib.Pipeline.Value

@[expose] public section

set_option maxRecDepth 16384

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

section
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem slab_full {β : Type} (f : S1024x1024.Idx → β) : slab 1024 1024 f 0 0 = f := by
  funext i
  unfold slab
  congr 1
  have h0 : (i 0).val < 1024 := (i 0).isLt
  have h1 : (i 1).val < 1024 := (i 1).isLt
  refine ix2_ext ?_ ?_
  · show (0 + (i 0).val) % 1024 = (i 0).val
    omega
  · show (0 + (i 1).val) % 1024 = (i 1).val
    omega

theorem put_full {β : Type} (f w : S1024x1024.Idx → β) : put (m := 1024) (n := 1024) f 0 0 w = w := by
  funext i
  have h0 : (i 0).val < 1024 := (i 0).isLt
  have h1 : (i 1).val < 1024 := (i 1).isLt
  unfold put
  rw [dif_pos ⟨⟨Nat.zero_le _, by omega⟩, ⟨Nat.zero_le _, by omega⟩⟩]
  exact congrArg w (ix2_ext rfl rfl)

theorem put_q (f : Vec F S1024x1024 .bf16) : put (m := 1024) (n := 1024) f 0 0 (k0_pay2 (slab 1024 1024 (I.x c) 0 0) (slab 1024 1024 (I.wq c) 0 0)) = Qv I c := by
  rw [slab_full, slab_full]
  exact put_full f _

/-! ## The context, block of rows by block of rows and head by head -/

def CtxUpTo (I : Ins F) (c : Dev nD) (n : ℕ) (t : Vec F S1024x1024 .bf16) : Prop :=
  ∀ i : S1024x1024.Idx, (i 0).val / 256 * 8 + (i 1).val / 128 < n → t i = ctxV I c i

theorem ctx_zero : CtxUpTo I c 0 t := fun i h => absurd h (Nat.not_lt_zero _)
theorem ctx_all (h : CtxUpTo I c 32 t) : t = ctxV I c := by
  funext i
  have h0 : (i 0).val < 1024 := (i 0).isLt
  have h1 : (i 1).val < 1024 := (i 1).isLt
  exact h i (by omega)

theorem ctx_put {b h n : ℕ} (hn : n = 8 * b + h) (hh : h < 8) {w : FVec F S256x128 .bf16} (hw : w = headV I c b h) (ht : CtxUpTo I c n t) :
    CtxUpTo I c (n + 1) (put (m := 256) (n := 128) t (256 * b) (128 * h) w) := by
  intro i hi
  have h0 : (i 0).val < 1024 := (i 0).isLt
  have h1 : (i 1).val < 1024 := (i 1).isLt
  unfold put
  split
  · rename_i hr
    have eb : (i 0).val / 256 = b := by omega
    have eh : (i 1).val / 128 = h := by omega
    subst hw
    show headV I c b h _ = headV I c ((i 0).val / 256) ((i 1).val / 128) (ixH (i 0).val (i 1).val)
    rw [eb, eh]
    congr 1
    refine ix2_ext ?_ ?_
    · show (i 0).val - 256 * b = (i 0).val % 256
      omega
    · show (i 1).val - 128 * h = (i 1).val % 128
      omega
  · rename_i hr
    refine ht i ?_
    by_contra hge
    exact hr ⟨⟨by omega, by omega⟩, by omega, by omega⟩

theorem st_head {b h n : ℕ} (hn : n = 8 * b + h) (hh : h < 8) {off : Fin 2 → ℕ} (ho : off = ![256 * b, 128 * h])
    {inb : ∀ a, off a + (![256, 128] : Fin 2 → ℕ) a ≤ S1024x1024.size a} {w : FVec F S256x128 .bf16} (hw : w = headV I c b h) (ht : CtxUpTo I c n t)
    {hx : ((Memref.whole cc0_scratch2).access (Rect.unit (s := S1024x1024) off ![256, 128] inb)).Stores Finset.univ}
    {hm : (Finset.univ : Finset (Rect.unit (s := S1024x1024) off ![256, 128] inb).shape.Idx) = Finset.univ ∨ ∀ a, (Rect.unit (s := S1024x1024) off ![256, 128] inb).stride a = 1}
    {kk : PUnit → PG F α} (hk : ∀ t', CtxUpTo I c (n + 1) t' → MS I K c ⟨o, p, x, t'⟩ ct R ⊢ WP c (kk ⟨⟩) Q) :
    MS I K c ⟨o, p, x, t⟩ ct R ⊢ WP c (.op (.store (Memref.whole cc0_scratch2) (Rect.unit (s := S1024x1024) off ![256, 128] inb) w Finset.univ hx hm) kk) Q :=
  st_st_ctx (256 * b) (128 * h) ho (hk _ (ctx_put hn hh hw ht))

/-! ## Rows known to hold given sums -/

def Has (o : Vec F S1024x1024 .f32) (G : ℕ → ℕ → F .f32) (P : List (ℕ × ℕ)) : Prop :=
  ∀ pr ∈ P, ∀ i : S1024x1024.Idx, pr.1 ≤ (i 0).val → (i 0).val < pr.1 + pr.2 → o i = G (i 0).val (i 1).val

theorem has_nil {G : ℕ → ℕ → F .f32} : Has o G [] := fun pr h => absurd h List.not_mem_nil

theorem has_put {G : ℕ → ℕ → F .f32} {P : List (ℕ × ℕ)} {m r : ℕ} {w : Vec F ⟨2, ![m, 1024]⟩ .f32} (hw : ∀ y, w y = G (r + (y 0).val) (y 1).val) (h : Has o G P) :
    Has (put (m := m) (n := 1024) o r 0 w) G ((r, m) :: P) := by
  intro pr hpr i h1 h2
  have hj : (i 1).val < 1024 := (i 1).isLt
  unfold put
  split
  · rename_i hr
    rw [hw]
    show G (r + ((i 0).val - r)) ((i 1).val - 0) = _
    rw [show r + ((i 0).val - r) = (i 0).val from by omega, Nat.sub_zero]
  · rename_i hr
    rcases List.mem_cons.mp hpr with e | hm
    · subst e
      exact absurd ⟨⟨h1, h2⟩, Nat.zero_le _, by omega⟩ hr
    · exact h pr hm i h1 h2

theorem has_apart {G : ℕ → ℕ → F .f32} {P : List (ℕ × ℕ)} {m r : ℕ} {w : Vec F ⟨2, ![m, 1024]⟩ .f32} (hd : ∀ pr ∈ P, r + m ≤ pr.1 ∨ pr.1 + pr.2 ≤ r) (h : Has o G P) :
    Has (put (m := m) (n := 1024) o r 0 w) G P := by
  intro pr hpr i h1 h2
  unfold put
  rw [dif_neg (fun hr => by rcases hd pr hpr with h | h <;> omega)]
  exact h pr hpr i h1 h2

theorem has_slab {G : ℕ → ℕ → F .f32} {P : List (ℕ × ℕ)} (h : Has o G P) {m r : ℕ} (hin : ∃ pr ∈ P, pr.1 ≤ r ∧ r + m ≤ pr.1 + pr.2 ∧ r + m ≤ 1024) :
    ∀ y, slab m 1024 o r 0 y = G (r + (y 0).val) (y 1).val := by
  intro y
  obtain ⟨pr, hpr, h1, h2, h3⟩ := hin
  have h0 : (y 0).val < m := (y 0).isLt
  have hj : (y 1).val < 1024 := (y 1).isLt
  have e0 : ((ixA (r + (y 0).val) (0 + (y 1).val)) 0).val = r + (y 0).val := by
    show (r + (y 0).val) % 1024 = _
    omega
  have e1 : ((ixA (r + (y 0).val) (0 + (y 1).val)) 1).val = (y 1).val := by
    show (0 + (y 1).val) % 1024 = _
    omega
  have := h pr hpr (ixA (r + (y 0).val) (0 + (y 1).val)) (by rw [e0]; omega) (by rw [e0]; omega)
  rw [e0, e1] at this
  exact this

/-- The rows of one list, each in a row of another, where the two sums agree. -/
theorem has_into {G G' : ℕ → ℕ → F .f32} {P P' : List (ℕ × ℕ)} (h : Has o G P)
    (hc : ∀ pr ∈ P', ∀ a < pr.2, ∃ q ∈ P, q.1 ≤ pr.1 + a ∧ pr.1 + a < q.1 + q.2)
    (hg : ∀ pr ∈ P', ∀ a < pr.2, ∀ j, G (pr.1 + a) j = G' (pr.1 + a) j) : Has o G' P' := by
  intro pr hpr i h1 h2
  obtain ⟨q, hq, g1, g2⟩ := hc pr hpr ((i 0).val - pr.1) (by omega)
  have e : pr.1 + ((i 0).val - pr.1) = (i 0).val := by omega
  have := hg pr hpr ((i 0).val - pr.1) (by omega) (i 1).val
  rw [e] at g1 g2 this
  rw [h q hq i g1 g2, this]

theorem has_all {G : ℕ → ℕ → F .f32} {P : List (ℕ × ℕ)} (h : Has o G P) (hc : ∀ a < 1024, ∃ q ∈ P, q.1 ≤ a ∧ a < q.1 + q.2) :
    o = fun i => G (i 0).val (i 1).val := by
  funext i
  obtain ⟨q, hq, g1, g2⟩ := hc (i 0).val (i 0).isLt
  exact h q hq i g1 g2

/-! ## The words themselves -/

theorem a0_val {r : ℕ} (hr : r % 128 = 0) (y : S128x1024.Idx) :
    k0_pay82 (slab 128 1024 (ctxV I c) r 0) (slab 1024 1024 (I.wo c) 0 0) y = A0 I c (r + (y 0).val) (y 1).val := by
  have h0 : (y 0).val < 128 := (y 0).isLt
  have h1 : (y 1).val < 1024 := (y 1).isLt
  unfold A0
  rw [slab_full, show (r + (y 0).val) / 128 * 128 = r from by omega]
  congr 1
  refine ix2_ext ?_ ?_
  · show (y 0).val = (r + (y 0).val) % 128
    omega
  · show (y 1).val = (y 1).val % 1024
    omega

theorem pay75_eq (a : Vec F S128x1024 .bf16) (b : Vec F S1024x1024 .bf16) : k0_pay75 a b = fun y => dn (k0_pay82 a b y) := by
  unfold k0_pay75 k0_pay82; simp only [shapeCast_self]; rfl

theorem pay76_eq (a : Vec F S128x1024 .bf16) (b : Vec F S1024x1024 .bf16) : k0_pay76 a b = fun y => dn (k0_pay82 a b y) := by
  unfold k0_pay76 k0_pay82; simp only [shapeCast_self]; rfl

theorem pay79_eq (a : Vec F S128x1024 .bf16) (b : Vec F S1024x1024 .bf16) : k0_pay79 a b = fun y => dn (k0_pay82 a b y) := by
  unfold k0_pay79 k0_pay82; simp only [shapeCast_self]; rfl

theorem pay80_eq (a : Vec F S128x1024 .bf16) (b : Vec F S1024x1024 .bf16) : k0_pay80 a b = fun y => dn (k0_pay82 a b y) := by
  unfold k0_pay80 k0_pay82; simp only [shapeCast_self]; rfl

theorem pay81_eq (a : Vec F S128x1024 .bf16) (b : Vec F S1024x1024 .bf16) : k0_pay81 a b = fun y => dn (k0_pay82 a b y) := by
  unfold k0_pay81 k0_pay82; simp only [shapeCast_self]; rfl

theorem pay78_eq (a : Vec F S128x1024 .bf16) (b : Vec F S1024x1024 .bf16) : k0_pay78 (k0_pay77 a b) = fun y => dn (k0_pay82 a b y) := by
  unfold k0_pay78 k0_pay77 k0_pay82; simp only [shapeCast_self]; rfl

theorem pay83_eq (a : Vec F S128x1024 .bf16) (b : Vec F S1024x1024 .bf16) : k0_pay83 a b = k0_pay82 a b := by
  unfold k0_pay83 k0_pay82; rfl

theorem pay84_eq (v : Vec F S128x1024 .f32) (a b d : Vec F S128x1024 .bf16) :
    k0_pay84 v a b d = fun y => FloatOps.addf (FloatOps.addf (FloatOps.addf (v y) (up (a y))) (up (b y))) (up (d y)) := by
  unfold k0_pay84; try simp only [shapeCast_self]
  rfl

theorem pay85_eq (v : Vec F S128x1024 .f32) (a b d : Vec F S128x1024 .bf16) :
    k0_pay85 v a b d = fun y => FloatOps.addf (FloatOps.addf (FloatOps.addf (v y) (up (a y))) (up (b y))) (up (d y)) := by
  unfold k0_pay85; try simp only [shapeCast_self]
  rfl

theorem pay92_eq (v : Vec F S32x1024 .f32) (a b d : Vec F S32x1024 .bf16) :
    k0_pay92 v a b d = fun y => FloatOps.addf (FloatOps.addf (FloatOps.addf (v y) (up (a y))) (up (b y))) (up (d y)) := by
  unfold k0_pay92; try simp only [shapeCast_self]
  rfl

theorem pay93_eq (v : Vec F S32x1024 .f32) (a b d : Vec F S32x1024 .bf16) :
    k0_pay93 v a b d = fun y => FloatOps.addf (FloatOps.addf (FloatOps.addf (v y) (up (a y))) (up (b y))) (up (d y)) := by
  unfold k0_pay93; try simp only [shapeCast_self]
  rfl

theorem pay86_eq (v : Vec F S32x1024 .f32) : k0_pay86 v = fun y => dn (v y) := by
  unfold k0_pay86; simp only [shapeCast_self]; rfl

theorem pay87_eq (v : Vec F S32x1024 .f32) : k0_pay87 v = fun y => dn (v y) := by
  unfold k0_pay87; simp only [shapeCast_self]; rfl

theorem pay88_eq (v : Vec F S32x1024 .f32) : k0_pay88 v = fun y => dn (v y) := by
  unfold k0_pay88; simp only [shapeCast_self]; rfl

theorem pay89_eq (v : Vec F S32x1024 .f32) : k0_pay89 v = fun y => dn (v y) := by
  unfold k0_pay89; simp only [shapeCast_self]; rfl

theorem pay90_eq (v : Vec F S32x1024 .f32) : k0_pay90 v = fun y => dn (v y) := by
  unfold k0_pay90; simp only [shapeCast_self]; rfl

theorem pay91_eq (v : Vec F S32x1024 .f32) : k0_pay91 v = fun y => dn (v y) := by
  unfold k0_pay91; simp only [shapeCast_self]; rfl

theorem pay94_eq (v : Vec F S32x1024 .f32) : k0_pay94 v = fun y => dn (v y) := by
  unfold k0_pay94; simp only [shapeCast_self]; rfl

theorem pay95_eq (v : Vec F S32x1024 .f32) : k0_pay95 v = fun y => dn (v y) := by
  unfold k0_pay95; simp only [shapeCast_self]; rfl

theorem pay102_eq (v : Vec F S128x1024 .f32) : k0_pay102 v = fun y => dn (v y) := by
  unfold k0_pay102; simp only [shapeCast_self]; rfl

theorem pay103_eq (v : Vec F S128x1024 .f32) : k0_pay103 v = fun y => dn (v y) := by
  unfold k0_pay103; simp only [shapeCast_self]; rfl

theorem pay96_eq (v : Vec F S32x1024 .bf16) : k0_pay96 v = fun y => up (v y) := rfl

theorem pay97_eq (v : Vec F S32x1024 .bf16) : k0_pay97 v = fun y => up (v y) := rfl

theorem pay98_eq (v : Vec F S32x1024 .bf16) : k0_pay98 v = fun y => up (v y) := rfl

theorem pay99_eq (v : Vec F S32x1024 .bf16) : k0_pay99 v = fun y => up (v y) := rfl

theorem pay100_eq (v : Vec F S32x1024 .bf16) : k0_pay100 v = fun y => up (v y) := rfl

theorem pay101_eq (v : Vec F S32x1024 .bf16) : k0_pay101 v = fun y => up (v y) := rfl

theorem pay104_eq (v : Vec F S128x1024 .bf16) : k0_pay104 v = fun y => up (v y) := rfl

theorem pay105_eq (v : Vec F S128x1024 .bf16) : k0_pay105 v = fun y => up (v y) := rfl

theorem pay106_eq (v : Vec F S128x1024 .bf16) : k0_pay106 v = fun y => up (v y) := rfl

theorem pay107_eq (v : Vec F S128x1024 .bf16) : k0_pay107 v = fun y => up (v y) := rfl

theorem pay108_eq (v : Vec F S128x1024 .bf16) : k0_pay108 v = fun y => up (v y) := rfl

theorem pay1_eq (v : Vec F S128x1024 .bf16) : k0_pay1 v = fun y => up (v y) := rfl

theorem sent_first {k : Fin 24} (hk : k.val < 6) (y : S128x1024.Idx) :
    dn (k0_pay82 (slab 128 1024 (ctxV I c) (srow k c) 0) (slab 1024 1024 (I.wo c) 0 0) y) = sentN I k c (y 0).val (y 1).val := by
  have hr : ∀ (k : Fin 24) (c : Dev nD), k.val < 6 → srow k c % 128 = 0 := by decide +kernel
  unfold sentN AS
  rw [a0_val (hr k c hk), if_pos hk]

theorem sent_of {k : Fin 24} {m : ℕ} {v : Vec F ⟨2, ![m, 1024]⟩ .f32} (hv : ∀ y, v y = AS I k c (srow k c + (y 0).val) (y 1).val) (y : (⟨2, ![m, 1024]⟩ : Shape).Idx) :
    dn (v y) = sentN I k c (y 0).val (y 1).val := by
  unfold sentN; rw [hv]

/-- A row summed with what three partners sent of it. -/
theorem red_val {k0 k1 k2 : Fin 24} {A : Dev nD → ℕ → ℕ → F .f32} {m r : ℕ} {v : Vec F ⟨2, ![m, 1024]⟩ .f32}
    (hA : AS I k0 = A ∧ AS I k1 = A ∧ AS I k2 = A) (hr : srow k0 (peer k0 c) = r ∧ srow k1 (peer k1 c) = r ∧ srow k2 (peer k2 c) = r)
    (hv : ∀ y, v y = A c (r + (y 0).val) (y 1).val) (y : (⟨2, ![m, 1024]⟩ : Shape).Idx) :
    FloatOps.addf (FloatOps.addf (FloatOps.addf (v y) (up (sentN I k0 (peer k0 c) (y 0).val (y 1).val))) (up (sentN I k1 (peer k1 c) (y 0).val (y 1).val)))
      (up (sentN I k2 (peer k2 c) (y 0).val (y 1).val)) = red k0 k1 k2 A c (r + (y 0).val) (y 1).val := by
  unfold sentN red
  rw [hv, hA.1, hA.2.1, hA.2.2, hr.1, hr.2.1, hr.2.2]

theorem own1_far : ∀ (k : Fin 24) (c : Dev nD), 12 ≤ k.val → k.val < 18 → peer k c ≠ c ∧ ∀ a < 32, own1 c (srow k (peer k c) + a) = peer k c := by decide +kernel
theorem own0_far : ∀ (k : Fin 24) (c : Dev nD), 18 ≤ k.val → peer k c ≠ c ∧ ∀ a < 128, own0 c (srow k (peer k c) + a) = peer k c := by decide +kernel
theorem own1_near : ∀ (c : Dev nD), ∀ a < 32, own1 c (keep1 0 c + a) = c ∧ own1 c (keep1 1 c + a) = c := by decide +kernel
theorem own0_near : ∀ (c : Dev nD), ∀ a < 128, own0 c (keep0 0 c + a) = c ∧ own0 c (keep0 1 c + a) = c := by decide +kernel

theorem hand_val1 {k : Fin 24} (h1 : 12 ≤ k.val) (h2 : k.val < 18) (y : S32x1024.Idx) :
    up (sentN I k (peer k c) (y 0).val (y 1).val) = A3 I c (srow k (peer k c) + (y 0).val) (y 1).val := by
  obtain ⟨hn, ho⟩ := own1_far k c h1 h2
  have e := ho (y 0).val (y 0).isLt
  unfold A3
  rw [e, if_neg hn]
  unfold sentN AS
  rw [if_neg (by omega), if_neg (by omega), if_pos h2]
theorem hand_val0 {k : Fin 24} (h1 : 18 ≤ k.val) (y : S128x1024.Idx) :
    up (sentN I k (peer k c) (y 0).val (y 1).val) = A4 I c (srow k (peer k c) + (y 0).val) (y 1).val := by
  obtain ⟨hn, ho⟩ := own0_far k c h1
  have e := ho (y 0).val (y 0).isLt
  unfold A4
  rw [e, if_neg hn]
  unfold sentN AS
  rw [if_neg (by omega), if_neg (by omega), if_neg (by omega)]

def pieces1 (c : Dev nD) : List (ℕ × ℕ) :=
  [(srow 17 (peer 17 c), 32), (srow 16 (peer 16 c), 32), (srow 15 (peer 15 c), 32), (srow 14 (peer 14 c), 32), (srow 13 (peer 13 c), 32), (srow 12 (peer 12 c), 32),
    (keep1 1 c, 32), (keep1 0 c, 32)]
def pieces0 (c : Dev nD) : List (ℕ × ℕ) :=
  [(srow 23 (peer 23 c), 128), (srow 22 (peer 22 c), 128), (srow 21 (peer 21 c), 128), (srow 20 (peer 20 c), 128), (srow 19 (peer 19 c), 128), (srow 18 (peer 18 c), 128),
    (keep0 1 c, 128), (keep0 0 c, 128)]

theorem cover1 : ∀ (c : Dev nD), ∀ pr ∈ [(keep0 1 c, 128), (keep0 0 c, 128)], ∀ a < pr.2, ∃ q ∈ pieces1 c, q.1 ≤ pr.1 + a ∧ pr.1 + a < q.1 + q.2 := by decide +kernel
theorem cover0 : ∀ (c : Dev nD), ∀ a < 1024, ∃ q ∈ pieces0 c, q.1 ≤ a ∧ a < q.1 + q.2 := by decide +kernel

theorem has_two {G G' : ℕ → ℕ → F .f32} {a b n : ℕ} (h : Has o G [(b, n), (a, n)]) (hg : ∀ e < n, ∀ j, G (a + e) j = G' (a + e) j ∧ G (b + e) j = G' (b + e) j) : Has o G' [(b, n), (a, n)] := by
  refine has_into h (fun pr hpr e he => ⟨pr, hpr, by omega, by omega⟩) (fun pr hpr e he j => ?_)
  rcases List.mem_cons.mp hpr with h | h
  · subst h; exact (hg e he j).2
  · rcases List.mem_cons.mp h with h | h
    · subst h; exact (hg e he j).1
    · exact absurd h List.not_mem_nil

theorem has_12 (h : Has o (A2 I c) [(keep1 1 c, 32), (keep1 0 c, 32)]) : Has o (A3 I c) [(keep1 1 c, 32), (keep1 0 c, 32)] :=
  has_two h fun e he j => by unfold A3; rw [if_pos (own1_near c e he).1, if_pos (own1_near c e he).2]; exact ⟨rfl, rfl⟩
theorem has_joined (h : Has o (A3 I c) (pieces1 c)) : Has o (A3 I c) [(keep0 1 c, 128), (keep0 0 c, 128)] :=
  has_into h (cover1 c) (fun _ _ _ _ _ => rfl)
theorem has_34 (h : Has o (A3 I c) [(keep0 1 c, 128), (keep0 0 c, 128)]) : Has o (A4 I c) [(keep0 1 c, 128), (keep0 0 c, 128)] :=
  has_two h fun e he j => by unfold A4; rw [if_pos (own0_near c e he).1, if_pos (own0_near c e he).2]; exact ⟨rfl, rfl⟩
theorem has_end (h : Has o (A4 I c) (pieces0 c)) : o = fun i => A4 I c (i 0).val (i 1).val := has_all h (cover0 c)

end

end Cert.KernelIdeal.Mesh

end
-- ==== Proof.Parts.lean ====
/-
  Pieces of the body on the buffers of the launch, and the rows each summing step works on.
-/
module

public import proofs.«01_k».proof.Proof.Vals

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-- A piece of the body on the buffers the launch gives it. -/
abbrev onBufs {β : Sort _} (f : ∀ (arg0 : Memref sig .tc .vmem S1024x1024 .bf16) (harg0 : arg0.IsWhole) (arg1 : Memref sig .tc .vmem S1024x1024 .bf16) (harg1 : arg1.IsWhole) (arg2 : Memref sig .tc .vmem S8x128x1024 .bf16) (harg2 : arg2.IsWhole) (arg3 : Memref sig .tc .vmem S8x1024x128 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S768x1024 .bf16) (harg9 : arg9.IsWhole) (arg10 : Memref sig .tc .vmem S960x1024 .bf16) (harg10 : arg10.IsWhole) (arg11 : Memref sig .tc .vmem S960x1024 .bf16) (harg11 : arg11.IsWhole) (arg12 : DmaSems sig S12) (arg13 : DmaSems sig S12) (arg14 : DmaSems sig S12) (arg15 : DmaSems sig S12), β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9

theorem st_out {m : ℕ} {off : Fin 2 → ℕ} {inb : ∀ a, off a + (![m, 1024] : Fin 2 → ℕ) a ≤ S1024x1024.size a} (r : ℕ) (ho : off = ![r, 0])
    {w : Vec F ⟨2, ![m, 1024]⟩ .f32} {hx : ((Memref.whole cc0_stg5_0).access (Rect.unit (s := S1024x1024) off ![m, 1024] inb)).Stores Finset.univ}
    {hm : (Finset.univ : Finset (Rect.unit (s := S1024x1024) off ![m, 1024] inb).shape.Idx) = Finset.univ ∨ ∀ a, (Rect.unit (s := S1024x1024) off ![m, 1024] inb).stride a = 1}
    {kk : PUnit → PG F α} (hk : ∀ o', o' = put o r 0 w → MS I K c ⟨o', p, x, t⟩ ct R ⊢ WP c (kk ⟨⟩) Q) :
    MS I K c ⟨o, p, x, t⟩ ct R ⊢ WP c (.op (.store (Memref.whole cc0_stg5_0) (Rect.unit (s := S1024x1024) off ![m, 1024] inb) w Finset.univ hx hm) kk) Q :=
  st_st_out r 0 ho (hk _ rfl)
theorem st_p {m : ℕ} {off : Fin 2 → ℕ} {inb : ∀ a, off a + (![m, 1024] : Fin 2 → ℕ) a ≤ S1024x1024.size a} (r : ℕ) (ho : off = ![r, 0])
    {w : Vec F ⟨2, ![m, 1024]⟩ .f32} {hx : ((Memref.whole cc0_scratch0).access (Rect.unit (s := S1024x1024) off ![m, 1024] inb)).Stores Finset.univ}
    {hm : (Finset.univ : Finset (Rect.unit (s := S1024x1024) off ![m, 1024] inb).shape.Idx) = Finset.univ ∨ ∀ a, (Rect.unit (s := S1024x1024) off ![m, 1024] inb).stride a = 1}
    {kk : PUnit → PG F α} (hk : ∀ p', p' = put p r 0 w → MS I K c ⟨o, p', x, t⟩ ct R ⊢ WP c (kk ⟨⟩) Q) :
    MS I K c ⟨o, p, x, t⟩ ct R ⊢ WP c (.op (.store (Memref.whole cc0_scratch0) (Rect.unit (s := S1024x1024) off ![m, 1024] inb) w Finset.univ hx hm) kk) Q :=
  st_st_p r 0 ho (hk _ rfl)

theorem sent_at {k : Fin 24} {m r : ℕ} (hr : srow k c = r) {v : Vec F ⟨2, ![m, 1024]⟩ .f32} (hv : ∀ y, v y = AS I k c (r + (y 0).val) (y 1).val) (y : (⟨2, ![m, 1024]⟩ : Shape).Idx) :
    dn (v y) = sentN I k c (y 0).val (y 1).val := by
  subst hr; exact sent_of hv y

theorem keep0_0 : ∀ c : Dev nD, keep0 0 c % 128 = 0 := by decide +kernel
theorem keep0_1 : ∀ c : Dev nD, keep0 1 c % 128 = 0 := by decide +kernel
theorem arm_row12 : ∀ c : Dev nD, srow 12 c = keep1 0 c := by decide +kernel
theorem arm_row15 : ∀ c : Dev nD, srow 15 c = keep1 1 c := by decide +kernel
theorem arm_row18 : ∀ c : Dev nD, srow 18 c = keep0 0 c := by decide +kernel
theorem arm_row21 : ∀ c : Dev nD, srow 21 c = keep0 1 c := by decide +kernel
theorem red_rows0 : ∀ c : Dev nD, srow 0 (peer 0 c) = keep0 0 c ∧ srow 1 (peer 1 c) = keep0 0 c ∧ srow 2 (peer 2 c) = keep0 0 c := by decide +kernel
theorem red_rows1 : ∀ c : Dev nD, srow 3 (peer 3 c) = keep0 1 c ∧ srow 4 (peer 4 c) = keep0 1 c ∧ srow 5 (peer 5 c) = keep0 1 c := by decide +kernel
theorem red_rows2 : ∀ c : Dev nD, srow 6 (peer 6 c) = keep1 0 c ∧ srow 7 (peer 7 c) = keep1 0 c ∧ srow 8 (peer 8 c) = keep1 0 c := by decide +kernel
theorem red_rows3 : ∀ c : Dev nD, srow 9 (peer 9 c) = keep1 1 c ∧ srow 10 (peer 10 c) = keep1 1 c ∧ srow 11 (peer 11 c) = keep1 1 c := by decide +kernel
theorem keep_half : ∀ c : Dev nD, keep0 0 c + 128 ≤ 512 ∧ 512 ≤ keep0 1 c ∧ keep1 0 c + 32 ≤ 512 ∧ 512 ≤ keep1 1 c := by decide +kernel
theorem red0 (c : Dev nD) (y : S128x1024.Idx) : red 0 1 2 (A0 I) c (keep0 0 c + (y 0).val) (y 1).val = A1 I c (keep0 0 c + (y 0).val) (y 1).val := by
  have h := keep_half c
  have h0 : (y 0).val < 128 := (y 0).isLt
  unfold A1; rw [if_pos (by omega)]
theorem red1 (c : Dev nD) (y : S128x1024.Idx) : red 3 4 5 (A0 I) c (keep0 1 c + (y 0).val) (y 1).val = A1 I c (keep0 1 c + (y 0).val) (y 1).val := by
  have h := keep_half c
  unfold A1; rw [if_neg (by omega)]
theorem red2 (c : Dev nD) (y : S32x1024.Idx) : red 6 7 8 (A1 I) c (keep1 0 c + (y 0).val) (y 1).val = A2 I c (keep1 0 c + (y 0).val) (y 1).val := by
  have h := keep_half c
  have h0 : (y 0).val < 32 := (y 0).isLt
  unfold A2; rw [if_pos (by omega)]
theorem red3 (c : Dev nD) (y : S32x1024.Idx) : red 9 10 11 (A1 I) c (keep1 1 c + (y 0).val) (y 1).val = A2 I c (keep1 1 c + (y 0).val) (y 1).val := by
  have h := keep_half c
  unfold A2; rw [if_neg (by omega)]

end Cert.KernelIdeal.Mesh

end
-- ==== Proof.Greet.lean ====
/-
  The greeting among the devices, before anything is sent.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-! ## Before the first transfer: each device tells its six partners that its cells are open and hands them the rows they will write -/

def greetOwed (n : ℕ) (c : Dev nD) : CellTallies nD τ sig Unit :=
  owedFrom 0 c + ∑ d ∈ Finset.univ.filter (fun d : Fin 6 => n ≤ d.val), tallyAt (barCell (bpeer d c)) () 1
theorem greetOwed_step (d : Fin 6) (c : Dev nD) : greetOwed d.val c = greetOwed (d.val + 1) c + tallyAt (barCell (bpeer d c)) () 1 := by
  unfold greetOwed
  rw [show (Finset.univ.filter fun d' : Fin 6 => d.val ≤ d'.val) = insert d (Finset.univ.filter fun d' : Fin 6 => d.val + 1 ≤ d'.val) from by
      revert d; decide, Finset.sum_insert (by simp), add_assoc, add_comm (tallyAt _ _ _)]
theorem greetOwed_end (c : Dev nD) : greetOwed 6 c = owedFrom 0 c := by
  unfold greetOwed
  rw [show (Finset.univ.filter fun d : Fin 6 => 6 ≤ d.val) = ∅ from by decide, Finset.sum_empty, add_zero]

def greetOne (d : Fin 6) (c : Dev nD) : sProp (MM F) := iprop(dutyTok ER (barCell (bpeer d c)) 0 d ∗ barPay (F := F) (bpeer d c) d)
def greetRec (I : Ins F) (K : GSem nD τ sig → ℕ) (c : Dev nD) : sProp (MM F) :=
  iprop(cellInv ER (rd I) (K (barCell c)) (barCell c)
    ∗ bigSep Finset.univ fun d : Fin 6 => iprop(cellInv ER (rd I) (K (barCell (bpeer d c))) (barCell (bpeer d c)) ∗ reached ER (barCell (bpeer d c)) 0))
instance greetRec_persistent (I : Ins F) (K : GSem nD τ sig → ℕ) (c : Dev nD) : BI.Persistent (greetRec I K c) := by unfold greetRec; infer_instance

theorem rec_inv (d : Fin 6) : greetRec I K c ⊢ cellInv ER (rd I) (K (barCell (bpeer d c))) (barCell (bpeer d c)) := by
  unfold greetRec
  have h : (bigSep Finset.univ fun d : Fin 6 => iprop(cellInv ER (rd I) (K (barCell (bpeer d c))) (barCell (bpeer d c)) ∗ reached ER (barCell (bpeer d c)) 0)
      : sProp (MM F)) ⊢ _ := bigSep_elim (Finset.mem_univ d)
  iintro ⟨-, H⟩
  ihave H := h $$ H
  icases H with ⟨H, -⟩
  iexact H
theorem rec_reached (d : Fin 6) : greetRec I K c ⊢ reached ER (barCell (bpeer d c)) 0 := by
  unfold greetRec
  have h : (bigSep Finset.univ fun d : Fin 6 => iprop(cellInv ER (rd I) (K (barCell (bpeer d c))) (barCell (bpeer d c)) ∗ reached ER (barCell (bpeer d c)) 0)
      : sProp (MM F)) ⊢ _ := bigSep_elim (Finset.mem_univ d)
  iintro ⟨-, H⟩
  ihave H := h $$ H
  icases H with ⟨-, H⟩
  iexact H
theorem rec_own : greetRec I K c ⊢ cellInv ER (rd I) (K (barCell c)) (barCell c) := by
  unfold greetRec
  iintro ⟨H, -⟩
  iexact H

/-- What a device holds of a transfer before its partner has greeted it. -/
def kept (k : Fin 24) (c : Dev nD) : sProp (MM F) :=
  iprop(toksOf k c ∗ reached ER (sendCell k c) 0 ∗ atPos ER (sendCell k c) 0 ∅ 0 ∗ atPos ER (recvCell k c) 0 ∅ 0 ∗ cred (tallyAt (recvCell k c) () (amt k)))

def Greet (I : Ins F) (K : GSem nD τ sig → ℕ) (c : Dev nD) (σ : St F) (n : ℕ) (R : sProp (MM F)) : sProp (MM F) :=
  iprop(insPts I c ∗ bufPts c σ ∗ (∃ f : Vec F S768x1024 .bf16, ((c : Thread nD τ).loc cc0_scratch3) ↦[freeRows ⟨0, 0, 0, 0, 0⟩]{fullShare} f)
    ∗ (∃ W, owes (c : Thread nD τ) (greetOwed n c) W) ∗ (bigSep (Finset.univ.filter fun d : Fin 6 => n ≤ d.val) fun d => greetOne (F := F) d c)
    ∗ cred (tallyAt (barCell c) () 6) ∗ atPos ER (barCell c) 0 ∅ 0 ∗ (bigSep Finset.univ fun k : Fin 24 => kept (F := F) k c)
    ∗ greetRec I K c ∗ invs I K c ∗ levAts L lv ∗ R)

variable {σ : St F}

theorem st_hail (d : Fin 6) {dev : Dev nD} (hdev : dev = bpeer d c) {s : Sem sig} (hs : s = barS) {w : ℤ} (hw : w = ((1 : ℕ) : ℤ)) {n n' : ℕ} (hn : n = d.val) (hn' : n' = n + 1)
    {kk : PUnit → PG F α} (hk : Greet I K c σ n' R ⊢ WP c (kk ⟨⟩) Q) :
    Greet I K c σ n R ⊢ WP c (.op (.semSignal (dev, .tc) s w) kk) Q := by
  subst hdev hs hw hn' hn
  have e : (bigSep (Finset.univ.filter fun d' : Fin 6 => d.val ≤ d'.val) (fun d' => greetOne (F := F) d' c) : sProp (MM F))
      = iprop(greetOne (F := F) d c ∗ bigSep (Finset.univ.filter fun d' : Fin 6 => d.val + 1 ≤ d'.val) (fun d' => greetOne (F := F) d' c)) := by
    rw [(by decide : ∀ d : Fin 6, (Finset.univ.filter fun d' : Fin 6 => d.val ≤ d'.val) = insert d (Finset.univ.filter fun d' : Fin 6 => d.val + 1 ≤ d'.val)) d]
    exact bigSep_insert ((by decide : ∀ d : Fin 6, d ∉ (Finset.univ.filter fun d' : Fin 6 => d.val + 1 ≤ d'.val)) d)
  unfold Greet
  rw [e]
  iintro ⟨Hi, Hb, Hs, ⟨%W, HO⟩, ⟨Hg, Hg'⟩, Hc, Ha, Hk, #HG, #HI, #Hl, HR⟩
  unfold greetOne
  icases Hg with ⟨Ht, Hp⟩
  iapply (Rounds.wp_signal 𝒱₀ ER (rd I) (c : Thread nD τ) none (dst := (bpeer d c : Thread nD τ)) (sem := barS) (r := 0) (d := d) (κ := K (barCell (bpeer d c)))
      (by rw [duties_bar]; exact Finset.mem_univ _) (amount_bar I (bpeer d c) d) () (greetOwed (d.val + 1) c) (greetOwed_step d c)) $$ [HO Ht Hp]
  · isplitr; · iapply (rec_inv d); iexact HG
    isplitl [HO]; · iexact HO
    isplitl [Ht]; · iexact Ht
    isplitl [Hp]; · rw [payload_bar]; iexact Hp
    iapply (rec_reached d); iexact HG
  iintro HO
  iapply hk
  unfold Greet
  isplitl [Hi]; · iexact Hi
  isplitl [Hb]; · iexact Hb
  isplitl [Hs]; · iexact Hs
  isplitl [HO]; · iexists W; iexact HO
  isplitl [Hg']; · iexact Hg'
  isplitl [Hc]; · iexact Hc
  isplitl [Ha]; · iexact Ha
  isplitl [Hk]; · iexact Hk
  isplitr; · iexact HG
  isplitr; · iexact HI
  isplitr; · iexact Hl
  iexact HR

theorem pool_start : iprop((bigSep Finset.univ fun k : Fin 24 => slotOf (F := F) k c) ∗ bigSep Finset.univ fun k : Fin 24 => kept (F := F) k c) ⊢ Pool I ⟨0, 0, 0, 0, 0⟩ c := by
  unfold Pool
  refine BIBase.Entails.trans (Entails.of_eq (bigSep_sep ..).symm) ?_
  refine bigSep_mono fun k _ => ?_
  rw [show phase ⟨0, 0, 0, 0, 0⟩ k.val = 0 from by unfold phase; simp]
  show iprop(slotOf (F := F) k c ∗ kept (F := F) k c) ⊢ ph0 k c
  unfold ph0 kept
  iintro H
  iexact H

theorem st_met {s : Sem sig} (hs : s = barS) {w : ℤ} (hw : w = ((6 : ℕ) : ℤ))
    {kk : PUnit → PG F α} (hk : MS I K c σ ⟨0, 0, 0, 0, 0⟩ iprop(atPos ER (barCell c) 1 ∅ 0 ∗ R) ⊢ WP c (kk ⟨⟩) Q) :
    Greet I K c σ 6 R ⊢ WP c (.op (.semWait s w) kk) Q := by
  subst hs hw
  unfold Greet
  rw [greetOwed_end]
  iintro ⟨Hi, Hb, Hs, ⟨%W, HO⟩, -, Hc, Ha, Hk, #HG, #HI, #Hl, HR⟩
  iapply (Rounds.wp_wait_rest_token 𝒱₀ ER (rd I) (c : Thread nD τ) none (κ := K (barCell c))
      (wpE_semWait_eq 𝒱₀ (c : Thread nD τ) none Set.univ) (Set.mem_univ _) () (O := owedFrom 0 c) (W := W) (R := 0) (m := 0) (T := ∅)
      ((Nat.zero_add 6).trans (expect_bar I c).symm)) $$ [Hc HO Ha]
  · isplitr; · iapply rec_own; iexact HG
    isplitl [Hc]; · iexact Hc
    isplitl [HO]; · iexact HO
    isplitr; · iapply (mayWait_bar c); iexact Hl
    iexact Ha
  iintro ⟨HO, Ha, -, Hpay⟩
  ihave Hp := (Entails.of_eq (rest_bar I c)) $$ Hpay
  iapply hk
  unfold MS
  isplitl [Hi]; · iexact Hi
  isplitl [Hb]; · iexact Hb
  isplitl [Hs]; · iexact Hs
  isplitl [Hp Hk]
  · iapply pool_start
    isplitl [Hp]; · iexact Hp
    iexact Hk
  isplitl [HO]; · iexists _; iexact HO
  isplitr; · iexact HI
  isplitr; · iexact Hl
  isplitl [Ha]; · iexact Ha
  iexact HR

theorem p1_ok {kk : (Σ' (d0 : Dev nD), BitVec 32) → PG F α}
    (hk : ∀ w, MS I K c σ ⟨0, 0, 0, 0, 0⟩ iprop(atPos ER (barCell c) 1 ∅ 0 ∗ R) ⊢ WP c (kk ⟨c, w⟩) Q) :
    Greet I K c σ 0 R ⊢ WP c (onBufs (k0_part1 (F := F)) >>= kk) Q := by
  simp only [onBufs, k0_part1_eq_skeleton]
  unfold k0_part1_skel
  simp only [semSignalWord, semWaitWord, Prog.lift, Prog.bind_op, Prog.bind_ret, Prog.pure_eq_ret, Prog.bind_assoc, wp_deviceId]
  refine st_hail 0 (bdev_eq 0 c _ (dev1_eq c)) rfl rfl rfl rfl ?_
  refine st_hail 1 (bdev_eq 1 c _ (dev2_eq c)) rfl rfl rfl rfl ?_
  refine st_hail 2 (bdev_eq 2 c _ (dev3_eq c)) rfl rfl rfl rfl ?_
  refine st_hail 3 (bdev_eq 3 c _ (dev4_eq c)) rfl rfl rfl rfl ?_
  refine st_hail 4 (bdev_eq 4 c _ (dev5_eq c)) rfl rfl rfl rfl ?_
  refine st_hail 5 (bdev_eq 5 c _ (dev6_eq c)) rfl rfl rfl rfl ?_
  refine st_met rfl rfl ?_
  exact hk _

end Cert.KernelIdeal.Mesh

end
-- ==== Proof.Slots.lean ====
/-
  The receive rows, and the cells opened before the body and closed after it.
-/
module

public import proofs.«01_k».proof.Proof.Greet

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-! ## The receive buffers, whole and by rows -/

theorem rowsSpan : ∀ h : Bool, ∀ r : Fin 960, ∃ k : Fin 24, decide (k.val < 12) = h ∧ dstT k ≤ r.val ∧ r.val < dstT k + rowsT k := by decide +kernel
theorem rowsApart : ∀ k k' : Fin 24, k ≠ k' → decide (k.val < 12) = decide (k'.val < 12) → dstT k + rowsT k ≤ dstT k' ∨ dstT k' + rowsT k' ≤ dstT k := by decide +kernel

abbrev halfSet (h : Bool) : Finset (Fin 24) := Finset.univ.filter fun k => decide (k.val < 12) = h
abbrev landRows (k : Fin 24) : Finset S960x1024.Idx := rowSet 960 (dstT k) (rowsT k)

theorem rows_cover (h : Bool) : (halfSet h).biUnion landRows = Finset.univ := by
  ext i
  simp only [Finset.mem_biUnion, Finset.mem_univ, iff_true]
  obtain ⟨k, h1, h2, h3⟩ := rowsSpan h (i 0)
  exact ⟨k, Finset.mem_filter.mpr ⟨Finset.mem_univ _, h1⟩, Finset.mem_filter.mpr ⟨Finset.mem_univ _, h2, h3⟩⟩
theorem rows_apart (h : Bool) : ∀ k ∈ halfSet h, ∀ k' ∈ halfSet h, k ≠ k' → Disjoint (landRows k) (landRows k') := by
  intro k hk k' hk' hne
  rw [Finset.disjoint_left]
  intro i hi hi'
  have a := (Finset.mem_filter.mp hi).2
  have b := (Finset.mem_filter.mp hi').2
  have e := rowsApart k k' hne ((Finset.mem_filter.mp hk).2.trans (Finset.mem_filter.mp hk').2.symm)
  omega

variable (F) in
/-- A receive buffer of the device, at some contents. -/
def recvAny (h : Bool) (c : Dev nD) : sProp (MM F) :=
  match h with
  | true => iprop(∃ f : Vec F S960x1024 .bf16, ((c : Thread nD τ).loc cc0_scratch4) ↦{fullShare} f)
  | false => iprop(∃ f : Vec F S960x1024 .bf16, ((c : Thread nD τ).loc cc0_scratch5) ↦{fullShare} f)
variable (F) in
def recvSome (k : Fin 24) (c : Dev nD) : sProp (MM F) := iprop(∃ f, recvPts (F := F) k c f)

theorem recvPts_hi {k : Fin 24} (h : k ∈ halfSet true) (f : Vec F S960x1024 .bf16) :
    recvPts (F := F) k c f = iprop(((c : Thread nD τ).loc cc0_scratch4) ↦[landRows k]{fullShare} f) := by
  have hk := (Finset.mem_filter.mp h).2
  unfold recvPts; rw [if_pos (by simpa using hk)]
theorem recvPts_lo {k : Fin 24} (h : k ∈ halfSet false) (f : Vec F S960x1024 .bf16) :
    recvPts (F := F) k c f = iprop(((c : Thread nD τ).loc cc0_scratch5) ↦[landRows k]{fullShare} f) := by
  have hk := (Finset.mem_filter.mp h).2
  unfold recvPts; rw [if_neg (by simpa using hk)]

theorem some_intro (h : Bool) (f : Vec F S960x1024 .bf16) : (bigSep (halfSet h) fun k => recvPts k c f) ⊢ bigSep (halfSet h) fun k => recvSome F k c :=
  bigSep_mono fun k _ => by
    show iprop(recvPts (F := F) k c f) ⊢ iprop(∃ f, recvPts (F := F) k c f)
    iintro H; iexists f; iexact H

theorem recv_split (h : Bool) : recvAny F h c ⊢ bigSep (halfSet h) fun k => recvSome F k c := by
  cases h
  · show iprop(∃ f : Vec F S960x1024 .bf16, ((c : Thread nD τ).loc cc0_scratch5) ↦{fullShare} f) ⊢ _
    iintro ⟨%f, H⟩
    have e := pointsTo_biUnion (ℓ := ((c : Thread nD τ).loc cc0_scratch5)) (Ix := Unit) (Name := ℕ) (U := UU) (Lvl := ℕ) (q := fullShare) (f := f) (halfSet false) landRows (rows_apart false)
    rw [rows_cover, ← bigSep_congr (fun k hk => recvPts_lo hk f)] at e
    iapply (some_intro false f)
    iapply (Entails.of_eq e); iexact H
  · show iprop(∃ f : Vec F S960x1024 .bf16, ((c : Thread nD τ).loc cc0_scratch4) ↦{fullShare} f) ⊢ _
    iintro ⟨%f, H⟩
    have e := pointsTo_biUnion (ℓ := ((c : Thread nD τ).loc cc0_scratch4)) (Ix := Unit) (Name := ℕ) (U := UU) (Lvl := ℕ) (q := fullShare) (f := f) (halfSet true) landRows (rows_apart true)
    rw [rows_cover, ← bigSep_congr (fun k hk => recvPts_hi hk f)] at e
    iapply (some_intro true f)
    iapply (Entails.of_eq e); iexact H

theorem halves {Φ : Fin 24 → sProp (MM F)} : bigSep Finset.univ Φ = iprop(bigSep (halfSet true) Φ ∗ bigSep (halfSet false) Φ) := by
  rw [show (Finset.univ : Finset (Fin 24)) = halfSet true ∪ halfSet false from by decide]
  exact bigSep_union (by decide)

theorem recv_join (h : Bool) : (bigSep (halfSet h) fun k => recvPts (F := F) k c (landed I k c)) ⊢ recvAny F h c := by
  cases h
  · rw [bigSep_congr fun k hk => recvPts_lo hk (landed I k c)]
    have e := pointsTo_biUnion_join (ℓ := ((c : Thread nD τ).loc cc0_scratch5)) (Ix := Unit) (Name := ℕ) (U := UU) (Lvl := ℕ) (q := fullShare) (halfSet false) landRows
      (fun k => landed I k c) (landed I 0 c) (rows_apart false)
    rw [rows_cover] at e
    show _ ⊢ iprop(∃ f : Vec F S960x1024 .bf16, ((c : Thread nD τ).loc cc0_scratch5) ↦{fullShare} f)
    iintro H
    ihave H := e $$ H
    icases H with ⟨%g, -, H⟩
    iexists g; iexact H
  · rw [bigSep_congr fun k hk => recvPts_hi hk (landed I k c)]
    have e := pointsTo_biUnion_join (ℓ := ((c : Thread nD τ).loc cc0_scratch4)) (Ix := Unit) (Name := ℕ) (U := UU) (Lvl := ℕ) (q := fullShare) (halfSet true) landRows
      (fun k => landed I k c) (landed I 0 c) (rows_apart true)
    rw [rows_cover] at e
    show _ ⊢ iprop(∃ f : Vec F S960x1024 .bf16, ((c : Thread nD τ).loc cc0_scratch4) ↦{fullShare} f)
    iintro H
    ihave H := e $$ H
    icases H with ⟨%g, -, H⟩
    iexists g; iexact H

/-! ## Handing the rows to the partners that will write them -/

theorem peer_back : ∀ k : Fin 24, ∀ c : Dev nD, peer k (bpeer (bix k) c) = c := by decide +kernel

theorem hand_out : iprop((bigSep Finset.univ fun k : Fin 24 => recvSome F k c) ∗ bigSep Finset.univ fun k : Fin 24 => reached ER (recvCell k c) 0)
    ⊢ bigSep Finset.univ fun d : Fin 6 => barPay (F := F) (bpeer d c) d := by
  refine BIBase.Entails.trans (Entails.of_eq (bigSep_sep ..).symm) ?_
  have hu : (Finset.univ.image bix : Finset (Fin 6)) = Finset.univ := by decide
  have h := bigSep_fiberwise (Finset.univ : Finset (Fin 24)) bix (fun k => iprop(recvSome F k c ∗ reached ER (recvCell k c) 0))
  rw [hu] at h
  refine BIBase.Entails.trans (Entails.of_eq h) (Entails.of_eq (bigSep_congr fun d _ => ?_))
  unfold barPay
  refine bigSep_congr fun k hk => ?_
  have hd := (Finset.mem_filter.mp hk).2
  subst hd
  unfold slotOf recvSome
  rw [peer_back]

/-! ## The cells, opened before the body and closed after it -/

variable (F) in
def openToks (c : Dev nD) : sProp (MM F) := bigSep Finset.univ fun k : Fin 24 => iprop(openTok ER (sendCell k c) ∗ openTok ER (recvCell k c))
variable (F) in
def zeros (c : Dev nD) : sProp (MM F) := bigSep Finset.univ fun k : Fin 24 => iprop(semVal (sendCell k c) 0 ∗ semVal (recvCell k c) 0)
variable (F) in
def opens (c : Dev nD) : sProp (MM F) := bigSep Finset.univ fun k : Fin 24 =>
  iprop((atPos ER (sendCell k c) 0 ∅ 0 ∗ reached ER (sendCell k c) 0) ∗ (atPos ER (recvCell k c) 0 ∅ 0 ∗ reached ER (recvCell k c) 0))
variable (F) in
def dones (c : Dev nD) : sProp (MM F) := bigSep Finset.univ fun k : Fin 24 => iprop(atPos ER (sendCell k c) 1 ∅ 0 ∗ atPos ER (recvCell k c) 1 ∅ 0)

theorem open_all : iprop(invs I K c ∗ openToks F c ∗ zeros F c) ⊢ (|={Set.univ}=> opens F c : sProp (MM F)) := by
  unfold invs openToks zeros opens
  refine BIBase.Entails.trans (sep_mono_right (Entails.of_eq (bigSep_sep ..).symm)) ?_
  refine BIBase.Entails.trans (Entails.of_eq (bigSep_sep ..).symm) ?_
  refine BIBase.Entails.trans (bigSep_mono fun k _ => ?_) (bigSep_fupd _ _)
  show iprop((cellInv ER (rd I) (K (sendCell k c)) (sendCell k c) ∗ cellInv ER (rd I) (K (recvCell k c)) (recvCell k c)
    ∗ cellInv ER (rd I) (K (recvCell k (peer k c))) (recvCell k (peer k c))) ∗ (openTok ER (sendCell k c) ∗ openTok ER (recvCell k c)) ∗ (semVal (sendCell k c) 0 ∗ semVal (recvCell k c) 0)) ⊢ _
  iintro ⟨⟨Hi, Hj, -⟩, ⟨Hs, Hr⟩, Hv, Hw⟩
  imod (Rounds.cell_open ER (rd I) (g := sendCell k c) (Set.mem_univ (K (sendCell k c)))) $$ [Hi Hs Hv] with ⟨Ha, Hb⟩
  · isplitl [Hi]; · iexact Hi
    isplitl [Hs] <;> iassumption
  imod (Rounds.cell_open ER (rd I) (g := recvCell k c) (Set.mem_univ (K (recvCell k c)))) $$ [Hj Hr Hw] with ⟨Ha', Hb'⟩
  · isplitl [Hj]; · iexact Hj
    isplitl [Hr] <;> iassumption
  imodintro
  isplitl [Ha Hb]
  · isplitl [Ha] <;> iassumption
  isplitl [Ha'] <;> iassumption

theorem close_one (κ : ℕ) (g : GSem nD τ sig) : iprop(cellInv ER (rd I) κ g ∗ atPos ER g (0 + 1) ∅ 0) ⊢ (|={Set.univ}=> semVal g 0 : sProp (MM F)) :=
  Rounds.cell_close ER (rd I) (Set.mem_univ κ) id (duties_later I g)

theorem close_all : iprop(invs I K c ∗ dones F c) ⊢ (|={Set.univ}=> zeros F c : sProp (MM F)) := by
  unfold invs zeros dones
  refine BIBase.Entails.trans (Entails.of_eq (bigSep_sep ..).symm) ?_
  refine BIBase.Entails.trans (bigSep_mono fun k _ => ?_) (bigSep_fupd _ _)
  show iprop((cellInv ER (rd I) (K (sendCell k c)) (sendCell k c) ∗ cellInv ER (rd I) (K (recvCell k c)) (recvCell k c)
    ∗ cellInv ER (rd I) (K (recvCell k (peer k c))) (recvCell k (peer k c))) ∗ (atPos ER (sendCell k c) 1 ∅ 0 ∗ atPos ER (recvCell k c) 1 ∅ 0)) ⊢ _
  iintro ⟨⟨Hi, Hj, -⟩, Hs, Hr⟩
  imod (close_one (I := I) (K (sendCell k c)) (sendCell k c)) $$ [Hi Hs] with Ha
  · isplitl [Hi] <;> iassumption
  imod (close_one (I := I) (K (recvCell k c)) (recvCell k c)) $$ [Hj Hr] with Hb
  · isplitl [Hj] <;> iassumption
  imodintro
  isplitl [Ha] <;> iassumption

theorem pool_end : Pool I ⟨24, 24, 24, 24, 24⟩ c ⊢ iprop((recvAny F true c ∗ recvAny F false c) ∗ dones F c) := by
  have h : Pool I ⟨24, 24, 24, 24, 24⟩ c = bigSep Finset.univ fun k : Fin 24 => iprop(recvPts k c (landed I k c) ∗ (atPos ER (sendCell k c) 1 ∅ 0 ∗ atPos ER (recvCell k c) 1 ∅ 0)) := by
    unfold Pool
    refine bigSep_congr fun k _ => ?_
    rw [(by decide : ∀ k : Fin 24, phase ⟨24, 24, 24, 24, 24⟩ k.val = 5) k]
    rfl
  rw [h]
  refine BIBase.Entails.trans (Entails.of_eq (bigSep_sep ..)) ?_
  unfold dones
  refine sep_mono_left ?_
  rw [halves]
  exact BI.sep_mono (recv_join true) (recv_join false)

theorem free_start : freeRows ⟨0, 0, 0, 0, 0⟩ = Finset.univ := by
  unfold freeRows
  exact Finset.filter_true_of_mem fun x _ k _ h => absurd h (Nat.not_lt_zero _)
theorem free_end : freeRows ⟨24, 24, 24, 24, 24⟩ = Finset.univ := by
  unfold freeRows
  exact Finset.filter_true_of_mem fun x _ k h _ => absurd h (Nat.not_le_of_lt k.isLt)

end Cert.KernelIdeal.Mesh

end
-- ==== Proof.Head1.lean ====
/-
  The first query blocks, head by head.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p2_ok {kk : (Σ' (v45 : FVec F S256x512 .f32) (v55 : FVec F S256x1 .f32) (v56 : FVec F S256x512 .bf16), FVec F S512x128 .bf16) → PG F α}
    (h0 : CtxUpTo I c 0 t)
    (hk : MS I K c ⟨o, p, Qv I c, t⟩ ⟨0, 0, 0, 0, 0⟩ R ⊢ WP c (kk ⟨k0_pay3 (F := F), k0_pay5 (slab 256 128 (Qv I c) 0 0) (slabK (I.kt c) 0 0 0), k0_pay6 (slab 256 128 (Qv I c) 0 0) (slabK (I.kt c) 0 0 0), k0_pay7 (slabV (I.v c) 0 0 0)⟩) Q) :
    MS I K c ⟨o, p, x, t⟩ ⟨0, 0, 0, 0, 0⟩ R ⊢ WP c (onBufs (k0_part2 (F := F))  >>= kk) Q := by
  simp only [onBufs, k0_part2_eq_skeleton]
  unfold k0_part2_skel
  simp only [Prog.lift, Prog.bind_op, Prog.bind_ret, Prog.pure_eq_ret, Prog.bind_assoc]
  refine st_ld_x 0 0 rfl ?_
  refine st_ld_wq 0 0 rfl ?_
  refine st_ld_q 0 0 rfl ?_
  refine st_st_q 0 0 rfl ?_
  rw [put_q]
  refine st_ld_q 0 0 rfl ?_
  refine st_ld_kt 0 0 0 rfl ?_
  refine st_ld_v 0 0 0 rfl ?_
  exact hk

theorem p3_ok {kk : (Σ' (v91 : FVec F S256x512 .f32), FVec F S256 .f32) → PG F α}
    (h0 : CtxUpTo I c 0 t)
    (hk : ∀ t', CtxUpTo I c 2 t' → MS I K c ⟨o, p, Qv I c, t'⟩ ⟨0, 0, 0, 0, 0⟩ R ⊢ WP c (kk ⟨k0_pay10 (k0_pay3 (F := F)) (slab 256 128 (Qv I c) 0 256) (slabK (I.kt c) 2 0 0), k0_pay11 (k0_pay3 (F := F)) (slab 256 128 (Qv I c) 0 256) (slabK (I.kt c) 2 0 0)⟩) Q) :
    MS I K c ⟨o, p, Qv I c, t⟩ ⟨0, 0, 0, 0, 0⟩ R ⊢ WP c (onBufs (k0_part3 (F := F)) (k0_pay3 (F := F)) (k0_pay5 (slab 256 128 (Qv I c) 0 0) (slabK (I.kt c) 0 0 0)) (k0_pay6 (slab 256 128 (Qv I c) 0 0) (slabK (I.kt c) 0 0 0)) (k0_pay7 (slabV (I.v c) 0 0 0)) >>= kk) Q := by
  simp only [onBufs, k0_part3_eq_skeleton]
  unfold k0_part3_skel
  simp only [Prog.lift, Prog.bind_op, Prog.bind_ret, Prog.pure_eq_ret, Prog.bind_assoc]
  refine st_ld_ctx 0 0 rfl ?_
  refine st_head (b := 0) (h := 0) (n := 0) rfl (by decide) rfl rfl h0 ?_
  intro t1 h1
  refine st_ld_q 0 128 rfl ?_
  refine st_ld_kt 1 0 0 rfl ?_
  refine st_ld_v 1 0 0 rfl ?_
  refine st_ld_ctx 0 128 rfl ?_
  refine st_head (b := 0) (h := 1) (n := 1) rfl (by decide) rfl rfl h1 ?_
  intro t2 h2
  refine st_ld_q 0 256 rfl ?_
  refine st_ld_kt 2 0 0 rfl ?_
  exact hk _ h2

theorem p4_ok {kk : (Vec F S256x128 .bf16) → PG F α}
    (h2 : CtxUpTo I c 2 t)
    (hk : ∀ t', CtxUpTo I c 4 t' → MS I K c ⟨o, p, Qv I c, t'⟩ ⟨0, 0, 0, 0, 0⟩ R ⊢ WP c (kk ((slab 256 128 (Qv I c) 0 512))) Q) :
    MS I K c ⟨o, p, Qv I c, t⟩ ⟨0, 0, 0, 0, 0⟩ R ⊢ WP c (onBufs (k0_part4 (F := F)) (k0_pay3 (F := F)) (k0_pay10 (k0_pay3 (F := F)) (slab 256 128 (Qv I c) 0 256) (slabK (I.kt c) 2 0 0)) (k0_pay11 (k0_pay3 (F := F)) (slab 256 128 (Qv I c) 0 256) (slabK (I.kt c) 2 0 0)) >>= kk) Q := by
  simp only [onBufs, k0_part4_eq_skeleton]
  unfold k0_part4_skel
  simp only [Prog.lift, Prog.bind_op, Prog.bind_ret, Prog.pure_eq_ret, Prog.bind_assoc]
  refine st_ld_v 2 0 0 rfl ?_
  refine st_ld_ctx 0 256 rfl ?_
  refine st_head (b := 0) (h := 2) (n := 2) rfl (by decide) rfl rfl h2 ?_
  intro t1 h3
  refine st_ld_q 0 384 rfl ?_
  refine st_ld_kt 3 0 0 rfl ?_
  refine st_ld_v 3 0 0 rfl ?_
  refine st_ld_ctx 0 384 rfl ?_
  refine st_head (b := 0) (h := 3) (n := 3) rfl (by decide) rfl rfl h3 ?_
  intro t2 h4
  refine st_ld_q 0 512 rfl ?_
  exact hk _ h4

theorem p5_ok {kk : (FVec F S256x128 .bf16) → PG F α}
    (h4 : CtxUpTo I c 4 t)
    (hk : ∀ t', CtxUpTo I c 5 t' → MS I K c ⟨o, p, Qv I c, t'⟩ ⟨0, 0, 0, 0, 0⟩ R ⊢ WP c (kk (k0_pay15 (k0_pay3 (F := F)) (slab 256 128 (Qv I c) 0 640) (slabK (I.kt c) 5 0 0) (slabV (I.v c) 5 0 0))) Q) :
    MS I K c ⟨o, p, Qv I c, t⟩ ⟨0, 0, 0, 0, 0⟩ R ⊢ WP c (onBufs (k0_part5 (F := F)) (k0_pay3 (F := F)) ((slab 256 128 (Qv I c) 0 512)) >>= kk) Q := by
  simp only [onBufs, k0_part5_eq_skeleton]
  unfold k0_part5_skel
  simp only [Prog.lift, Prog.bind_op, Prog.bind_ret, Prog.pure_eq_ret, Prog.bind_assoc]
  refine st_ld_kt 4 0 0 rfl ?_
  refine st_ld_v 4 0 0 rfl ?_
  refine st_ld_ctx 0 512 rfl ?_
  refine st_head (b := 0) (h := 4) (n := 4) rfl (by decide) rfl rfl h4 ?_
  intro t1 h5
  refine st_ld_q 0 640 rfl ?_
  refine st_ld_kt 5 0 0 rfl ?_
  refine st_ld_v 5 0 0 rfl ?_
  exact hk _ h5

theorem p6_ok {kk : (Σ' (v195 : FVec F S256x1 .f32), FVec F S256x512 .bf16) → PG F α}
    (h5 : CtxUpTo I c 5 t)
    (hk : ∀ t', CtxUpTo I c 7 t' → MS I K c ⟨o, p, Qv I c, t'⟩ ⟨0, 0, 0, 0, 0⟩ R ⊢ WP c (kk ⟨k0_pay19 (k0_pay3 (F := F)) (slab 256 128 (Qv I c) 0 896) (slabK (I.kt c) 7 0 0), k0_pay20 (k0_pay3 (F := F)) (slab 256 128 (Qv I c) 0 896) (slabK (I.kt c) 7 0 0)⟩) Q) :
    MS I K c ⟨o, p, Qv I c, t⟩ ⟨0, 0, 0, 0, 0⟩ R ⊢ WP c (onBufs (k0_part6 (F := F)) (k0_pay3 (F := F)) (k0_pay15 (k0_pay3 (F := F)) (slab 256 128 (Qv I c) 0 640) (slabK (I.kt c) 5 0 0) (slabV (I.v c) 5 0 0)) >>= kk) Q := by
  simp only [onBufs, k0_part6_eq_skeleton]
  unfold k0_part6_skel
  simp only [Prog.lift, Prog.bind_op, Prog.bind_ret, Prog.pure_eq_ret, Prog.bind_assoc]
  refine st_ld_ctx 0 640 rfl ?_
  refine st_head (b := 0) (h := 5) (n := 5) rfl (by decide) rfl rfl h5 ?_
  intro t1 h6
  refine st_ld_q 0 768 rfl ?_
  refine st_ld_kt 6 0 0 rfl ?_
  refine st_ld_v 6 0 0 rfl ?_
  refine st_ld_ctx 0 768 rfl ?_
  refine st_head (b := 0) (h := 6) (n := 6) rfl (by decide) rfl rfl h6 ?_
  intro t2 h7
  refine st_ld_q 0 896 rfl ?_
  refine st_ld_kt 7 0 0 rfl ?_
  exact hk _ h7

theorem p7_ok {kk : (Σ' (v218 : FVec F S256x512 .f32) (v228 : FVec F S256x1 .f32), FVec F S256x128 .f32) → PG F α}
    (h7 : CtxUpTo I c 7 t)
    (hk : ∀ t', CtxUpTo I c 8 t' → MS I K c ⟨o, p, Qv I c, t'⟩ ⟨0, 0, 0, 0, 0⟩ R ⊢ WP c (kk ⟨k0_pay22 (F := F), k0_pay24 (slab 256 128 (Qv I c) 256 0) (slabK (I.kt c) 0 0 128), k0_pay25 (slab 256 128 (Qv I c) 256 0) (slabK (I.kt c) 0 0 128) (slabV (I.v c) 0 128 0)⟩) Q) :
    MS I K c ⟨o, p, Qv I c, t⟩ ⟨0, 0, 0, 0, 0⟩ R ⊢ WP c (onBufs (k0_part7 (F := F)) (k0_pay19 (k0_pay3 (F := F)) (slab 256 128 (Qv I c) 0 896) (slabK (I.kt c) 7 0 0)) (k0_pay20 (k0_pay3 (F := F)) (slab 256 128 (Qv I c) 0 896) (slabK (I.kt c) 7 0 0)) >>= kk) Q := by
  simp only [onBufs, k0_part7_eq_skeleton]
  unfold k0_part7_skel
  simp only [Prog.lift, Prog.bind_op, Prog.bind_ret, Prog.pure_eq_ret, Prog.bind_assoc]
  refine st_ld_v 7 0 0 rfl ?_
  refine st_ld_ctx 0 896 rfl ?_
  refine st_head (b := 0) (h := 7) (n := 7) rfl (by decide) rfl rfl h7 ?_
  intro t1 h8
  refine st_ld_q 256 0 rfl ?_
  refine st_ld_kt 0 0 128 rfl ?_
  refine st_ld_v 0 128 0 rfl ?_
  exact hk _ h8

theorem p8_ok {kk : (Σ' (v264 : FVec F S256x512 .f32) (v266 : FVec F S256x1 .f32), F .f32) → PG F α}
    (h8 : CtxUpTo I c 8 t)
    (hk : ∀ t', CtxUpTo I c 10 t' → MS I K c ⟨o, p, Qv I c, t'⟩ ⟨0, 0, 0, 0, 0⟩ R ⊢ WP c (kk ⟨k0_pay28 (k0_pay22 (F := F)) (slab 256 128 (Qv I c) 256 256) (slabK (I.kt c) 2 0 128), k0_pay29 (k0_pay22 (F := F)) (slab 256 128 (Qv I c) 256 256) (slabK (I.kt c) 2 0 128), Scalar.ofBits .f32 0x3F800000#32⟩) Q) :
    MS I K c ⟨o, p, Qv I c, t⟩ ⟨0, 0, 0, 0, 0⟩ R ⊢ WP c (onBufs (k0_part8 (F := F)) (k0_pay22 (F := F)) (k0_pay24 (slab 256 128 (Qv I c) 256 0) (slabK (I.kt c) 0 0 128)) (k0_pay25 (slab 256 128 (Qv I c) 256 0) (slabK (I.kt c) 0 0 128) (slabV (I.v c) 0 128 0)) >>= kk) Q := by
  simp only [onBufs, k0_part8_eq_skeleton]
  unfold k0_part8_skel
  simp only [Prog.lift, Prog.bind_op, Prog.bind_ret, Prog.pure_eq_ret, Prog.bind_assoc]
  refine st_ld_ctx 256 0 rfl ?_
  refine st_head (b := 1) (h := 0) (n := 8) rfl (by decide) rfl rfl h8 ?_
  intro t1 h9
  refine st_ld_q 256 128 rfl ?_
  refine st_ld_kt 1 0 128 rfl ?_
  refine st_ld_v 1 128 0 rfl ?_
  refine st_ld_ctx 256 128 rfl ?_
  refine st_head (b := 1) (h := 1) (n := 9) rfl (by decide) rfl rfl h9 ?_
  intro t2 h10
  refine st_ld_q 256 256 rfl ?_
  refine st_ld_kt 2 0 128 rfl ?_
  exact hk _ h10

end Cert.KernelIdeal.Mesh

end
-- ==== Proof.Head2.lean ====
/-
  The middle query blocks, head by head.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p9_ok {kk : (Vec F S256x128 .bf16) → PG F α}
    (h10 : CtxUpTo I c 10 t)
    (hk : ∀ t', CtxUpTo I c 12 t' → MS I K c ⟨o, p, Qv I c, t'⟩ ⟨0, 0, 0, 0, 0⟩ R ⊢ WP c (kk ((slab 256 128 (Qv I c) 256 512))) Q) :
    MS I K c ⟨o, p, Qv I c, t⟩ ⟨0, 0, 0, 0, 0⟩ R ⊢ WP c (onBufs (k0_part9 (F := F)) (k0_pay22 (F := F)) (k0_pay28 (k0_pay22 (F := F)) (slab 256 128 (Qv I c) 256 256) (slabK (I.kt c) 2 0 128)) (k0_pay29 (k0_pay22 (F := F)) (slab 256 128 (Qv I c) 256 256) (slabK (I.kt c) 2 0 128)) (Scalar.ofBits .f32 0x3F800000#32) >>= kk) Q := by
  simp only [onBufs, k0_part9_eq_skeleton]
  unfold k0_part9_skel
  simp only [Prog.lift, Prog.bind_op, Prog.bind_ret, Prog.pure_eq_ret, Prog.bind_assoc]
  refine st_ld_v 2 128 0 rfl ?_
  refine st_ld_ctx 256 256 rfl ?_
  refine st_head (b := 1) (h := 2) (n := 10) rfl (by decide) rfl rfl h10 ?_
  intro t1 h11
  refine st_ld_q 256 384 rfl ?_
  refine st_ld_kt 3 0 128 rfl ?_
  refine st_ld_v 3 128 0 rfl ?_
  refine st_ld_ctx 256 384 rfl ?_
  refine st_head (b := 1) (h := 3) (n := 11) rfl (by decide) rfl rfl h11 ?_
  intro t2 h12
  refine st_ld_q 256 512 rfl ?_
  exact hk _ h12

theorem p10_ok {kk : (FVec F S256x128 .bf16) → PG F α}
    (h12 : CtxUpTo I c 12 t)
    (hk : ∀ t', CtxUpTo I c 13 t' → MS I K c ⟨o, p, Qv I c, t'⟩ ⟨0, 0, 0, 0, 0⟩ R ⊢ WP c (kk (k0_pay33 (k0_pay22 (F := F)) (slab 256 128 (Qv I c) 256 640) (slabK (I.kt c) 5 0 128) (slabV (I.v c) 5 128 0))) Q) :
    MS I K c ⟨o, p, Qv I c, t⟩ ⟨0, 0, 0, 0, 0⟩ R ⊢ WP c (onBufs (k0_part10 (F := F)) (k0_pay22 (F := F)) ((slab 256 128 (Qv I c) 256 512)) >>= kk) Q := by
  simp only [onBufs, k0_part10_eq_skeleton]
  unfold k0_part10_skel
  simp only [Prog.lift, Prog.bind_op, Prog.bind_ret, Prog.pure_eq_ret, Prog.bind_assoc]
  refine st_ld_kt 4 0 128 rfl ?_
  refine st_ld_v 4 128 0 rfl ?_
  refine st_ld_ctx 256 512 rfl ?_
  refine st_head (b := 1) (h := 4) (n := 12) rfl (by decide) rfl rfl h12 ?_
  intro t1 h13
  refine st_ld_q 256 640 rfl ?_
  refine st_ld_kt 5 0 128 rfl ?_
  refine st_ld_v 5 128 0 rfl ?_
  exact hk _ h13

theorem p11_ok {kk : (Σ' (v368 : FVec F S256x1 .f32), FVec F S256x512 .bf16) → PG F α}
    (h13 : CtxUpTo I c 13 t)
    (hk : ∀ t', CtxUpTo I c 15 t' → MS I K c ⟨o, p, Qv I c, t'⟩ ⟨0, 0, 0, 0, 0⟩ R ⊢ WP c (kk ⟨k0_pay37 (k0_pay22 (F := F)) (slab 256 128 (Qv I c) 256 896) (slabK (I.kt c) 7 0 128), k0_pay38 (k0_pay22 (F := F)) (slab 256 128 (Qv I c) 256 896) (slabK (I.kt c) 7 0 128)⟩) Q) :
    MS I K c ⟨o, p, Qv I c, t⟩ ⟨0, 0, 0, 0, 0⟩ R ⊢ WP c (onBufs (k0_part11 (F := F)) (k0_pay22 (F := F)) (k0_pay33 (k0_pay22 (F := F)) (slab 256 128 (Qv I c) 256 640) (slabK (I.kt c) 5 0 128) (slabV (I.v c) 5 128 0)) >>= kk) Q := by
  simp only [onBufs, k0_part11_eq_skeleton]
  unfold k0_part11_skel
  simp only [Prog.lift, Prog.bind_op, Prog.bind_ret, Prog.pure_eq_ret, Prog.bind_assoc]
  refine st_ld_ctx 256 640 rfl ?_
  refine st_head (b := 1) (h := 5) (n := 13) rfl (by decide) rfl rfl h13 ?_
  intro t1 h14
  refine st_ld_q 256 768 rfl ?_
  refine st_ld_kt 6 0 128 rfl ?_
  refine st_ld_v 6 128 0 rfl ?_
  refine st_ld_ctx 256 768 rfl ?_
  refine st_head (b := 1) (h := 6) (n := 14) rfl (by decide) rfl rfl h14 ?_
  intro t2 h15
  refine st_ld_q 256 896 rfl ?_
  refine st_ld_kt 7 0 128 rfl ?_
  exact hk _ h15

theorem p12_ok {kk : (Σ' (v391 : FVec F S256x512 .f32), FVec F S256x128 .f32) → PG F α}
    (h15 : CtxUpTo I c 15 t)
    (hk : ∀ t', CtxUpTo I c 16 t' → MS I K c ⟨o, p, Qv I c, t'⟩ ⟨0, 0, 0, 0, 0⟩ R ⊢ WP c (kk ⟨k0_pay40 (F := F), k0_pay41 (slab 256 128 (Qv I c) 512 0) (slabK (I.kt c) 0 0 384) (slabV (I.v c) 0 384 0)⟩) Q) :
    MS I K c ⟨o, p, Qv I c, t⟩ ⟨0, 0, 0, 0, 0⟩ R ⊢ WP c (onBufs (k0_part12 (F := F)) (k0_pay37 (k0_pay22 (F := F)) (slab 256 128 (Qv I c) 256 896) (slabK (I.kt c) 7 0 128)) (k0_pay38 (k0_pay22 (F := F)) (slab 256 128 (Qv I c) 256 896) (slabK (I.kt c) 7 0 128)) >>= kk) Q := by
  simp only [onBufs, k0_part12_eq_skeleton]
  unfold k0_part12_skel
  simp only [Prog.lift, Prog.bind_op, Prog.bind_ret, Prog.pure_eq_ret, Prog.bind_assoc]
  refine st_ld_v 7 128 0 rfl ?_
  refine st_ld_ctx 256 896 rfl ?_
  refine st_head (b := 1) (h := 7) (n := 15) rfl (by decide) rfl rfl h15 ?_
  intro t1 h16
  refine st_ld_q 512 0 rfl ?_
  refine st_ld_kt 0 0 384 rfl ?_
  refine st_ld_v 0 384 0 rfl ?_
  exact hk _ h16

theorem p13_ok {kk : (Σ' (v437 : FVec F S256x512 .f32), FVec F S256x1 .f32) → PG F α}
    (h16 : CtxUpTo I c 16 t)
    (hk : ∀ t', CtxUpTo I c 18 t' → MS I K c ⟨o, p, Qv I c, t'⟩ ⟨0, 0, 0, 0, 0⟩ R ⊢ WP c (kk ⟨k0_pay44 (k0_pay40 (F := F)) (slab 256 128 (Qv I c) 512 256) (slabK (I.kt c) 2 0 384), k0_pay45 (k0_pay40 (F := F)) (slab 256 128 (Qv I c) 512 256) (slabK (I.kt c) 2 0 384)⟩) Q) :
    MS I K c ⟨o, p, Qv I c, t⟩ ⟨0, 0, 0, 0, 0⟩ R ⊢ WP c (onBufs (k0_part13 (F := F)) (k0_pay40 (F := F)) (k0_pay41 (slab 256 128 (Qv I c) 512 0) (slabK (I.kt c) 0 0 384) (slabV (I.v c) 0 384 0)) >>= kk) Q := by
  simp only [onBufs, k0_part13_eq_skeleton]
  unfold k0_part13_skel
  simp only [Prog.lift, Prog.bind_op, Prog.bind_ret, Prog.pure_eq_ret, Prog.bind_assoc]
  refine st_ld_ctx 512 0 rfl ?_
  refine st_head (b := 2) (h := 0) (n := 16) rfl (by decide) rfl rfl h16 ?_
  intro t1 h17
  refine st_ld_q 512 128 rfl ?_
  refine st_ld_kt 1 0 384 rfl ?_
  refine st_ld_v 1 384 0 rfl ?_
  refine st_ld_ctx 512 128 rfl ?_
  refine st_head (b := 2) (h := 1) (n := 17) rfl (by decide) rfl rfl h17 ?_
  intro t2 h18
  refine st_ld_q 512 256 rfl ?_
  refine st_ld_kt 2 0 384 rfl ?_
  exact hk _ h18

theorem p14_ok {kk : (Σ' (v472 : Vec F S256x128 .bf16), FVec F S128x512 .bf16) → PG F α}
    (h18 : CtxUpTo I c 18 t)
    (hk : ∀ t', CtxUpTo I c 20 t' → MS I K c ⟨o, p, Qv I c, t'⟩ ⟨0, 0, 0, 0, 0⟩ R ⊢ WP c (kk ⟨(slab 256 128 (Qv I c) 512 512), k0_pay48 (slabK (I.kt c) 4 0 384)⟩) Q) :
    MS I K c ⟨o, p, Qv I c, t⟩ ⟨0, 0, 0, 0, 0⟩ R ⊢ WP c (onBufs (k0_part14 (F := F)) (k0_pay40 (F := F)) (k0_pay44 (k0_pay40 (F := F)) (slab 256 128 (Qv I c) 512 256) (slabK (I.kt c) 2 0 384)) (k0_pay45 (k0_pay40 (F := F)) (slab 256 128 (Qv I c) 512 256) (slabK (I.kt c) 2 0 384)) >>= kk) Q := by
  simp only [onBufs, k0_part14_eq_skeleton]
  unfold k0_part14_skel
  simp only [Prog.lift, Prog.bind_op, Prog.bind_ret, Prog.pure_eq_ret, Prog.bind_assoc]
  refine st_ld_v 2 384 0 rfl ?_
  refine st_ld_ctx 512 256 rfl ?_
  refine st_head (b := 2) (h := 2) (n := 18) rfl (by decide) rfl rfl h18 ?_
  intro t1 h19
  refine st_ld_q 512 384 rfl ?_
  refine st_ld_kt 3 0 384 rfl ?_
  refine st_ld_v 3 384 0 rfl ?_
  refine st_ld_ctx 512 384 rfl ?_
  refine st_head (b := 2) (h := 3) (n := 19) rfl (by decide) rfl rfl h19 ?_
  intro t2 h20
  refine st_ld_q 512 512 rfl ?_
  refine st_ld_kt 4 0 384 rfl ?_
  exact hk _ h20

theorem p15_ok {kk : (FVec F S256x128 .bf16) → PG F α}
    (h20 : CtxUpTo I c 20 t)
    (hk : ∀ t', CtxUpTo I c 21 t' → MS I K c ⟨o, p, Qv I c, t'⟩ ⟨0, 0, 0, 0, 0⟩ R ⊢ WP c (kk (k0_pay50 (k0_pay40 (F := F)) (slab 256 128 (Qv I c) 512 640) (slabK (I.kt c) 5 0 384) (slabV (I.v c) 5 384 0))) Q) :
    MS I K c ⟨o, p, Qv I c, t⟩ ⟨0, 0, 0, 0, 0⟩ R ⊢ WP c (onBufs (k0_part15 (F := F)) (k0_pay40 (F := F)) ((slab 256 128 (Qv I c) 512 512)) (k0_pay48 (slabK (I.kt c) 4 0 384)) >>= kk) Q := by
  simp only [onBufs, k0_part15_eq_skeleton]
  unfold k0_part15_skel
  simp only [Prog.lift, Prog.bind_op, Prog.bind_ret, Prog.pure_eq_ret, Prog.bind_assoc]
  refine st_ld_v 4 384 0 rfl ?_
  refine st_ld_ctx 512 512 rfl ?_
  refine st_head (b := 2) (h := 4) (n := 20) rfl (by decide) rfl rfl h20 ?_
  intro t1 h21
  refine st_ld_q 512 640 rfl ?_
  refine st_ld_kt 5 0 384 rfl ?_
  refine st_ld_v 5 384 0 rfl ?_
  refine st_ld_ctx 512 640 rfl ?_
  exact hk _ h21

end Cert.KernelIdeal.Mesh

end
-- ==== Proof.Head3.lean ====
/-
  The last query blocks, head by head.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p16_ok {kk : (Σ' (v541 : FVec F S256x1 .f32) (v542 : FVec F S256x512 .bf16), Vec F S1x512x128 .bf16) → PG F α}
    (h21 : CtxUpTo I c 21 t)
    (hk : ∀ t', CtxUpTo I c 23 t' → MS I K c ⟨o, p, Qv I c, t'⟩ ⟨0, 0, 0, 0, 0⟩ R ⊢ WP c (kk ⟨k0_pay54 (k0_pay40 (F := F)) (slab 256 128 (Qv I c) 512 896) (slabK (I.kt c) 7 0 384), k0_pay55 (k0_pay40 (F := F)) (slab 256 128 (Qv I c) 512 896) (slabK (I.kt c) 7 0 384), (slabV (I.v c) 7 384 0)⟩) Q) :
    MS I K c ⟨o, p, Qv I c, t⟩ ⟨0, 0, 0, 0, 0⟩ R ⊢ WP c (onBufs (k0_part16 (F := F)) (k0_pay40 (F := F)) (k0_pay50 (k0_pay40 (F := F)) (slab 256 128 (Qv I c) 512 640) (slabK (I.kt c) 5 0 384) (slabV (I.v c) 5 384 0)) >>= kk) Q := by
  simp only [onBufs, k0_part16_eq_skeleton]
  unfold k0_part16_skel
  simp only [Prog.lift, Prog.bind_op, Prog.bind_ret, Prog.pure_eq_ret, Prog.bind_assoc]
  refine st_head (b := 2) (h := 5) (n := 21) rfl (by decide) rfl rfl h21 ?_
  intro t1 h22
  refine st_ld_q 512 768 rfl ?_
  refine st_ld_kt 6 0 384 rfl ?_
  refine st_ld_v 6 384 0 rfl ?_
  refine st_ld_ctx 512 768 rfl ?_
  refine st_head (b := 2) (h := 6) (n := 22) rfl (by decide) rfl rfl h22 ?_
  intro t2 h23
  refine st_ld_q 512 896 rfl ?_
  refine st_ld_kt 7 0 384 rfl ?_
  refine st_ld_v 7 384 0 rfl ?_
  exact hk _ h23

theorem p17_ok {kk : (Σ' (v564 : FVec F S256x512 .f32), FVec F S256x128 .bf16) → PG F α}
    (h23 : CtxUpTo I c 23 t)
    (hk : ∀ t', CtxUpTo I c 24 t' → MS I K c ⟨o, p, Qv I c, t'⟩ ⟨0, 0, 0, 0, 0⟩ R ⊢ WP c (kk ⟨k0_pay57 (F := F), k0_pay58 (slab 256 128 (Qv I c) 768 0) (slabK (I.kt c) 0 0 512) (slabV (I.v c) 0 512 0)⟩) Q) :
    MS I K c ⟨o, p, Qv I c, t⟩ ⟨0, 0, 0, 0, 0⟩ R ⊢ WP c (onBufs (k0_part17 (F := F)) (k0_pay54 (k0_pay40 (F := F)) (slab 256 128 (Qv I c) 512 896) (slabK (I.kt c) 7 0 384)) (k0_pay55 (k0_pay40 (F := F)) (slab 256 128 (Qv I c) 512 896) (slabK (I.kt c) 7 0 384)) ((slabV (I.v c) 7 384 0)) >>= kk) Q := by
  simp only [onBufs, k0_part17_eq_skeleton]
  unfold k0_part17_skel
  simp only [Prog.lift, Prog.bind_op, Prog.bind_ret, Prog.pure_eq_ret, Prog.bind_assoc]
  refine st_ld_ctx 512 896 rfl ?_
  refine st_head (b := 2) (h := 7) (n := 23) rfl (by decide) rfl rfl h23 ?_
  intro t1 h24
  refine st_ld_q 768 0 rfl ?_
  refine st_ld_kt 0 0 512 rfl ?_
  refine st_ld_v 0 512 0 rfl ?_
  exact hk _ h24

theorem p18_ok {kk : (Σ' (v614 : FVec F S256x1 .f32), FVec F S256x512 .bf16) → PG F α}
    (h24 : CtxUpTo I c 24 t)
    (hk : ∀ t', CtxUpTo I c 26 t' → MS I K c ⟨o, p, Qv I c, t'⟩ ⟨0, 0, 0, 0, 0⟩ R ⊢ WP c (kk ⟨k0_pay62 (k0_pay57 (F := F)) (slab 256 128 (Qv I c) 768 256) (slabK (I.kt c) 2 0 512), k0_pay63 (k0_pay57 (F := F)) (slab 256 128 (Qv I c) 768 256) (slabK (I.kt c) 2 0 512)⟩) Q) :
    MS I K c ⟨o, p, Qv I c, t⟩ ⟨0, 0, 0, 0, 0⟩ R ⊢ WP c (onBufs (k0_part18 (F := F)) (k0_pay57 (F := F)) (k0_pay58 (slab 256 128 (Qv I c) 768 0) (slabK (I.kt c) 0 0 512) (slabV (I.v c) 0 512 0)) >>= kk) Q := by
  simp only [onBufs, k0_part18_eq_skeleton]
  unfold k0_part18_skel
  simp only [Prog.lift, Prog.bind_op, Prog.bind_ret, Prog.pure_eq_ret, Prog.bind_assoc]
  refine st_ld_ctx 768 0 rfl ?_
  refine st_head (b := 3) (h := 0) (n := 24) rfl (by decide) rfl rfl h24 ?_
  intro t1 h25
  refine st_ld_q 768 128 rfl ?_
  refine st_ld_kt 1 0 512 rfl ?_
  refine st_ld_v 1 512 0 rfl ?_
  refine st_ld_ctx 768 128 rfl ?_
  refine st_head (b := 3) (h := 1) (n := 25) rfl (by decide) rfl rfl h25 ?_
  intro t2 h26
  refine st_ld_q 768 256 rfl ?_
  refine st_ld_kt 2 0 512 rfl ?_
  exact hk _ h26

theorem p19_ok {kk : (FVec F S256x512 .f32) → PG F α}
    (h26 : CtxUpTo I c 26 t)
    (hk : ∀ t', CtxUpTo I c 28 t' → MS I K c ⟨o, p, Qv I c, t'⟩ ⟨0, 0, 0, 0, 0⟩ R ⊢ WP c (kk (k0_pay66 (slab 256 128 (Qv I c) 768 512) (slabK (I.kt c) 4 0 512))) Q) :
    MS I K c ⟨o, p, Qv I c, t⟩ ⟨0, 0, 0, 0, 0⟩ R ⊢ WP c (onBufs (k0_part19 (F := F)) (k0_pay57 (F := F)) (k0_pay62 (k0_pay57 (F := F)) (slab 256 128 (Qv I c) 768 256) (slabK (I.kt c) 2 0 512)) (k0_pay63 (k0_pay57 (F := F)) (slab 256 128 (Qv I c) 768 256) (slabK (I.kt c) 2 0 512)) >>= kk) Q := by
  simp only [onBufs, k0_part19_eq_skeleton]
  unfold k0_part19_skel
  simp only [Prog.lift, Prog.bind_op, Prog.bind_ret, Prog.pure_eq_ret, Prog.bind_assoc]
  refine st_ld_v 2 512 0 rfl ?_
  refine st_ld_ctx 768 256 rfl ?_
  refine st_head (b := 3) (h := 2) (n := 26) rfl (by decide) rfl rfl h26 ?_
  intro t1 h27
  refine st_ld_q 768 384 rfl ?_
  refine st_ld_kt 3 0 512 rfl ?_
  refine st_ld_v 3 512 0 rfl ?_
  refine st_ld_ctx 768 384 rfl ?_
  refine st_head (b := 3) (h := 3) (n := 27) rfl (by decide) rfl rfl h27 ?_
  intro t2 h28
  refine st_ld_q 768 512 rfl ?_
  refine st_ld_kt 4 0 512 rfl ?_
  exact hk _ h28

theorem p20_ok {kk : (PUnit) → PG F α}
    (h28 : CtxUpTo I c 28 t)
    (hk : ∀ t', CtxUpTo I c 30 t' → MS I K c ⟨o, p, Qv I c, t'⟩ ⟨0, 0, 0, 0, 0⟩ R ⊢ WP c (kk ⟨⟩) Q) :
    MS I K c ⟨o, p, Qv I c, t⟩ ⟨0, 0, 0, 0, 0⟩ R ⊢ WP c (onBufs (k0_part20 (F := F)) (k0_pay57 (F := F)) (k0_pay66 (slab 256 128 (Qv I c) 768 512) (slabK (I.kt c) 4 0 512)) >>= kk) Q := by
  simp only [onBufs, k0_part20_eq_skeleton]
  unfold k0_part20_skel
  simp only [Prog.lift, Prog.bind_op, Prog.bind_ret, Prog.pure_eq_ret, Prog.bind_assoc]
  refine st_ld_v 4 512 0 rfl ?_
  refine st_ld_ctx 768 512 rfl ?_
  refine st_head (b := 3) (h := 4) (n := 28) rfl (by decide) rfl rfl h28 ?_
  intro t1 h29
  refine st_ld_q 768 640 rfl ?_
  refine st_ld_kt 5 0 512 rfl ?_
  refine st_ld_v 5 512 0 rfl ?_
  refine st_ld_ctx 768 640 rfl ?_
  refine st_head (b := 3) (h := 5) (n := 29) rfl (by decide) rfl rfl h29 ?_
  intro t2 h30
  exact hk _ h30

theorem p21_ok {kk : (Σ' (v714 : FVec F S256x1 .f32) (v715 : FVec F S256x512 .bf16) (v717 : FVec F S512x128 .bf16), FVec F S256x128 .f32) → PG F α}
    (h30 : CtxUpTo I c 30 t)
    (hk : ∀ t', CtxUpTo I c 31 t' → MS I K c ⟨o, p, Qv I c, t'⟩ ⟨0, 0, 0, 0, 0⟩ R ⊢ WP c (kk ⟨k0_pay71 (k0_pay57 (F := F)) (slab 256 128 (Qv I c) 768 896) (slabK (I.kt c) 7 0 512), k0_pay72 (k0_pay57 (F := F)) (slab 256 128 (Qv I c) 768 896) (slabK (I.kt c) 7 0 512), k0_pay73 (slabV (I.v c) 7 512 0), constant S256x128 .f32 0x00000000#32⟩) Q) :
    MS I K c ⟨o, p, Qv I c, t⟩ ⟨0, 0, 0, 0, 0⟩ R ⊢ WP c (onBufs (k0_part21 (F := F)) (k0_pay57 (F := F)) >>= kk) Q := by
  simp only [onBufs, k0_part21_eq_skeleton]
  unfold k0_part21_skel
  simp only [Prog.lift, Prog.bind_op, Prog.bind_ret, Prog.pure_eq_ret, Prog.bind_assoc]
  refine st_ld_q 768 768 rfl ?_
  refine st_ld_kt 6 0 512 rfl ?_
  refine st_ld_v 6 512 0 rfl ?_
  refine st_ld_ctx 768 768 rfl ?_
  refine st_head (b := 3) (h := 6) (n := 30) rfl (by decide) rfl rfl h30 ?_
  intro t1 h31
  refine st_ld_q 768 896 rfl ?_
  refine st_ld_kt 7 0 512 rfl ?_
  refine st_ld_v 7 512 0 rfl ?_
  exact hk _ h31

end Cert.KernelIdeal.Mesh

end
-- ==== Proof.Give0.lean ====
/-
  The partial products handed out.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p22_ok {kk : (Σ' (v727 : BitVec 32) (v728 : BitVec 32) (v749 : BitVec 32), BitVec 32) → PG F α}
    (h31 : CtxUpTo I c 31 t)
    (hk : ∀ w0 w1 w2 w3, MS I K c ⟨o, p, Qv I c, ctxV I c⟩ ⟨1, 1, 0, 0, 0⟩ R ⊢ WP c (kk ⟨w0, w1, w2, w3⟩) Q) (v2 : BitVec 32) :
    MS I K c ⟨o, p, Qv I c, t⟩ ⟨0, 0, 0, 0, 0⟩ R ⊢ WP c (onBufs (k0_part22 (F := F)) c v2 (k0_pay71 (k0_pay57 (F := F)) (slab 256 128 (Qv I c) 768 896) (slabK (I.kt c) 7 0 512)) (k0_pay72 (k0_pay57 (F := F)) (slab 256 128 (Qv I c) 768 896) (slabK (I.kt c) 7 0 512)) (k0_pay73 (slabV (I.v c) 7 512 0)) (constant S256x128 .f32 0x00000000#32) >>= kk) Q := by
  simp only [onBufs, k0_part22_eq_skeleton]
  unfold k0_part22_skel
  simp only [Prog.lift, Prog.bind_op, Prog.bind_ret, Prog.pure_eq_ret, Prog.bind_assoc]
  refine st_ld_ctx 768 896 rfl ?_
  refine st_head (b := 3) (h := 7) (n := 31) rfl (by decide) rfl rfl h31 ?_
  intro t1 h32
  obtain rfl := ctx_all h32
  refine st_ld_ctx (srow 0 c) 0 (off1_1 c) ?_
  refine st_ld_wo 0 0 rfl ?_
  refine st_ld_dead (r := 0) rfl (by decide +kernel) (fun _ => ?_)
  refine st_arm 0 rfl rfl (ct' := ⟨1, 0, 0, 0, 0⟩) rfl rfl (by decide) (by decide +kernel) (by decide) (fun y => (congrFun (pay75_eq _ _) y).trans (sent_first (by decide) y)) ?_
  refine st_send_4 0 (by decide) rfl rfl rfl (dev_eq 0 c _ (dev7_eq c)) rfl rfl (ct' := ⟨1, 1, 0, 0, 0⟩) rfl rfl (by decide) ?_
  exact hk _ _ _ _

theorem p23_ok {kk : (Σ' (v770 : BitVec 32), FVec F S128x1024 .bf16) → PG F α}
    (hk : ∀ w0, MS I K c ⟨o, p, Qv I c, ctxV I c⟩ ⟨2, 2, 0, 0, 0⟩ R ⊢ WP c (kk ⟨w0, k0_pay77 (slab 128 1024 (ctxV I c) (srow 2 c) 0) (slab 1024 1024 (I.wo c) 0 0)⟩) Q) (v2 : BitVec 32) (v749 : BitVec 32) (c3_i32_495 : BitVec 32) :
    MS I K c ⟨o, p, Qv I c, ctxV I c⟩ ⟨1, 1, 0, 0, 0⟩ R ⊢ WP c (onBufs (k0_part23 (F := F)) c v2 v749 c3_i32_495 >>= kk) Q := by
  simp only [onBufs, k0_part23_eq_skeleton]
  unfold k0_part23_skel
  simp only [Prog.lift, Prog.bind_op, Prog.bind_ret, Prog.pure_eq_ret, Prog.bind_assoc]
  refine st_ld_ctx (srow 1 c) 0 (off1_2 c) ?_
  refine st_ld_wo 0 0 rfl ?_
  refine st_ld_dead (r := 128) rfl (by decide +kernel) (fun _ => ?_)
  refine st_arm 1 rfl rfl (ct' := ⟨2, 1, 0, 0, 0⟩) rfl rfl (by decide) (by decide +kernel) (by decide) (fun y => (congrFun (pay76_eq _ _) y).trans (sent_first (by decide) y)) ?_
  refine st_send_4 1 (by decide) rfl rfl rfl (dev_eq 1 c _ (dev8_eq c)) rfl rfl (ct' := ⟨2, 2, 0, 0, 0⟩) rfl rfl (by decide) ?_
  refine st_ld_ctx (srow 2 c) 0 (off1_3 c) ?_
  refine st_ld_wo 0 0 rfl ?_
  refine st_ld_dead (r := 256) rfl (by decide +kernel) (fun _ => ?_)
  exact hk _

theorem p24_ok {kk : (Σ' (v810 : BitVec 32) (v811 : BitVec 32) (c4_i32_541 : BitVec 32) (v812 : BitVec 32), BitVec 32) → PG F α}
    (hk : ∀ w0 w1 w2 w3 w4, MS I K c ⟨o, p, Qv I c, ctxV I c⟩ ⟨3, 3, 0, 0, 0⟩ R ⊢ WP c (kk ⟨w0, w1, w2, w3, w4⟩) Q) (v2 : BitVec 32) (v770 : BitVec 32) :
    MS I K c ⟨o, p, Qv I c, ctxV I c⟩ ⟨2, 2, 0, 0, 0⟩ R ⊢ WP c (onBufs (k0_part24 (F := F)) c v2 v770 (k0_pay77 (slab 128 1024 (ctxV I c) (srow 2 c) 0) (slab 1024 1024 (I.wo c) 0 0)) >>= kk) Q := by
  simp only [onBufs, k0_part24_eq_skeleton]
  unfold k0_part24_skel
  simp only [Prog.lift, Prog.bind_op, Prog.bind_ret, Prog.pure_eq_ret, Prog.bind_assoc]
  refine st_arm 2 rfl rfl (ct' := ⟨3, 2, 0, 0, 0⟩) rfl rfl (by decide) (by decide +kernel) (by decide) (fun y => (congrFun (pay78_eq _ _) y).trans (sent_first (by decide) y)) ?_
  refine st_send_4 2 (by decide) rfl rfl rfl (dev_eq 2 c _ (dev9_eq c)) rfl rfl (ct' := ⟨3, 3, 0, 0, 0⟩) rfl rfl (by decide) ?_
  exact hk _ _ _ _ _

theorem p25_ok {kk : (Σ' (v849 : BitVec 32) (c4_i32_566 : BitVec 32) (v850 : BitVec 32), BitVec 1) → PG F α}
    (hk : ∀ w0 w1 w2 w3, MS I K c ⟨o, p, Qv I c, ctxV I c⟩ ⟨4, 4, 0, 0, 0⟩ R ⊢ WP c (kk ⟨w0, w1, w2, w3⟩) Q) (v2 : BitVec 32) (v811 : BitVec 32) (c4_i32_541 : BitVec 32) (v812 : BitVec 32) (v817 : BitVec 32) :
    MS I K c ⟨o, p, Qv I c, ctxV I c⟩ ⟨3, 3, 0, 0, 0⟩ R ⊢ WP c (onBufs (k0_part25 (F := F)) c v2 v811 c4_i32_541 v812 v817 >>= kk) Q := by
  simp only [onBufs, k0_part25_eq_skeleton]
  unfold k0_part25_skel
  simp only [Prog.lift, Prog.bind_op, Prog.bind_ret, Prog.pure_eq_ret, Prog.bind_assoc]
  refine st_ld_ctx (srow 3 c) 0 (off2_4 c) ?_
  refine st_ld_wo 0 0 rfl ?_
  refine st_ld_dead (r := 384) rfl (by decide +kernel) (fun _ => ?_)
  refine st_arm 3 rfl rfl (ct' := ⟨4, 3, 0, 0, 0⟩) rfl rfl (by decide) (by decide +kernel) (by decide) (fun y => (congrFun (pay79_eq _ _) y).trans (sent_first (by decide) y)) ?_
  refine st_send_4 3 (by decide) rfl rfl rfl (dev_eq 3 c _ (dev10_eq c)) rfl rfl (ct' := ⟨4, 4, 0, 0, 0⟩) rfl rfl (by decide) ?_
  exact hk _ _ _ _

theorem p26_ok {kk : (BitVec 32) → PG F α}
    (hk : ∀ w0, MS I K c ⟨o, p, Qv I c, ctxV I c⟩ ⟨5, 5, 0, 0, 0⟩ R ⊢ WP c (kk (w0)) Q) (v849 : BitVec 32) (c4_i32_566 : BitVec 32) (v850 : BitVec 32) (v851 : BitVec 1) :
    MS I K c ⟨o, p, Qv I c, ctxV I c⟩ ⟨4, 4, 0, 0, 0⟩ R ⊢ WP c (onBufs (k0_part26 (F := F)) c v849 c4_i32_566 v850 v851 >>= kk) Q := by
  simp only [onBufs, k0_part26_eq_skeleton]
  unfold k0_part26_skel
  simp only [Prog.lift, Prog.bind_op, Prog.bind_ret, Prog.pure_eq_ret, Prog.bind_assoc]
  refine st_ld_ctx (srow 4 c) 0 (off2_8 c) ?_
  refine st_ld_wo 0 0 rfl ?_
  refine st_ld_dead (r := 512) rfl (by decide +kernel) (fun _ => ?_)
  refine st_arm 4 rfl rfl (ct' := ⟨5, 4, 0, 0, 0⟩) rfl rfl (by decide) (by decide +kernel) (by decide) (fun y => (congrFun (pay80_eq _ _) y).trans (sent_first (by decide) y)) ?_
  refine st_send_4 4 (by decide) rfl rfl rfl (dev_eq 4 c _ (dev11_eq c)) rfl rfl (ct' := ⟨5, 5, 0, 0, 0⟩) rfl rfl (by decide) ?_
  exact hk _

theorem p27_ok {kk : (BitVec 32) → PG F α}
    (hk : ∀ w0, MS I K c ⟨o, p, Qv I c, ctxV I c⟩ ⟨6, 5, 0, 0, 0⟩ R ⊢ WP c (kk (w0)) Q) (v2 : BitVec 32) (c12_i32_590 : BitVec 32) :
    MS I K c ⟨o, p, Qv I c, ctxV I c⟩ ⟨5, 5, 0, 0, 0⟩ R ⊢ WP c (onBufs (k0_part27 (F := F)) c v2 c12_i32_590 >>= kk) Q := by
  simp only [onBufs, k0_part27_eq_skeleton]
  unfold k0_part27_skel
  simp only [Prog.lift, Prog.bind_op, Prog.bind_ret, Prog.pure_eq_ret, Prog.bind_assoc]
  refine st_ld_ctx (srow 5 c) 0 (off2_12 c) ?_
  refine st_ld_wo 0 0 rfl ?_
  refine st_ld_dead (r := 640) rfl (by decide +kernel) (fun _ => ?_)
  refine st_arm 5 rfl rfl (ct' := ⟨6, 5, 0, 0, 0⟩) rfl rfl (by decide) (by decide +kernel) (by decide) (fun y => (congrFun (pay81_eq _ _) y).trans (sent_first (by decide) y)) ?_
  exact hk _

end Cert.KernelIdeal.Mesh

end
-- ==== Proof.Give1.lean ====
/-
  The partial products taken in and summed.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p28_ok {kk : (PUnit) → PG F α}
    (hk : ∀ p', Has p' (A0 I c) [(keep0 1 c, 128), (keep0 0 c, 128)] → MS I K c ⟨o, p', Qv I c, ctxV I c⟩ ⟨6, 6, 1, 0, 0⟩ R ⊢ WP c (kk ⟨⟩) Q) (v727 : BitVec 32) (v728 : BitVec 32) (v810 : BitVec 32) :
    MS I K c ⟨o, p, Qv I c, ctxV I c⟩ ⟨6, 5, 0, 0, 0⟩ R ⊢ WP c (onBufs (k0_part28 (F := F)) c v727 v728 v810 >>= kk) Q := by
  simp only [onBufs, k0_part28_eq_skeleton]
  unfold k0_part28_skel
  simp only [Prog.lift, Prog.bind_op, Prog.bind_ret, Prog.pure_eq_ret, Prog.bind_assoc]
  refine st_send_4 5 (by decide) rfl rfl rfl (dev_eq 5 c _ (dev12_eq c)) rfl rfl (ct' := ⟨6, 6, 0, 0, 0⟩) rfl rfl (by decide) ?_
  refine st_ld_ctx (keep0 0 c) 0 (off3_eq c) ?_
  refine st_ld_wo 0 0 rfl ?_
  refine st_ld_p (keep0 0 c) 0 (off3_eq c) ?_
  refine st_p (keep0 0 c) (off3_eq c) ?_
  intro p1 e1
  have fP : Has p1 (A0 I c) [(keep0 0 c, 128)] := e1 ▸ has_put (fun y => a0_val (keep0_0 c) y) has_nil
  refine st_ld_ctx (keep0 1 c) 0 (off4_eq c) ?_
  refine st_ld_wo 0 0 rfl ?_
  refine st_ld_p (keep0 1 c) 0 (off4_eq c) ?_
  refine st_p (keep0 1 c) (off4_eq c) ?_
  intro p2 e2
  have fP : Has p2 (A0 I c) [(keep0 1 c, 128), (keep0 0 c, 128)] := e2 ▸ has_put (fun y => (congrFun (pay83_eq _ _) y).trans (a0_val (keep0_1 c) y)) fP
  refine st_depart 0 rfl rfl (ct' := ⟨6, 6, 1, 0, 0⟩) rfl rfl (by decide) ?_
  exact hk _ fP

theorem p29_ok {kk : (Vec F S128x1024 .f32) → PG F α}
    (fP : Has p (A0 I c) [(keep0 1 c, 128), (keep0 0 c, 128)])
    (hk : MS I K c ⟨o, p, Qv I c, ctxV I c⟩ ⟨6, 6, 3, 3, 0⟩ R ⊢ WP c (kk ((slab 128 1024 p (keep0 0 c) 0))) Q) (v727 : BitVec 32) (v749 : BitVec 32) (v770 : BitVec 32) :
    MS I K c ⟨o, p, Qv I c, ctxV I c⟩ ⟨6, 6, 1, 0, 0⟩ R ⊢ WP c (onBufs (k0_part29 (F := F)) c v727 v749 v770 >>= kk) Q := by
  simp only [onBufs, k0_part29_eq_skeleton]
  unfold k0_part29_skel
  simp only [Prog.lift, Prog.bind_op, Prog.bind_ret, Prog.pure_eq_ret, Prog.bind_assoc]
  refine st_arrive4 0 rfl rfl (ct' := ⟨6, 6, 1, 1, 0⟩) rfl rfl (by decide) ?_
  refine st_depart 1 rfl rfl (ct' := ⟨6, 6, 2, 1, 0⟩) rfl rfl (by decide) ?_
  refine st_arrive4 1 rfl rfl (ct' := ⟨6, 6, 2, 2, 0⟩) rfl rfl (by decide) ?_
  refine st_depart 2 rfl rfl (ct' := ⟨6, 6, 3, 2, 0⟩) rfl rfl (by decide) ?_
  refine st_arrive4 2 rfl rfl (ct' := ⟨6, 6, 3, 3, 0⟩) rfl rfl (by decide) ?_
  refine st_ld_p (keep0 0 c) 0 (off3_eq c) ?_
  exact hk

theorem p30_ok {kk : (BitVec 32) → PG F α}
    (fP : Has p (A0 I c) [(keep0 1 c, 128), (keep0 0 c, 128)])
    (hk : ∀ o', Has o' (A1 I c) [(keep0 0 c, 128)] → ∀ w0, MS I K c ⟨o', p, Qv I c, ctxV I c⟩ ⟨6, 6, 5, 4, 0⟩ R ⊢ WP c (kk (w0)) Q) (v727 : BitVec 32) (v811 : BitVec 32) (v849 : BitVec 32) :
    MS I K c ⟨o, p, Qv I c, ctxV I c⟩ ⟨6, 6, 3, 3, 0⟩ R ⊢ WP c (onBufs (k0_part30 (F := F)) c v727 v811 v849 ((slab 128 1024 p (keep0 0 c) 0)) >>= kk) Q := by
  simp only [onBufs, k0_part30_eq_skeleton]
  unfold k0_part30_skel
  simp only [Prog.lift, Prog.bind_op, Prog.bind_ret, Prog.pure_eq_ret, Prog.bind_assoc]
  refine st_ld_land_4 0 (by decide) rfl rfl (by decide) ?_
  refine st_ld_land_4 1 (by decide) rfl rfl (by decide) ?_
  refine st_ld_land_4 2 (by decide) rfl rfl (by decide) ?_
  refine st_ld_out (keep0 0 c) 0 (off3_eq c) ?_
  refine st_out (keep0 0 c) (off3_eq c) ?_
  intro o1 e1
  have gO1 : Has o1 (A1 I c) [(keep0 0 c, 128)] := e1 ▸ has_put (fun y => (congrFun (pay84_eq _ _ _ _) y).trans ((red_val (k0 := 0) (k1 := 1) (k2 := 2) ⟨rfl, rfl, rfl⟩ (red_rows0 c) (has_slab fP ((by decide +kernel : ∀ c : Dev nD, ∃ pr ∈ [(keep0 1 c, 128), (keep0 0 c, 128)], pr.1 ≤ keep0 0 c ∧ keep0 0 c + 128 ≤ pr.1 + pr.2 ∧ keep0 0 c + 128 ≤ 1024) c)) y).trans (red0 c y))) has_nil
  rename Has o1 (A1 I c) _ => fO1
  refine st_depart 3 rfl rfl (ct' := ⟨6, 6, 4, 3, 0⟩) rfl rfl (by decide) ?_
  refine st_arrive4 3 rfl rfl (ct' := ⟨6, 6, 4, 4, 0⟩) rfl rfl (by decide) ?_
  refine st_depart 4 rfl rfl (ct' := ⟨6, 6, 5, 4, 0⟩) rfl rfl (by decide) ?_
  exact hk _ fO1 _

theorem p31_ok {kk : (PUnit) → PG F α}
    (fP : Has p (A0 I c) [(keep0 1 c, 128), (keep0 0 c, 128)])
    (fO1 : Has o (A1 I c) [(keep0 0 c, 128)])
    (hk : ∀ o', Has o' (A1 I c) [(keep0 1 c, 128), (keep0 0 c, 128)] → MS I K c ⟨o', p, Qv I c, ctxV I c⟩ ⟨6, 6, 6, 6, 0⟩ R ⊢ WP c (kk ⟨⟩) Q) (v810 : BitVec 32) (v887 : BitVec 32) (v1000 : BitVec 32) :
    MS I K c ⟨o, p, Qv I c, ctxV I c⟩ ⟨6, 6, 5, 4, 0⟩ R ⊢ WP c (onBufs (k0_part31 (F := F)) c v810 v887 v1000 >>= kk) Q := by
  simp only [onBufs, k0_part31_eq_skeleton]
  unfold k0_part31_skel
  simp only [Prog.lift, Prog.bind_op, Prog.bind_ret, Prog.pure_eq_ret, Prog.bind_assoc]
  refine st_arrive4 4 rfl rfl (ct' := ⟨6, 6, 5, 5, 0⟩) rfl rfl (by decide) ?_
  refine st_depart 5 rfl rfl (ct' := ⟨6, 6, 6, 5, 0⟩) rfl rfl (by decide) ?_
  refine st_arrive4 5 rfl rfl (ct' := ⟨6, 6, 6, 6, 0⟩) rfl rfl (by decide) ?_
  refine st_ld_p (keep0 1 c) 0 (off4_eq c) ?_
  refine st_ld_land_4 3 (by decide) rfl rfl (by decide) ?_
  refine st_ld_land_4 4 (by decide) rfl rfl (by decide) ?_
  refine st_ld_land_4 5 (by decide) rfl rfl (by decide) ?_
  refine st_ld_out (keep0 1 c) 0 (off4_eq c) ?_
  refine st_out (keep0 1 c) (off4_eq c) ?_
  intro o1 e1
  have gO1 : Has o1 (A1 I c) [(keep0 1 c, 128), (keep0 0 c, 128)] := e1 ▸ has_put (fun y => (congrFun (pay85_eq _ _ _ _) y).trans ((red_val (k0 := 3) (k1 := 4) (k2 := 5) ⟨rfl, rfl, rfl⟩ (red_rows1 c) (has_slab fP ((by decide +kernel : ∀ c : Dev nD, ∃ pr ∈ [(keep0 1 c, 128), (keep0 0 c, 128)], pr.1 ≤ keep0 1 c ∧ keep0 1 c + 128 ≤ pr.1 + pr.2 ∧ keep0 1 c + 128 ≤ 1024) c)) y).trans (red1 c y))) fO1
  clear fO1
  rename Has o1 (A1 I c) _ => fO1
  exact hk _ fO1

theorem p32_ok {kk : (Σ' (v1048 : BitVec 32) (v1049 : BitVec 32), BitVec 32) → PG F α}
    (fO1 : Has o (A1 I c) [(keep0 1 c, 128), (keep0 0 c, 128)])
    (hk : ∀ w0 w1 w2, MS I K c ⟨o, p, Qv I c, ctxV I c⟩ ⟨6, 6, 6, 6, 0⟩ R ⊢ WP c (kk ⟨w0, w1, w2⟩) Q) (v2 : BitVec 32) (v727 : BitVec 32) :
    MS I K c ⟨o, p, Qv I c, ctxV I c⟩ ⟨6, 6, 6, 6, 0⟩ R ⊢ WP c (onBufs (k0_part32 (F := F)) v2 v727 >>= kk) Q := by
  simp only [onBufs, k0_part32_eq_skeleton]
  unfold k0_part32_skel
  simp only [Prog.lift, Prog.bind_op, Prog.bind_ret, Prog.pure_eq_ret, Prog.bind_assoc]
  exact hk _ _ _

end Cert.KernelIdeal.Mesh

end
-- ==== Proof.Give2.lean ====
/-
  The sums of a quarter handed out, taken in and summed.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p33_ok {kk : (BitVec 32) → PG F α}
    (fO1 : Has o (A1 I c) [(keep0 1 c, 128), (keep0 0 c, 128)])
    (hk : ∀ w0, MS I K c ⟨o, p, Qv I c, ctxV I c⟩ ⟨7, 7, 6, 6, 6⟩ R ⊢ WP c (kk (w0)) Q) (v2 : BitVec 32) (v727 : BitVec 32) (v1049 : BitVec 32) (v1069 : BitVec 32) :
    MS I K c ⟨o, p, Qv I c, ctxV I c⟩ ⟨6, 6, 6, 6, 6⟩ R ⊢ WP c (onBufs (k0_part33 (F := F)) c v2 v727 v1049 v1069 >>= kk) Q := by
  simp only [onBufs, k0_part33_eq_skeleton]
  unfold k0_part33_skel
  simp only [Prog.lift, Prog.bind_op, Prog.bind_ret, Prog.pure_eq_ret, Prog.bind_assoc]
  refine st_ld_out (srow 6 c) 0 (off5_4 c) ?_
  refine st_ld_dead (r := 0) rfl (by decide +kernel) (fun _ => ?_)
  refine st_arm 6 rfl rfl (ct' := ⟨7, 6, 6, 6, 6⟩) rfl rfl (by decide) (by decide +kernel) (by decide) (fun y => (congrFun (pay86_eq _) y).trans (sent_at (k := 6) rfl (has_slab fO1 ((by decide +kernel : ∀ c : Dev nD, ∃ pr ∈ [(keep0 1 c, 128), (keep0 0 c, 128)], pr.1 ≤ srow 6 c ∧ srow 6 c + 32 ≤ pr.1 + pr.2 ∧ srow 6 c + 32 ≤ 1024) c)) y)) ?_
  refine st_send_4 6 (by decide) rfl rfl rfl (dev_eq 6 c _ (dev13_eq c)) rfl rfl (ct' := ⟨7, 7, 6, 6, 6⟩) rfl rfl (by decide) ?_
  exact hk _

theorem p34_ok {kk : (BitVec 32) → PG F α}
    (fO1 : Has o (A1 I c) [(keep0 1 c, 128), (keep0 0 c, 128)])
    (hk : ∀ w0, MS I K c ⟨o, p, Qv I c, ctxV I c⟩ ⟨8, 8, 6, 6, 6⟩ R ⊢ WP c (kk (w0)) Q) (v2 : BitVec 32) (v727 : BitVec 32) (v1085 : BitVec 32) :
    MS I K c ⟨o, p, Qv I c, ctxV I c⟩ ⟨7, 7, 6, 6, 6⟩ R ⊢ WP c (onBufs (k0_part34 (F := F)) c v2 v727 v1085 >>= kk) Q := by
  simp only [onBufs, k0_part34_eq_skeleton]
  unfold k0_part34_skel
  simp only [Prog.lift, Prog.bind_op, Prog.bind_ret, Prog.pure_eq_ret, Prog.bind_assoc]
  refine st_ld_out (srow 7 c) 0 (off5_8 c) ?_
  refine st_ld_dead (r := 32) rfl (by decide +kernel) (fun _ => ?_)
  refine st_arm 7 rfl rfl (ct' := ⟨8, 7, 6, 6, 6⟩) rfl rfl (by decide) (by decide +kernel) (by decide) (fun y => (congrFun (pay87_eq _) y).trans (sent_at (k := 7) rfl (has_slab fO1 ((by decide +kernel : ∀ c : Dev nD, ∃ pr ∈ [(keep0 1 c, 128), (keep0 0 c, 128)], pr.1 ≤ srow 7 c ∧ srow 7 c + 32 ≤ pr.1 + pr.2 ∧ srow 7 c + 32 ≤ 1024) c)) y)) ?_
  refine st_send_4 7 (by decide) rfl rfl rfl (dev_eq 7 c _ (dev14_eq c)) rfl rfl (ct' := ⟨8, 8, 6, 6, 6⟩) rfl rfl (by decide) ?_
  exact hk _

theorem p35_ok {kk : (Σ' (v1159 : BitVec 32), BitVec 32) → PG F α}
    (fO1 : Has o (A1 I c) [(keep0 1 c, 128), (keep0 0 c, 128)])
    (hk : ∀ w0 w1, MS I K c ⟨o, p, Qv I c, ctxV I c⟩ ⟨10, 9, 6, 6, 6⟩ R ⊢ WP c (kk ⟨w0, w1⟩) Q) (v2 : BitVec 32) (v810 : BitVec 32) (v1121 : BitVec 32) :
    MS I K c ⟨o, p, Qv I c, ctxV I c⟩ ⟨8, 8, 6, 6, 6⟩ R ⊢ WP c (onBufs (k0_part35 (F := F)) c v2 v810 v1121 >>= kk) Q := by
  simp only [onBufs, k0_part35_eq_skeleton]
  unfold k0_part35_skel
  simp only [Prog.lift, Prog.bind_op, Prog.bind_ret, Prog.pure_eq_ret, Prog.bind_assoc]
  refine st_ld_out (srow 8 c) 0 (off5_12 c) ?_
  refine st_ld_dead (r := 64) rfl (by decide +kernel) (fun _ => ?_)
  refine st_arm 8 rfl rfl (ct' := ⟨9, 8, 6, 6, 6⟩) rfl rfl (by decide) (by decide +kernel) (by decide) (fun y => (congrFun (pay88_eq _) y).trans (sent_at (k := 8) rfl (has_slab fO1 ((by decide +kernel : ∀ c : Dev nD, ∃ pr ∈ [(keep0 1 c, 128), (keep0 0 c, 128)], pr.1 ≤ srow 8 c ∧ srow 8 c + 32 ≤ pr.1 + pr.2 ∧ srow 8 c + 32 ≤ 1024) c)) y)) ?_
  refine st_send_4 8 (by decide) rfl rfl rfl (dev_eq 8 c _ (dev15_eq c)) rfl rfl (ct' := ⟨9, 9, 6, 6, 6⟩) rfl rfl (by decide) ?_
  refine st_ld_out (srow 9 c) 0 (off6_1 c) ?_
  refine st_ld_dead (r := 384) rfl (by decide +kernel) (fun _ => ?_)
  refine st_arm 9 rfl rfl (ct' := ⟨10, 9, 6, 6, 6⟩) rfl rfl (by decide) (by decide +kernel) (by decide) (fun y => (congrFun (pay89_eq _) y).trans (sent_at (k := 9) rfl (has_slab fO1 ((by decide +kernel : ∀ c : Dev nD, ∃ pr ∈ [(keep0 1 c, 128), (keep0 0 c, 128)], pr.1 ≤ srow 9 c ∧ srow 9 c + 32 ≤ pr.1 + pr.2 ∧ srow 9 c + 32 ≤ 1024) c)) y)) ?_
  exact hk _ _

theorem p36_ok {kk : (Σ' (v1179 : BitVec 32), BitVec 32) → PG F α}
    (fO1 : Has o (A1 I c) [(keep0 1 c, 128), (keep0 0 c, 128)])
    (hk : ∀ w0 w1, MS I K c ⟨o, p, Qv I c, ctxV I c⟩ ⟨12, 11, 6, 6, 6⟩ R ⊢ WP c (kk ⟨w0, w1⟩) Q) (v2 : BitVec 32) (v810 : BitVec 32) :
    MS I K c ⟨o, p, Qv I c, ctxV I c⟩ ⟨10, 9, 6, 6, 6⟩ R ⊢ WP c (onBufs (k0_part36 (F := F)) c v2 v810 >>= kk) Q := by
  simp only [onBufs, k0_part36_eq_skeleton]
  unfold k0_part36_skel
  simp only [Prog.lift, Prog.bind_op, Prog.bind_ret, Prog.pure_eq_ret, Prog.bind_assoc]
  refine st_send_4 9 (by decide) rfl rfl rfl (dev_eq 9 c _ (dev16_eq c)) rfl rfl (ct' := ⟨10, 10, 6, 6, 6⟩) rfl rfl (by decide) ?_
  refine st_ld_out (srow 10 c) 0 (off6_2 c) ?_
  refine st_ld_dead (r := 416) rfl (by decide +kernel) (fun _ => ?_)
  refine st_arm 10 rfl rfl (ct' := ⟨11, 10, 6, 6, 6⟩) rfl rfl (by decide) (by decide +kernel) (by decide) (fun y => (congrFun (pay90_eq _) y).trans (sent_at (k := 10) rfl (has_slab fO1 ((by decide +kernel : ∀ c : Dev nD, ∃ pr ∈ [(keep0 1 c, 128), (keep0 0 c, 128)], pr.1 ≤ srow 10 c ∧ srow 10 c + 32 ≤ pr.1 + pr.2 ∧ srow 10 c + 32 ≤ 1024) c)) y)) ?_
  refine st_send_4 10 (by decide) rfl rfl rfl (dev_eq 10 c _ (dev17_eq c)) rfl rfl (ct' := ⟨11, 11, 6, 6, 6⟩) rfl rfl (by decide) ?_
  refine st_ld_out (srow 11 c) 0 (off6_3 c) ?_
  refine st_ld_dead (r := 448) rfl (by decide +kernel) (fun _ => ?_)
  refine st_arm 11 rfl rfl (ct' := ⟨12, 11, 6, 6, 6⟩) rfl rfl (by decide) (by decide +kernel) (by decide) (fun y => (congrFun (pay91_eq _) y).trans (sent_at (k := 11) rfl (has_slab fO1 ((by decide +kernel : ∀ c : Dev nD, ∃ pr ∈ [(keep0 1 c, 128), (keep0 0 c, 128)], pr.1 ≤ srow 11 c ∧ srow 11 c + 32 ≤ pr.1 + pr.2 ∧ srow 11 c + 32 ≤ 1024) c)) y)) ?_
  exact hk _ _

theorem p37_ok {kk : (Σ' (v1231 : BitVec 32), BitVec 32) → PG F α}
    (fO1 : Has o (A1 I c) [(keep0 1 c, 128), (keep0 0 c, 128)])
    (hk : ∀ w0 w1, MS I K c ⟨o, p, Qv I c, ctxV I c⟩ ⟨12, 12, 8, 7, 6⟩ R ⊢ WP c (kk ⟨w0, w1⟩) Q) (v1049 : BitVec 32) (v1085 : BitVec 32) (v1198 : BitVec 32) :
    MS I K c ⟨o, p, Qv I c, ctxV I c⟩ ⟨12, 11, 6, 6, 6⟩ R ⊢ WP c (onBufs (k0_part37 (F := F)) c v1049 v1085 v1198 >>= kk) Q := by
  simp only [onBufs, k0_part37_eq_skeleton]
  unfold k0_part37_skel
  simp only [Prog.lift, Prog.bind_op, Prog.bind_ret, Prog.pure_eq_ret, Prog.bind_assoc]
  refine st_send_4 11 (by decide) rfl rfl rfl (dev_eq 11 c _ (dev18_eq c)) rfl rfl (ct' := ⟨12, 12, 6, 6, 6⟩) rfl rfl (by decide) ?_
  refine st_depart 6 rfl rfl (ct' := ⟨12, 12, 7, 6, 6⟩) rfl rfl (by decide) ?_
  refine st_arrive4 6 rfl rfl (ct' := ⟨12, 12, 7, 7, 6⟩) rfl rfl (by decide) ?_
  refine st_depart 7 rfl rfl (ct' := ⟨12, 12, 8, 7, 6⟩) rfl rfl (by decide) ?_
  exact hk _ _

theorem p38_ok {kk : (PUnit) → PG F α}
    (fO1 : Has o (A1 I c) [(keep0 1 c, 128), (keep0 0 c, 128)])
    (hk : ∀ o', Has o' (A1 I c) [(keep0 1 c, 128)] → Has o' (A2 I c) [(keep1 0 c, 32)] → MS I K c ⟨o', p, Qv I c, ctxV I c⟩ ⟨12, 12, 9, 9, 6⟩ R ⊢ WP c (kk ⟨⟩) Q) (v1048 : BitVec 32) (v1121 : BitVec 32) (v1231 : BitVec 32) (c0_i32_853 : BitVec 32) :
    MS I K c ⟨o, p, Qv I c, ctxV I c⟩ ⟨12, 12, 8, 7, 6⟩ R ⊢ WP c (onBufs (k0_part38 (F := F)) c v1048 v1121 v1231 c0_i32_853 >>= kk) Q := by
  simp only [onBufs, k0_part38_eq_skeleton]
  unfold k0_part38_skel
  simp only [Prog.lift, Prog.bind_op, Prog.bind_ret, Prog.pure_eq_ret, Prog.bind_assoc]
  refine st_arrive4 7 rfl rfl (ct' := ⟨12, 12, 8, 8, 6⟩) rfl rfl (by decide) ?_
  refine st_depart 8 rfl rfl (ct' := ⟨12, 12, 9, 8, 6⟩) rfl rfl (by decide) ?_
  refine st_arrive4 8 rfl rfl (ct' := ⟨12, 12, 9, 9, 6⟩) rfl rfl (by decide) ?_
  refine st_ld_out (keep1 0 c) 0 (off7_eq c) ?_
  refine st_ld_land_4 6 (by decide) rfl rfl (by decide) ?_
  refine st_ld_land_4 7 (by decide) rfl rfl (by decide) ?_
  refine st_ld_land_4 8 (by decide) rfl rfl (by decide) ?_
  refine st_ld_out (keep1 0 c) 0 (off7_eq c) ?_
  refine st_out (keep1 0 c) (off7_eq c) ?_
  intro o1 e1
  have gO2 : Has o1 (A2 I c) [(keep1 0 c, 32)] := e1 ▸ has_put (fun y => (congrFun (pay92_eq _ _ _ _) y).trans ((red_val (k0 := 6) (k1 := 7) (k2 := 8) ⟨rfl, rfl, rfl⟩ (red_rows2 c) (has_slab fO1 ((by decide +kernel : ∀ c : Dev nD, ∃ pr ∈ [(keep0 1 c, 128), (keep0 0 c, 128)], pr.1 ≤ keep1 0 c ∧ keep1 0 c + 32 ≤ pr.1 + pr.2 ∧ keep1 0 c + 32 ≤ 1024) c)) y).trans (red2 c y))) has_nil
  have gO1 : Has o1 (A1 I c) [(keep0 1 c, 128)] := e1 ▸ has_apart ((by decide +kernel : ∀ c : Dev nD, ∀ pr ∈ [(keep0 1 c, 128)], keep1 0 c + 32 ≤ pr.1 ∨ pr.1 + pr.2 ≤ keep1 0 c) c) (fun pr h => fO1 pr (List.mem_cons.mpr (.inl (List.mem_singleton.mp h))))
  clear fO1
  rename Has o1 (A1 I c) _ => fO1
  rename Has o1 (A2 I c) _ => fO2
  exact hk _ fO1 fO2

theorem p39_ok {kk : (PUnit) → PG F α}
    (fO1 : Has o (A1 I c) [(keep0 1 c, 128)])
    (fO2 : Has o (A2 I c) [(keep1 0 c, 32)])
    (hk : MS I K c ⟨o, p, Qv I c, ctxV I c⟩ ⟨12, 12, 11, 11, 6⟩ R ⊢ WP c (kk ⟨⟩) Q) (v1160 : BitVec 32) (v1179 : BitVec 32) :
    MS I K c ⟨o, p, Qv I c, ctxV I c⟩ ⟨12, 12, 9, 9, 6⟩ R ⊢ WP c (onBufs (k0_part39 (F := F)) v1160 v1179 >>= kk) Q := by
  simp only [onBufs, k0_part39_eq_skeleton]
  unfold k0_part39_skel
  simp only [Prog.lift, Prog.bind_op, Prog.bind_ret, Prog.pure_eq_ret, Prog.bind_assoc]
  refine st_depart 9 rfl rfl (ct' := ⟨12, 12, 10, 9, 6⟩) rfl rfl (by decide) ?_
  refine st_arrive4 9 rfl rfl (ct' := ⟨12, 12, 10, 10, 6⟩) rfl rfl (by decide) ?_
  refine st_depart 10 rfl rfl (ct' := ⟨12, 12, 11, 10, 6⟩) rfl rfl (by decide) ?_
  refine st_arrive4 10 rfl rfl (ct' := ⟨12, 12, 11, 11, 6⟩) rfl rfl (by decide) ?_
  exact hk

theorem p40_ok {kk : (Σ' (c4_i32_930 : BitVec 32) (v1305 : BitVec 32) (v1310 : BitVec 32), BitVec 32) → PG F α}
    (fO1 : Has o (A1 I c) [(keep0 1 c, 128)])
    (fO2 : Has o (A2 I c) [(keep1 0 c, 32)])
    (hk : ∀ o', Has o' (A2 I c) [(keep1 1 c, 32), (keep1 0 c, 32)] → ∀ w0 w1 w2 w3, MS I K c ⟨o', p, Qv I c, ctxV I c⟩ ⟨12, 12, 12, 12, 6⟩ R ⊢ WP c (kk ⟨w0, w1, w2, w3⟩) Q) (v2 : BitVec 32) (v1159 : BitVec 32) (v1198 : BitVec 32) :
    MS I K c ⟨o, p, Qv I c, ctxV I c⟩ ⟨12, 12, 11, 11, 6⟩ R ⊢ WP c (onBufs (k0_part40 (F := F)) c v2 v1159 v1198 >>= kk) Q := by
  simp only [onBufs, k0_part40_eq_skeleton]
  unfold k0_part40_skel
  simp only [Prog.lift, Prog.bind_op, Prog.bind_ret, Prog.pure_eq_ret, Prog.bind_assoc]
  refine st_depart 11 rfl rfl (ct' := ⟨12, 12, 12, 11, 6⟩) rfl rfl (by decide) ?_
  refine st_arrive4 11 rfl rfl (ct' := ⟨12, 12, 12, 12, 6⟩) rfl rfl (by decide) ?_
  refine st_ld_out (keep1 1 c) 0 (off8_eq c) ?_
  refine st_ld_land_4 9 (by decide) rfl rfl (by decide) ?_
  refine st_ld_land_4 10 (by decide) rfl rfl (by decide) ?_
  refine st_ld_land_4 11 (by decide) rfl rfl (by decide) ?_
  refine st_ld_out (keep1 1 c) 0 (off8_eq c) ?_
  refine st_out (keep1 1 c) (off8_eq c) ?_
  intro o1 e1
  have gO2 : Has o1 (A2 I c) [(keep1 1 c, 32), (keep1 0 c, 32)] := e1 ▸ has_put (fun y => (congrFun (pay93_eq _ _ _ _) y).trans ((red_val (k0 := 9) (k1 := 10) (k2 := 11) ⟨rfl, rfl, rfl⟩ (red_rows3 c) (has_slab fO1 ((by decide +kernel : ∀ c : Dev nD, ∃ pr ∈ [(keep0 1 c, 128)], pr.1 ≤ keep1 1 c ∧ keep1 1 c + 32 ≤ pr.1 + pr.2 ∧ keep1 1 c + 32 ≤ 1024) c)) y).trans (red3 c y))) fO2
  clear fO1
  clear fO2
  rename Has o1 (A2 I c) _ => fO2
  exact hk _ fO2 _ _ _ _

end Cert.KernelIdeal.Mesh

end
-- ==== Proof.Give3.lean ====
/-
  Finished rows handed on among the devices of a ring.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p41_ok {kk : (Σ' (v1324 : BitVec 32) (v1332 : BitVec 32), BitVec 32) → PG F α}
    (fO2 : Has o (A2 I c) [(keep1 1 c, 32), (keep1 0 c, 32)])
    (hk : ∀ w0 w1 w2, MS I K c ⟨o, p, Qv I c, ctxV I c⟩ ⟨15, 13, 12, 12, 12⟩ R ⊢ WP c (kk ⟨w0, w1, w2⟩) Q) (v2 : BitVec 32) (v1048 : BitVec 32) (c4_i32_930 : BitVec 32) (v1305 : BitVec 32) (v1310 : BitVec 32) (v1315 : BitVec 32) :
    MS I K c ⟨o, p, Qv I c, ctxV I c⟩ ⟨12, 12, 12, 12, 12⟩ R ⊢ WP c (onBufs (k0_part41 (F := F)) c v2 v1048 c4_i32_930 v1305 v1310 v1315 >>= kk) Q := by
  simp only [onBufs, k0_part41_eq_skeleton]
  unfold k0_part41_skel
  simp only [Prog.lift, Prog.bind_op, Prog.bind_ret, Prog.pure_eq_ret, Prog.bind_assoc]
  refine st_ld_out (keep1 0 c) 0 (off7_eq c) ?_
  refine st_ld_dead (r := 0) rfl (by decide +kernel) (fun _ => ?_)
  refine st_arm3 (trip12 I) rfl rfl (ct' := ⟨15, 12, 12, 12, 12⟩) rfl rfl (by decide) (by decide +kernel) (fun y => (congrFun (pay94_eq _) y).trans (sent_at (k := 12) (arm_row12 c) (has_slab fO2 ((by decide +kernel : ∀ c : Dev nD, ∃ pr ∈ [(keep1 1 c, 32), (keep1 0 c, 32)], pr.1 ≤ keep1 0 c ∧ keep1 0 c + 32 ≤ pr.1 + pr.2 ∧ keep1 0 c + 32 ≤ 1024) c)) y)) ?_
  refine st_send_5 12 (by decide) rfl rfl rfl (dev_eq 12 c _ (dev19_eq c)) rfl rfl (ct' := ⟨15, 13, 12, 12, 12⟩) rfl rfl (by decide) ?_
  exact hk _ _ _

theorem p42_ok {kk : (Σ' (v1350 : BitVec 32) (v1361 : BitVec 32) (v1369 : BitVec 32), BitVec 32) → PG F α}
    (fO2 : Has o (A2 I c) [(keep1 1 c, 32), (keep1 0 c, 32)])
    (hk : ∀ w0 w1 w2 w3, MS I K c ⟨o, p, Qv I c, ctxV I c⟩ ⟨18, 16, 12, 12, 12⟩ R ⊢ WP c (kk ⟨w0, w1, w2, w3⟩) Q) (v2 : BitVec 32) (v1159 : BitVec 32) :
    MS I K c ⟨o, p, Qv I c, ctxV I c⟩ ⟨15, 13, 12, 12, 12⟩ R ⊢ WP c (onBufs (k0_part42 (F := F)) c v2 v1159 >>= kk) Q := by
  simp only [onBufs, k0_part42_eq_skeleton]
  unfold k0_part42_skel
  simp only [Prog.lift, Prog.bind_op, Prog.bind_ret, Prog.pure_eq_ret, Prog.bind_assoc]
  refine st_send_5 13 (by decide) rfl rfl rfl (dev_eq 13 c _ (dev20_eq c)) rfl rfl (ct' := ⟨15, 14, 12, 12, 12⟩) rfl rfl (by decide) ?_
  refine st_send_5 14 (by decide) rfl rfl rfl (dev_eq 14 c _ (dev21_eq c)) rfl rfl (ct' := ⟨15, 15, 12, 12, 12⟩) rfl rfl (by decide) ?_
  refine st_ld_out (keep1 1 c) 0 (off8_eq c) ?_
  refine st_ld_dead (r := 384) rfl (by decide +kernel) (fun _ => ?_)
  refine st_arm3 (trip15 I) rfl rfl (ct' := ⟨18, 15, 12, 12, 12⟩) rfl rfl (by decide) (by decide +kernel) (fun y => (congrFun (pay95_eq _) y).trans (sent_at (k := 15) (arm_row15 c) (has_slab fO2 ((by decide +kernel : ∀ c : Dev nD, ∃ pr ∈ [(keep1 1 c, 32), (keep1 0 c, 32)], pr.1 ≤ keep1 1 c ∧ keep1 1 c + 32 ≤ pr.1 + pr.2 ∧ keep1 1 c + 32 ≤ 1024) c)) y)) ?_
  refine st_send_5 15 (by decide) rfl rfl rfl (dev_eq 15 c _ (dev22_eq c)) rfl rfl (ct' := ⟨18, 16, 12, 12, 12⟩) rfl rfl (by decide) ?_
  exact hk _ _ _ _

theorem p43_ok {kk : (BitVec 32) → PG F α}
    (fO2 : Has o (A2 I c) [(keep1 1 c, 32), (keep1 0 c, 32)])
    (hk : ∀ w0, MS I K c ⟨o, p, Qv I c, ctxV I c⟩ ⟨18, 18, 13, 12, 12⟩ R ⊢ WP c (kk (w0)) Q) (v2 : BitVec 32) (v1332 : BitVec 32) (v1378 : BitVec 32) :
    MS I K c ⟨o, p, Qv I c, ctxV I c⟩ ⟨18, 16, 12, 12, 12⟩ R ⊢ WP c (onBufs (k0_part43 (F := F)) c v2 v1332 v1378 >>= kk) Q := by
  simp only [onBufs, k0_part43_eq_skeleton]
  unfold k0_part43_skel
  simp only [Prog.lift, Prog.bind_op, Prog.bind_ret, Prog.pure_eq_ret, Prog.bind_assoc]
  refine st_send_5 16 (by decide) rfl rfl rfl (dev_eq 16 c _ (dev23_eq c)) rfl rfl (ct' := ⟨18, 17, 12, 12, 12⟩) rfl rfl (by decide) ?_
  refine st_send_5 17 (by decide) rfl rfl rfl (dev_eq 17 c _ (dev24_eq c)) rfl rfl (ct' := ⟨18, 18, 12, 12, 12⟩) rfl rfl (by decide) ?_
  refine st_depart 12 rfl rfl (ct' := ⟨18, 18, 13, 12, 12⟩) rfl rfl (by decide) ?_
  exact hk _

theorem p44_ok {kk : (PUnit) → PG F α}
    (fO2 : Has o (A2 I c) [(keep1 1 c, 32), (keep1 0 c, 32)])
    (hk : ∀ o', Has o' (A3 I c) [(srow 12 (peer 12 c), 32), (keep1 1 c, 32), (keep1 0 c, 32)] → MS I K c ⟨o', p, Qv I c, ctxV I c⟩ ⟨18, 18, 14, 13, 12⟩ R ⊢ WP c (kk ⟨⟩) Q) (v2 : BitVec 32) (v1324 : BitVec 32) (v1341 : BitVec 32) :
    MS I K c ⟨o, p, Qv I c, ctxV I c⟩ ⟨18, 18, 13, 12, 12⟩ R ⊢ WP c (onBufs (k0_part44 (F := F)) c v2 v1324 v1341 >>= kk) Q := by
  simp only [onBufs, k0_part44_eq_skeleton]
  unfold k0_part44_skel
  simp only [Prog.lift, Prog.bind_op, Prog.bind_ret, Prog.pure_eq_ret, Prog.bind_assoc]
  have fO2 := has_12 fO2
  refine st_arrive5 12 rfl rfl (ct' := ⟨18, 18, 13, 13, 12⟩) rfl rfl (by decide) ?_
  refine st_ld_land_5 12 (by decide) rfl rfl (by decide) ?_
  refine st_ld_out (srow 12 (peer 12 c)) 0 (off9_4 c) ?_
  refine st_out (srow 12 (peer 12 c)) (off9_4 c) ?_
  intro o1 e1
  have gO2 : Has o1 (A3 I c) [(srow 12 (peer 12 c), 32), (keep1 1 c, 32), (keep1 0 c, 32)] := e1 ▸ has_put (fun y => (congrFun (pay96_eq _) y).trans (hand_val1 (k := 12) (by decide) (by decide) y)) fO2
  clear fO2
  rename Has o1 (A3 I c) _ => fO2
  refine st_depart 13 rfl rfl (ct' := ⟨18, 18, 14, 13, 12⟩) rfl rfl (by decide) ?_
  exact hk _ fO2

theorem p45_ok {kk : (PUnit) → PG F α}
    (fO2 : Has o (A3 I c) [(srow 12 (peer 12 c), 32), (keep1 1 c, 32), (keep1 0 c, 32)])
    (hk : ∀ o', Has o' (A3 I c) [(srow 13 (peer 13 c), 32), (srow 12 (peer 12 c), 32), (keep1 1 c, 32), (keep1 0 c, 32)] → MS I K c ⟨o', p, Qv I c, ctxV I c⟩ ⟨18, 18, 15, 14, 12⟩ R ⊢ WP c (kk ⟨⟩) Q) (v2 : BitVec 32) (v1324 : BitVec 32) :
    MS I K c ⟨o, p, Qv I c, ctxV I c⟩ ⟨18, 18, 14, 13, 12⟩ R ⊢ WP c (onBufs (k0_part45 (F := F)) c v2 v1324 >>= kk) Q := by
  simp only [onBufs, k0_part45_eq_skeleton]
  unfold k0_part45_skel
  simp only [Prog.lift, Prog.bind_op, Prog.bind_ret, Prog.pure_eq_ret, Prog.bind_assoc]
  refine st_arrive5 13 rfl rfl (ct' := ⟨18, 18, 14, 14, 12⟩) rfl rfl (by decide) ?_
  refine st_ld_land_5 13 (by decide) rfl rfl (by decide) ?_
  refine st_ld_out (srow 13 (peer 13 c)) 0 (off9_8 c) ?_
  refine st_out (srow 13 (peer 13 c)) (off9_8 c) ?_
  intro o1 e1
  have gO2 : Has o1 (A3 I c) [(srow 13 (peer 13 c), 32), (srow 12 (peer 12 c), 32), (keep1 1 c, 32), (keep1 0 c, 32)] := e1 ▸ has_put (fun y => (congrFun (pay97_eq _) y).trans (hand_val1 (k := 13) (by decide) (by decide) y)) fO2
  clear fO2
  rename Has o1 (A3 I c) _ => fO2
  refine st_depart 14 rfl rfl (ct' := ⟨18, 18, 15, 14, 12⟩) rfl rfl (by decide) ?_
  exact hk _ fO2

theorem p46_ok {kk : (PUnit) → PG F α}
    (fO2 : Has o (A3 I c) [(srow 13 (peer 13 c), 32), (srow 12 (peer 12 c), 32), (keep1 1 c, 32), (keep1 0 c, 32)])
    (hk : ∀ o', Has o' (A3 I c) [(srow 14 (peer 14 c), 32), (srow 13 (peer 13 c), 32), (srow 12 (peer 12 c), 32), (keep1 1 c, 32), (keep1 0 c, 32)] → MS I K c ⟨o', p, Qv I c, ctxV I c⟩ ⟨18, 18, 15, 15, 12⟩ R ⊢ WP c (kk ⟨⟩) Q) (v2 : BitVec 32) (v1324 : BitVec 32) (v1350 : BitVec 32) :
    MS I K c ⟨o, p, Qv I c, ctxV I c⟩ ⟨18, 18, 15, 14, 12⟩ R ⊢ WP c (onBufs (k0_part46 (F := F)) c v2 v1324 v1350 >>= kk) Q := by
  simp only [onBufs, k0_part46_eq_skeleton]
  unfold k0_part46_skel
  simp only [Prog.lift, Prog.bind_op, Prog.bind_ret, Prog.pure_eq_ret, Prog.bind_assoc]
  refine st_arrive5 14 rfl rfl (ct' := ⟨18, 18, 15, 15, 12⟩) rfl rfl (by decide) ?_
  refine st_ld_land_5 14 (by decide) rfl rfl (by decide) ?_
  refine st_ld_out (srow 14 (peer 14 c)) 0 (off9_12 c) ?_
  refine st_out (srow 14 (peer 14 c)) (off9_12 c) ?_
  intro o1 e1
  have gO2 : Has o1 (A3 I c) [(srow 14 (peer 14 c), 32), (srow 13 (peer 13 c), 32), (srow 12 (peer 12 c), 32), (keep1 1 c, 32), (keep1 0 c, 32)] := e1 ▸ has_put (fun y => (congrFun (pay98_eq _) y).trans (hand_val1 (k := 14) (by decide) (by decide) y)) fO2
  clear fO2
  rename Has o1 (A3 I c) _ => fO2
  exact hk _ fO2

theorem p47_ok {kk : (PUnit) → PG F α}
    (fO2 : Has o (A3 I c) [(srow 14 (peer 14 c), 32), (srow 13 (peer 13 c), 32), (srow 12 (peer 12 c), 32), (keep1 1 c, 32), (keep1 0 c, 32)])
    (hk : ∀ o', Has o' (A3 I c) [(srow 15 (peer 15 c), 32), (srow 14 (peer 14 c), 32), (srow 13 (peer 13 c), 32), (srow 12 (peer 12 c), 32), (keep1 1 c, 32), (keep1 0 c, 32)] → MS I K c ⟨o', p, Qv I c, ctxV I c⟩ ⟨18, 18, 17, 16, 12⟩ R ⊢ WP c (kk ⟨⟩) Q) (v2 : BitVec 32) (v1361 : BitVec 32) (v1369 : BitVec 32) (v1378 : BitVec 32) :
    MS I K c ⟨o, p, Qv I c, ctxV I c⟩ ⟨18, 18, 15, 15, 12⟩ R ⊢ WP c (onBufs (k0_part47 (F := F)) c v2 v1361 v1369 v1378 >>= kk) Q := by
  simp only [onBufs, k0_part47_eq_skeleton]
  unfold k0_part47_skel
  simp only [Prog.lift, Prog.bind_op, Prog.bind_ret, Prog.pure_eq_ret, Prog.bind_assoc]
  refine st_depart 15 rfl rfl (ct' := ⟨18, 18, 16, 15, 12⟩) rfl rfl (by decide) ?_
  refine st_arrive5 15 rfl rfl (ct' := ⟨18, 18, 16, 16, 12⟩) rfl rfl (by decide) ?_
  refine st_ld_land_5 15 (by decide) rfl rfl (by decide) ?_
  refine st_ld_out (srow 15 (peer 15 c)) 0 (off10_1 c) ?_
  refine st_out (srow 15 (peer 15 c)) (off10_1 c) ?_
  intro o1 e1
  have gO2 : Has o1 (A3 I c) [(srow 15 (peer 15 c), 32), (srow 14 (peer 14 c), 32), (srow 13 (peer 13 c), 32), (srow 12 (peer 12 c), 32), (keep1 1 c, 32), (keep1 0 c, 32)] := e1 ▸ has_put (fun y => (congrFun (pay99_eq _) y).trans (hand_val1 (k := 15) (by decide) (by decide) y)) fO2
  clear fO2
  rename Has o1 (A3 I c) _ => fO2
  refine st_depart 16 rfl rfl (ct' := ⟨18, 18, 17, 16, 12⟩) rfl rfl (by decide) ?_
  exact hk _ fO2

theorem p48_ok {kk : (BitVec 32) → PG F α}
    (fO2 : Has o (A3 I c) [(srow 15 (peer 15 c), 32), (srow 14 (peer 14 c), 32), (srow 13 (peer 13 c), 32), (srow 12 (peer 12 c), 32), (keep1 1 c, 32), (keep1 0 c, 32)])
    (hk : ∀ o', Has o' (A3 I c) [(srow 17 (peer 17 c), 32), (srow 16 (peer 16 c), 32), (srow 15 (peer 15 c), 32), (srow 14 (peer 14 c), 32), (srow 13 (peer 13 c), 32), (srow 12 (peer 12 c), 32), (keep1 1 c, 32), (keep1 0 c, 32)] → ∀ w0, MS I K c ⟨o', p, Qv I c, ctxV I c⟩ ⟨18, 18, 18, 18, 12⟩ R ⊢ WP c (kk (w0)) Q) (v2 : BitVec 32) (v1361 : BitVec 32) (v1387 : BitVec 32) :
    MS I K c ⟨o, p, Qv I c, ctxV I c⟩ ⟨18, 18, 17, 16, 12⟩ R ⊢ WP c (onBufs (k0_part48 (F := F)) c v2 v1361 v1387 >>= kk) Q := by
  simp only [onBufs, k0_part48_eq_skeleton]
  unfold k0_part48_skel
  simp only [Prog.lift, Prog.bind_op, Prog.bind_ret, Prog.pure_eq_ret, Prog.bind_assoc]
  refine st_arrive5 16 rfl rfl (ct' := ⟨18, 18, 17, 17, 12⟩) rfl rfl (by decide) ?_
  refine st_ld_land_5 16 (by decide) rfl rfl (by decide) ?_
  refine st_ld_out (srow 16 (peer 16 c)) 0 (off10_2 c) ?_
  refine st_out (srow 16 (peer 16 c)) (off10_2 c) ?_
  intro o1 e1
  have gO2 : Has o1 (A3 I c) [(srow 16 (peer 16 c), 32), (srow 15 (peer 15 c), 32), (srow 14 (peer 14 c), 32), (srow 13 (peer 13 c), 32), (srow 12 (peer 12 c), 32), (keep1 1 c, 32), (keep1 0 c, 32)] := e1 ▸ has_put (fun y => (congrFun (pay100_eq _) y).trans (hand_val1 (k := 16) (by decide) (by decide) y)) fO2
  clear fO2
  rename Has o1 (A3 I c) _ => fO2
  refine st_depart 17 rfl rfl (ct' := ⟨18, 18, 18, 17, 12⟩) rfl rfl (by decide) ?_
  refine st_arrive5 17 rfl rfl (ct' := ⟨18, 18, 18, 18, 12⟩) rfl rfl (by decide) ?_
  refine st_ld_land_5 17 (by decide) rfl rfl (by decide) ?_
  refine st_ld_out (srow 17 (peer 17 c)) 0 (off10_3 c) ?_
  refine st_out (srow 17 (peer 17 c)) (off10_3 c) ?_
  intro o2 e2
  have gO2 : Has o2 (A3 I c) [(srow 17 (peer 17 c), 32), (srow 16 (peer 16 c), 32), (srow 15 (peer 15 c), 32), (srow 14 (peer 14 c), 32), (srow 13 (peer 13 c), 32), (srow 12 (peer 12 c), 32), (keep1 1 c, 32), (keep1 0 c, 32)] := e2 ▸ has_put (fun y => (congrFun (pay101_eq _) y).trans (hand_val1 (k := 17) (by decide) (by decide) y)) fO2
  clear fO2
  rename Has o2 (A3 I c) _ => fO2
  exact hk _ fO2 _

end Cert.KernelIdeal.Mesh

end
-- ==== Proof.Give4.lean ====
/-
  Finished rows handed on to every device.
-/
module

public import proofs.«01_k».proof.Proof.Parts

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem p49_ok {kk : (Σ' (v1557 : BitVec 32) (v1565 : BitVec 32) (v1574 : BitVec 32), BitVec 32) → PG F α}
    (fO2 : Has o (A3 I c) [(srow 17 (peer 17 c), 32), (srow 16 (peer 16 c), 32), (srow 15 (peer 15 c), 32), (srow 14 (peer 14 c), 32), (srow 13 (peer 13 c), 32), (srow 12 (peer 12 c), 32), (keep1 1 c, 32), (keep1 0 c, 32)])
    (hk : Has o (A3 I c) [(keep0 1 c, 128), (keep0 0 c, 128)] → ∀ w0 w1 w2 w3, MS I K c ⟨o, p, Qv I c, ctxV I c⟩ ⟨21, 20, 18, 18, 18⟩ R ⊢ WP c (kk ⟨w0, w1, w2, w3⟩) Q) (v2 : BitVec 32) (v1324 : BitVec 32) (v1555 : BitVec 32) :
    MS I K c ⟨o, p, Qv I c, ctxV I c⟩ ⟨18, 18, 18, 18, 18⟩ R ⊢ WP c (onBufs (k0_part49 (F := F)) c v2 v1324 v1555 >>= kk) Q := by
  simp only [onBufs, k0_part49_eq_skeleton]
  unfold k0_part49_skel
  simp only [Prog.lift, Prog.bind_op, Prog.bind_ret, Prog.pure_eq_ret, Prog.bind_assoc]
  have fO2 := has_joined fO2
  refine st_ld_out (keep0 0 c) 0 (off11_eq c) ?_
  refine st_ld_dead (r := 0) rfl (by decide +kernel) (fun _ => ?_)
  refine st_arm3 (trip18 I) rfl rfl (ct' := ⟨21, 18, 18, 18, 18⟩) rfl rfl (by decide) (by decide +kernel) (fun y => (congrFun (pay102_eq _) y).trans (sent_at (k := 18) (arm_row18 c) (has_slab fO2 ((by decide +kernel : ∀ c : Dev nD, ∃ pr ∈ [(keep0 1 c, 128), (keep0 0 c, 128)], pr.1 ≤ keep0 0 c ∧ keep0 0 c + 128 ≤ pr.1 + pr.2 ∧ keep0 0 c + 128 ≤ 1024) c)) y)) ?_
  refine st_send_5 18 (by decide) rfl rfl rfl (dev_eq 18 c _ (dev25_eq c)) rfl rfl (ct' := ⟨21, 19, 18, 18, 18⟩) rfl rfl (by decide) ?_
  refine st_send_5 19 (by decide) rfl rfl rfl (dev_eq 19 c _ (dev26_eq c)) rfl rfl (ct' := ⟨21, 20, 18, 18, 18⟩) rfl rfl (by decide) ?_
  exact hk fO2 _ _ _ _

theorem p50_ok {kk : (Σ' (v1611 : BitVec 32), BitVec 32) → PG F α}
    (fO2 : Has o (A3 I c) [(keep0 1 c, 128), (keep0 0 c, 128)])
    (hk : ∀ w0 w1, MS I K c ⟨o, p, Qv I c, ctxV I c⟩ ⟨24, 21, 18, 18, 18⟩ R ⊢ WP c (kk ⟨w0, w1⟩) Q) (v2 : BitVec 32) (v1361 : BitVec 32) :
    MS I K c ⟨o, p, Qv I c, ctxV I c⟩ ⟨21, 20, 18, 18, 18⟩ R ⊢ WP c (onBufs (k0_part50 (F := F)) c v2 v1361 >>= kk) Q := by
  simp only [onBufs, k0_part50_eq_skeleton]
  unfold k0_part50_skel
  simp only [Prog.lift, Prog.bind_op, Prog.bind_ret, Prog.pure_eq_ret, Prog.bind_assoc]
  refine st_send_5 20 (by decide) rfl rfl rfl (dev_eq 20 c _ (dev27_eq c)) rfl rfl (ct' := ⟨21, 21, 18, 18, 18⟩) rfl rfl (by decide) ?_
  refine st_ld_out (keep0 1 c) 0 (off12_eq c) ?_
  refine st_ld_dead (r := 384) rfl (by decide +kernel) (fun _ => ?_)
  refine st_arm3 (trip21 I) rfl rfl (ct' := ⟨24, 21, 18, 18, 18⟩) rfl rfl (by decide) (by decide +kernel) (fun y => (congrFun (pay103_eq _) y).trans (sent_at (k := 21) (arm_row21 c) (has_slab fO2 ((by decide +kernel : ∀ c : Dev nD, ∃ pr ∈ [(keep0 1 c, 128), (keep0 0 c, 128)], pr.1 ≤ keep0 1 c ∧ keep0 1 c + 128 ≤ pr.1 + pr.2 ∧ keep0 1 c + 128 ≤ 1024) c)) y)) ?_
  exact hk _ _

theorem p51_ok {kk : (Σ' (v1628 : BitVec 32), BitVec 32) → PG F α}
    (fO2 : Has o (A3 I c) [(keep0 1 c, 128), (keep0 0 c, 128)])
    (hk : ∀ w0 w1, MS I K c ⟨o, p, Qv I c, ctxV I c⟩ ⟨24, 24, 19, 18, 18⟩ R ⊢ WP c (kk ⟨w0, w1⟩) Q) (v2 : BitVec 32) :
    MS I K c ⟨o, p, Qv I c, ctxV I c⟩ ⟨24, 21, 18, 18, 18⟩ R ⊢ WP c (onBufs (k0_part51 (F := F)) c v2 >>= kk) Q := by
  simp only [onBufs, k0_part51_eq_skeleton]
  unfold k0_part51_skel
  simp only [Prog.lift, Prog.bind_op, Prog.bind_ret, Prog.pure_eq_ret, Prog.bind_assoc]
  refine st_send_5 21 (by decide) rfl rfl rfl (dev_eq 21 c _ (dev28_eq c)) rfl rfl (ct' := ⟨24, 22, 18, 18, 18⟩) rfl rfl (by decide) ?_
  refine st_send_5 22 (by decide) rfl rfl rfl (dev_eq 22 c _ (dev29_eq c)) rfl rfl (ct' := ⟨24, 23, 18, 18, 18⟩) rfl rfl (by decide) ?_
  refine st_send_5 23 (by decide) rfl rfl rfl (dev_eq 23 c _ (dev30_eq c)) rfl rfl (ct' := ⟨24, 24, 18, 18, 18⟩) rfl rfl (by decide) ?_
  refine st_depart 18 rfl rfl (ct' := ⟨24, 24, 19, 18, 18⟩) rfl rfl (by decide) ?_
  exact hk _ _

theorem p52_ok {kk : (Σ' (v1674 : BitVec 32), BitVec 32) → PG F α}
    (fO2 : Has o (A3 I c) [(keep0 1 c, 128), (keep0 0 c, 128)])
    (hk : ∀ o', Has o' (A4 I c) [(srow 18 (peer 18 c), 128), (keep0 1 c, 128), (keep0 0 c, 128)] → ∀ w0 w1, MS I K c ⟨o', p, Qv I c, ctxV I c⟩ ⟨24, 24, 20, 20, 18⟩ R ⊢ WP c (kk ⟨w0, w1⟩) Q) (v2 : BitVec 32) (v1557 : BitVec 32) (v1565 : BitVec 32) (v1574 : BitVec 32) :
    MS I K c ⟨o, p, Qv I c, ctxV I c⟩ ⟨24, 24, 19, 18, 18⟩ R ⊢ WP c (onBufs (k0_part52 (F := F)) c v2 v1557 v1565 v1574 >>= kk) Q := by
  simp only [onBufs, k0_part52_eq_skeleton]
  unfold k0_part52_skel
  simp only [Prog.lift, Prog.bind_op, Prog.bind_ret, Prog.pure_eq_ret, Prog.bind_assoc]
  have fO2 := has_34 fO2
  refine st_arrive5 18 rfl rfl (ct' := ⟨24, 24, 19, 19, 18⟩) rfl rfl (by decide) ?_
  refine st_ld_land_5 18 (by decide) rfl rfl (by decide) ?_
  refine st_ld_out (srow 18 (peer 18 c)) 0 (off13_1 c) ?_
  refine st_out (srow 18 (peer 18 c)) (off13_1 c) ?_
  intro o1 e1
  have gO2 : Has o1 (A4 I c) [(srow 18 (peer 18 c), 128), (keep0 1 c, 128), (keep0 0 c, 128)] := e1 ▸ has_put (fun y => (congrFun (pay104_eq _) y).trans (hand_val0 (k := 18) (by decide) y)) fO2
  clear fO2
  rename Has o1 (A4 I c) _ => fO2
  refine st_depart 19 rfl rfl (ct' := ⟨24, 24, 20, 19, 18⟩) rfl rfl (by decide) ?_
  refine st_arrive5 19 rfl rfl (ct' := ⟨24, 24, 20, 20, 18⟩) rfl rfl (by decide) ?_
  exact hk _ fO2 _ _

theorem p53_ok {kk : (PUnit) → PG F α}
    (fO2 : Has o (A4 I c) [(srow 18 (peer 18 c), 128), (keep0 1 c, 128), (keep0 0 c, 128)])
    (hk : ∀ o', Has o' (A4 I c) [(srow 20 (peer 20 c), 128), (srow 19 (peer 19 c), 128), (srow 18 (peer 18 c), 128), (keep0 1 c, 128), (keep0 0 c, 128)] → MS I K c ⟨o', p, Qv I c, ctxV I c⟩ ⟨24, 24, 21, 21, 18⟩ R ⊢ WP c (kk ⟨⟩) Q) (v2 : BitVec 32) (v1557 : BitVec 32) (v1583 : BitVec 32) (v1674 : BitVec 32) (c3_i32_1247 : BitVec 32) :
    MS I K c ⟨o, p, Qv I c, ctxV I c⟩ ⟨24, 24, 20, 20, 18⟩ R ⊢ WP c (onBufs (k0_part53 (F := F)) c v2 v1557 v1583 v1674 c3_i32_1247 >>= kk) Q := by
  simp only [onBufs, k0_part53_eq_skeleton]
  unfold k0_part53_skel
  simp only [Prog.lift, Prog.bind_op, Prog.bind_ret, Prog.pure_eq_ret, Prog.bind_assoc]
  refine st_ld_land_5 19 (by decide) rfl rfl (by decide) ?_
  refine st_ld_out (srow 19 (peer 19 c)) 0 (off13_2 c) ?_
  refine st_out (srow 19 (peer 19 c)) (off13_2 c) ?_
  intro o1 e1
  have gO2 : Has o1 (A4 I c) [(srow 19 (peer 19 c), 128), (srow 18 (peer 18 c), 128), (keep0 1 c, 128), (keep0 0 c, 128)] := e1 ▸ has_put (fun y => (congrFun (pay105_eq _) y).trans (hand_val0 (k := 19) (by decide) y)) fO2
  clear fO2
  rename Has o1 (A4 I c) _ => fO2
  refine st_depart 20 rfl rfl (ct' := ⟨24, 24, 21, 20, 18⟩) rfl rfl (by decide) ?_
  refine st_arrive5 20 rfl rfl (ct' := ⟨24, 24, 21, 21, 18⟩) rfl rfl (by decide) ?_
  refine st_ld_land_5 20 (by decide) rfl rfl (by decide) ?_
  refine st_ld_out (srow 20 (peer 20 c)) 0 (off13_3 c) ?_
  refine st_out (srow 20 (peer 20 c)) (off13_3 c) ?_
  intro o2 e2
  have gO2 : Has o2 (A4 I c) [(srow 20 (peer 20 c), 128), (srow 19 (peer 19 c), 128), (srow 18 (peer 18 c), 128), (keep0 1 c, 128), (keep0 0 c, 128)] := e2 ▸ has_put (fun y => (congrFun (pay106_eq _) y).trans (hand_val0 (k := 20) (by decide) y)) fO2
  clear fO2
  rename Has o2 (A4 I c) _ => fO2
  exact hk _ fO2

theorem p54_ok {kk : (PUnit) → PG F α}
    (fO2 : Has o (A4 I c) [(srow 20 (peer 20 c), 128), (srow 19 (peer 19 c), 128), (srow 18 (peer 18 c), 128), (keep0 1 c, 128), (keep0 0 c, 128)])
    (hk : ∀ o', Has o' (A4 I c) [(srow 21 (peer 21 c), 128), (srow 20 (peer 20 c), 128), (srow 19 (peer 19 c), 128), (srow 18 (peer 18 c), 128), (keep0 1 c, 128), (keep0 0 c, 128)] → MS I K c ⟨o', p, Qv I c, ctxV I c⟩ ⟨24, 24, 22, 22, 18⟩ R ⊢ WP c (kk ⟨⟩) Q) (v2 : BitVec 32) (v1611 : BitVec 32) (v1619 : BitVec 32) :
    MS I K c ⟨o, p, Qv I c, ctxV I c⟩ ⟨24, 24, 21, 21, 18⟩ R ⊢ WP c (onBufs (k0_part54 (F := F)) c v2 v1611 v1619 >>= kk) Q := by
  simp only [onBufs, k0_part54_eq_skeleton]
  unfold k0_part54_skel
  simp only [Prog.lift, Prog.bind_op, Prog.bind_ret, Prog.pure_eq_ret, Prog.bind_assoc]
  refine st_depart 21 rfl rfl (ct' := ⟨24, 24, 22, 21, 18⟩) rfl rfl (by decide) ?_
  refine st_arrive5 21 rfl rfl (ct' := ⟨24, 24, 22, 22, 18⟩) rfl rfl (by decide) ?_
  refine st_ld_land_5 21 (by decide) rfl rfl (by decide) ?_
  refine st_ld_out (srow 21 (peer 21 c)) 0 (off14_4 c) ?_
  refine st_out (srow 21 (peer 21 c)) (off14_4 c) ?_
  intro o1 e1
  have gO2 : Has o1 (A4 I c) [(srow 21 (peer 21 c), 128), (srow 20 (peer 20 c), 128), (srow 19 (peer 19 c), 128), (srow 18 (peer 18 c), 128), (keep0 1 c, 128), (keep0 0 c, 128)] := e1 ▸ has_put (fun y => (congrFun (pay107_eq _) y).trans (hand_val0 (k := 21) (by decide) y)) fO2
  clear fO2
  rename Has o1 (A4 I c) _ => fO2
  exact hk _ fO2

theorem p55_ok {kk : (BitVec 32) → PG F α}
    (fO2 : Has o (A4 I c) [(srow 21 (peer 21 c), 128), (srow 20 (peer 20 c), 128), (srow 19 (peer 19 c), 128), (srow 18 (peer 18 c), 128), (keep0 1 c, 128), (keep0 0 c, 128)])
    (hk : ∀ w0, MS I K c ⟨o, p, Qv I c, ctxV I c⟩ ⟨24, 24, 23, 23, 18⟩ R ⊢ WP c (kk (w0)) Q) (v2 : BitVec 32) (v1611 : BitVec 32) (v1628 : BitVec 32) :
    MS I K c ⟨o, p, Qv I c, ctxV I c⟩ ⟨24, 24, 22, 22, 18⟩ R ⊢ WP c (onBufs (k0_part55 (F := F)) v2 v1611 v1628 >>= kk) Q := by
  simp only [onBufs, k0_part55_eq_skeleton]
  unfold k0_part55_skel
  simp only [Prog.lift, Prog.bind_op, Prog.bind_ret, Prog.pure_eq_ret, Prog.bind_assoc]
  refine st_depart 22 rfl rfl (ct' := ⟨24, 24, 23, 22, 18⟩) rfl rfl (by decide) ?_
  refine st_arrive5 22 rfl rfl (ct' := ⟨24, 24, 23, 23, 18⟩) rfl rfl (by decide) ?_
  exact hk _

theorem p56_ok {kk : (Σ' (v1797 : BitVec 32), BitVec 32) → PG F α}
    (fO2 : Has o (A4 I c) [(srow 21 (peer 21 c), 128), (srow 20 (peer 20 c), 128), (srow 19 (peer 19 c), 128), (srow 18 (peer 18 c), 128), (keep0 1 c, 128), (keep0 0 c, 128)])
    (hk : ∀ o', Has o' (A4 I c) [(srow 22 (peer 22 c), 128), (srow 21 (peer 21 c), 128), (srow 20 (peer 20 c), 128), (srow 19 (peer 19 c), 128), (srow 18 (peer 18 c), 128), (keep0 1 c, 128), (keep0 0 c, 128)] → ∀ w0 w1, MS I K c ⟨o', p, Qv I c, ctxV I c⟩ ⟨24, 24, 24, 24, 18⟩ R ⊢ WP c (kk ⟨w0, w1⟩) Q) (v2 : BitVec 32) (v1637 : BitVec 32) (v1765 : BitVec 32) :
    MS I K c ⟨o, p, Qv I c, ctxV I c⟩ ⟨24, 24, 23, 23, 18⟩ R ⊢ WP c (onBufs (k0_part56 (F := F)) c v2 v1637 v1765 >>= kk) Q := by
  simp only [onBufs, k0_part56_eq_skeleton]
  unfold k0_part56_skel
  simp only [Prog.lift, Prog.bind_op, Prog.bind_ret, Prog.pure_eq_ret, Prog.bind_assoc]
  refine st_ld_land_5 22 (by decide) rfl rfl (by decide) ?_
  refine st_ld_out (srow 22 (peer 22 c)) 0 (off14_8 c) ?_
  refine st_out (srow 22 (peer 22 c)) (off14_8 c) ?_
  intro o1 e1
  have gO2 : Has o1 (A4 I c) [(srow 22 (peer 22 c), 128), (srow 21 (peer 21 c), 128), (srow 20 (peer 20 c), 128), (srow 19 (peer 19 c), 128), (srow 18 (peer 18 c), 128), (keep0 1 c, 128), (keep0 0 c, 128)] := e1 ▸ has_put (fun y => (congrFun (pay108_eq _) y).trans (hand_val0 (k := 22) (by decide) y)) fO2
  clear fO2
  rename Has o1 (A4 I c) _ => fO2
  refine st_depart 23 rfl rfl (ct' := ⟨24, 24, 24, 23, 18⟩) rfl rfl (by decide) ?_
  refine st_arrive5 23 rfl rfl (ct' := ⟨24, 24, 24, 24, 18⟩) rfl rfl (by decide) ?_
  exact hk _ fO2 _ _

end Cert.KernelIdeal.Mesh

end
-- ==== Proof.Body.lean ====
/-
  The body from greeting to last store.
-/
module

public import proofs.«01_k».proof.Proof.Greet
public import proofs.«01_k».proof.Proof.Head1
public import proofs.«01_k».proof.Proof.Head2
public import proofs.«01_k».proof.Proof.Head3
public import proofs.«01_k».proof.Proof.Give0
public import proofs.«01_k».proof.Proof.Give1
public import proofs.«01_k».proof.Proof.Give2
public import proofs.«01_k».proof.Proof.Give3
public import proofs.«01_k».proof.Proof.Give4

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

theorem wp_seq {β : Type} {p : PG F β} {k : β → PG F α} {P : sProp (MM F)} (h : P ⊢ WP c p (fun b => WP c (k b) Q)) : P ⊢ WP c (p >>= k) Q :=
  h.trans (Entails.of_eq (wp_bind ..).symm)

theorem p57_ok {Q : (Σ' (d0 : Dev nD), BitVec 32) → sProp (MM F)}
    (hk : ∀ o' p' w, Has o' (A4 I c) [(srow 22 (peer 22 c), 128), (srow 21 (peer 21 c), 128), (srow 20 (peer 20 c), 128), (srow 19 (peer 19 c), 128), (srow 18 (peer 18 c), 128), (keep0 1 c, 128), (keep0 0 c, 128)] → MS I K c ⟨o', p', Qv I c, ctxV I c⟩ ⟨24, 24, 24, 24, 18⟩ iprop(atPos ER (barCell c) 1 ∅ 0 ∗ R) ⊢ Q ⟨c, w⟩) :
    Greet I K c ⟨o, p, x, t⟩ 0 R ⊢ WP c (onBufs (k0_part57 (F := F))) Q := by
  simp only [onBufs, k0_part57_eq_skeleton]
  unfold k0_part57_skel
  refine p1_ok ?_
  intro u1_0
  refine p2_ok ctx_zero ?_
  refine p3_ok ctx_zero ?_
  intro t3 gh2
  rename' gh2 => h2
  refine p4_ok h2 ?_
  intro t4 gh4
  rename' gh4 => h4
  refine p5_ok h4 ?_
  intro t5 gh5
  rename' gh5 => h5
  refine p6_ok h5 ?_
  intro t6 gh7
  rename' gh7 => h7
  refine p7_ok h7 ?_
  intro t7 gh8
  rename' gh8 => h8
  refine p8_ok h8 ?_
  intro t8 gh10
  rename' gh10 => h10
  refine p9_ok h10 ?_
  intro t9 gh12
  rename' gh12 => h12
  refine p10_ok h12 ?_
  intro t10 gh13
  rename' gh13 => h13
  refine p11_ok h13 ?_
  intro t11 gh15
  rename' gh15 => h15
  refine p12_ok h15 ?_
  intro t12 gh16
  rename' gh16 => h16
  refine p13_ok h16 ?_
  intro t13 gh18
  rename' gh18 => h18
  refine p14_ok h18 ?_
  intro t14 gh20
  rename' gh20 => h20
  refine p15_ok h20 ?_
  intro t15 gh21
  rename' gh21 => h21
  refine p16_ok h21 ?_
  intro t16 gh23
  rename' gh23 => h23
  refine p17_ok h23 ?_
  intro t17 gh24
  rename' gh24 => h24
  refine p18_ok h24 ?_
  intro t18 gh26
  rename' gh26 => h26
  refine p19_ok h26 ?_
  intro t19 gh28
  rename' gh28 => h28
  refine p20_ok h28 ?_
  intro t20 gh30
  rename' gh30 => h30
  refine p21_ok h30 ?_
  intro t21 gh31
  rename' gh31 => h31
  refine p22_ok h31 ?_ _
  intro u22_0 u22_1 u22_2 u22_3
  refine p23_ok ?_ _ _ _
  intro u23_0
  refine p24_ok ?_ _ _
  intro u24_0 u24_1 u24_2 u24_3 u24_4
  refine p25_ok ?_ _ _ _ _ _
  intro u25_0 u25_1 u25_2 u25_3
  refine p26_ok ?_ _ _ _ _
  intro u26_0
  refine p27_ok ?_ _ _
  intro u27_0
  refine p28_ok ?_ _ _ _
  intro p28 gfP
  rename' gfP => fP
  refine p29_ok fP ?_ _ _ _
  refine p30_ok fP ?_ _ _ _
  intro o30 gfO1 u30_0
  rename' gfO1 => fO1
  refine p31_ok fP fO1 ?_ _ _ _
  intro o31 gfO1
  rename' gfO1 => fO1
  refine p32_ok fO1 ?_ _ _
  intro u32_0 u32_1 u32_2
  refine (back 0 (ct' := ⟨6, 6, 6, 6, 1⟩) rfl rfl (by decide) (by decide) (by decide +kernel)).trans ?_
  refine (back 1 (ct' := ⟨6, 6, 6, 6, 2⟩) rfl rfl (by decide) (by decide) (by decide +kernel)).trans ?_
  refine (back 2 (ct' := ⟨6, 6, 6, 6, 3⟩) rfl rfl (by decide) (by decide) (by decide +kernel)).trans ?_
  refine (back 3 (ct' := ⟨6, 6, 6, 6, 4⟩) rfl rfl (by decide) (by decide) (by decide +kernel)).trans ?_
  refine (back 4 (ct' := ⟨6, 6, 6, 6, 5⟩) rfl rfl (by decide) (by decide) (by decide +kernel)).trans ?_
  refine (back 5 (ct' := ⟨6, 6, 6, 6, 6⟩) rfl rfl (by decide) (by decide) (by decide +kernel)).trans ?_
  refine p33_ok fO1 ?_ _ _ _ _
  intro u33_0
  refine p34_ok fO1 ?_ _ _ _
  intro u34_0
  refine p35_ok fO1 ?_ _ _ _
  intro u35_0 u35_1
  refine p36_ok fO1 ?_ _ _
  intro u36_0 u36_1
  refine p37_ok fO1 ?_ _ _ _
  intro u37_0 u37_1
  refine p38_ok fO1 ?_ _ _ _ _
  intro o38 gfO1 gfO2
  rename' gfO1 => fO1
  rename' gfO2 => fO2
  refine p39_ok fO1 fO2 ?_ _ _
  refine p40_ok fO1 fO2 ?_ _ _ _
  intro o40 gfO2 u40_0 u40_1 u40_2 u40_3
  rename' gfO2 => fO2
  refine (back 6 (ct' := ⟨12, 12, 12, 12, 7⟩) rfl rfl (by decide) (by decide) (by decide +kernel)).trans ?_
  refine (back 7 (ct' := ⟨12, 12, 12, 12, 8⟩) rfl rfl (by decide) (by decide) (by decide +kernel)).trans ?_
  refine (back 8 (ct' := ⟨12, 12, 12, 12, 9⟩) rfl rfl (by decide) (by decide) (by decide +kernel)).trans ?_
  refine (back 9 (ct' := ⟨12, 12, 12, 12, 10⟩) rfl rfl (by decide) (by decide) (by decide +kernel)).trans ?_
  refine (back 10 (ct' := ⟨12, 12, 12, 12, 11⟩) rfl rfl (by decide) (by decide) (by decide +kernel)).trans ?_
  refine (back 11 (ct' := ⟨12, 12, 12, 12, 12⟩) rfl rfl (by decide) (by decide) (by decide +kernel)).trans ?_
  refine p41_ok fO2 ?_ _ _ _ _ _ _
  intro u41_0 u41_1 u41_2
  refine p42_ok fO2 ?_ _ _
  intro u42_0 u42_1 u42_2 u42_3
  refine p43_ok fO2 ?_ _ _ _
  intro u43_0
  refine p44_ok fO2 ?_ _ _ _
  intro o44 gfO2
  rename' gfO2 => fO2
  refine p45_ok fO2 ?_ _ _
  intro o45 gfO2
  rename' gfO2 => fO2
  refine p46_ok fO2 ?_ _ _ _
  intro o46 gfO2
  rename' gfO2 => fO2
  refine p47_ok fO2 ?_ _ _ _ _
  intro o47 gfO2
  rename' gfO2 => fO2
  refine p48_ok fO2 ?_ _ _ _
  intro o48 gfO2 u48_0
  rename' gfO2 => fO2
  refine (back3 (trip12 I) (ct' := ⟨18, 18, 18, 18, 15⟩) rfl rfl (by decide) (by decide +kernel)).trans ?_
  refine (back3 (trip15 I) (ct' := ⟨18, 18, 18, 18, 18⟩) rfl rfl (by decide) (by decide +kernel)).trans ?_
  refine p49_ok fO2 ?_ _ _ _
  intro gfO2 u49_0 u49_1 u49_2 u49_3
  rename' gfO2 => fO2
  refine p50_ok fO2 ?_ _ _
  intro u50_0 u50_1
  refine p51_ok fO2 ?_ _
  intro u51_0 u51_1
  refine p52_ok fO2 ?_ _ _ _ _
  intro o52 gfO2 u52_0 u52_1
  rename' gfO2 => fO2
  refine p53_ok fO2 ?_ _ _ _ _ _
  intro o53 gfO2
  rename' gfO2 => fO2
  refine p54_ok fO2 ?_ _ _ _
  intro o54 gfO2
  rename' gfO2 => fO2
  refine p55_ok fO2 ?_ _ _ _
  intro u55_0
  refine p56_ok fO2 ?_ _ _ _
  intro o56 gfO2 u56_0 u56_1
  rename' gfO2 => fO2
  exact (hk _ _ _ fO2).trans fupd_intro

theorem body_ok {Q : PUnit → sProp (MM F)}
    (hk : ∀ p', MS I K c ⟨fun i => A4 I c (i 0).val (i 1).val, p', Qv I c, ctxV I c⟩ ⟨24, 24, 24, 24, 24⟩ iprop(atPos ER (barCell c) 1 ∅ 0 ∗ R) ⊢ Q ⟨⟩) :
    Greet I K c ⟨o, p, x, t⟩ 0 R ⊢ WP c (onBufs (cc0_body (F := F))) Q := by
  simp only [onBufs, cc0_body_eq_skeleton]
  unfold cc0_body_skel
  refine wp_seq (p57_ok ?_)
  intro o' p' w f
  simp only [Prog.lift, Prog.bind_op, Prog.bind_ret, Prog.pure_eq_ret, Prog.bind_assoc]
  refine st_ld_land_5 23 (by decide) rfl rfl (by decide) ?_
  refine st_ld_out (srow 23 (peer 23 c)) 0 (off14_12 c) ?_
  refine st_out (srow 23 (peer 23 c)) (off14_12 c) ?_
  intro o1 e1
  have g : Has o1 (A4 I c) (pieces0 c) := e1 ▸ has_put (fun y => (congrFun (pay1_eq _) y).trans (hand_val0 (k := 23) (by decide) y)) f
  obtain rfl := has_end g
  refine (back3 (trip18 I) (ct' := ⟨24, 24, 24, 24, 21⟩) rfl rfl (by decide) (by decide +kernel)).trans ?_
  refine (back3 (trip21 I) (ct' := ⟨24, 24, 24, 24, 24⟩) rfl rfl (by decide) (by decide +kernel)).trans ?_
  exact (hk _).trans fupd_intro

end Cert.KernelIdeal.Mesh

end
-- ==== Proof.Region.lean ====
/-
  The kernel's region: what a device holds on entering it and on leaving it.
-/
module

public import proofs.«01_k».proof.Proof.Slots
public import proofs.«01_k».proof.Proof.Body
public import Idealize.ShloMosaic.Lib.Pipeline.ValueKit.Geometry

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-! ## What a device holds before the body and after it -/

variable (F) in
def barToks (c : Dev nD) : sProp (MM F) := bigSep Finset.univ fun d : Fin 6 => dutyTok ER (barCell (bpeer d c)) 0 d
variable (F) in
def xferToks (c : Dev nD) : sProp (MM F) := bigSep Finset.univ fun k : Fin 24 => toksOf (F := F) k c
variable (F) in
def recvCreds (c : Dev nD) : sProp (MM F) := bigSep Finset.univ fun k : Fin 24 => cred (tallyAt (recvCell k c) () (amt k))

/-- From the launch: the records, the place at the barrier cell, the rights to open the other cells, the tokens of what it pays. -/
def ghost (I : Ins F) (K : GSem nD τ sig → ℕ) (c : Dev nD) : sProp (MM F) :=
  iprop(greetRec I K c ∗ invs I K c ∗ atPos ER (barCell c) 0 ∅ 0 ∗ openToks F c ∗ barToks F c ∗ xferToks F c)
/-- The same with the cells open. -/
def opened (I : Ins F) (K : GSem nD τ sig → ℕ) (c : Dev nD) : sProp (MM F) :=
  iprop(greetRec I K c ∗ invs I K c ∗ atPos ER (barCell c) 0 ∅ 0 ∗ opens F c ∗ barToks F c ∗ xferToks F c)

theorem opens_parts : opens F c ⊢ iprop((bigSep Finset.univ fun k : Fin 24 => reached ER (recvCell k c) 0)
    ∗ bigSep Finset.univ fun k : Fin 24 => iprop(reached ER (sendCell k c) 0 ∗ atPos ER (sendCell k c) 0 ∅ 0 ∗ atPos ER (recvCell k c) 0 ∅ 0)) := by
  unfold opens
  refine BIBase.Entails.trans ?_ (Entails.of_eq (bigSep_sep ..))
  refine bigSep_mono fun k _ => ?_
  show iprop((atPos ER (sendCell k c) 0 ∅ 0 ∗ reached ER (sendCell k c) 0) ∗ (atPos ER (recvCell k c) 0 ∅ 0 ∗ reached ER (recvCell k c) 0))
    ⊢ iprop(reached ER (recvCell k c) 0 ∗ (reached ER (sendCell k c) 0 ∗ atPos ER (sendCell k c) 0 ∅ 0 ∗ atPos ER (recvCell k c) 0 ∅ 0))
  iintro ⟨⟨H1, H2⟩, H3, H4⟩
  isplitl [H4]; · iexact H4
  isplitl [H2]; · iexact H2
  isplitl [H1] <;> iassumption

theorem kept_intro : iprop((bigSep Finset.univ fun k : Fin 24 => iprop(reached ER (sendCell k c) 0 ∗ atPos ER (sendCell k c) 0 ∅ 0 ∗ atPos ER (recvCell k c) 0 ∅ 0))
    ∗ xferToks F c ∗ recvCreds F c) ⊢ bigSep Finset.univ fun k : Fin 24 => kept (F := F) k c := by
  unfold xferToks recvCreds
  refine BIBase.Entails.trans (sep_mono_right (Entails.of_eq (bigSep_sep ..).symm)) ?_
  refine BIBase.Entails.trans (Entails.of_eq (bigSep_sep ..).symm) ?_
  refine bigSep_mono fun k _ => ?_
  show iprop((reached ER (sendCell k c) 0 ∗ atPos ER (sendCell k c) 0 ∅ 0 ∗ atPos ER (recvCell k c) 0 ∅ 0) ∗ (toksOf (F := F) k c ∗ cred (tallyAt (recvCell k c) () (amt k)))) ⊢ kept k c
  unfold kept
  iintro ⟨⟨H1, H2, H3⟩, H4, H5⟩
  isplitl [H4]; · iexact H4
  isplitl [H1]; · iexact H1
  isplitl [H2]; · iexact H2
  isplitl [H3] <;> iassumption

variable (F) in
theorem greet_toks : iprop(barToks F c ∗ bigSep Finset.univ fun d : Fin 6 => barPay (F := F) (bpeer d c) d)
    ⊢ bigSep (Finset.univ.filter fun d : Fin 6 => 0 ≤ d.val) fun d => greetOne (F := F) d c := by
  rw [Finset.filter_true_of_mem (fun d _ => Nat.zero_le _)]
  unfold barToks
  refine BIBase.Entails.trans (Entails.of_eq (bigSep_sep ..).symm) (bigSep_mono fun d _ => ?_)
  show iprop(dutyTok ER (barCell (bpeer d c)) 0 d ∗ barPay (F := F) (bpeer d c) d) ⊢ greetOne d c
  unfold greetOne
  iintro H; iexact H

variable (F) in
/-- The scratch buffers beside those the state names. -/
def scr (c : Dev nD) : sProp (MM F) :=
  iprop((∃ f : Vec F S768x1024 .bf16, ((c : Thread nD τ).loc cc0_scratch3) ↦{fullShare} f) ∗ recvAny F true c ∗ recvAny F false c)

theorem greet_intro {σ : St F} {W : Waits sig Unit} : iprop(opened I K c ∗ cred (tallyAt (barCell c) () 6) ∗ recvCreds F c ∗ levAts L lv
      ∗ insPts I c ∗ bufPts c σ ∗ scr F c ∗ owes (c : Thread nD τ) (greetOwed 0 c) W ∗ R)
    ⊢ Greet I K c σ 0 iprop(greetRec I K c ∗ R) := by
  unfold opened scr Greet
  rw [free_start]
  iintro ⟨⟨#HG, #HI, Hb, Ho, Ht, Hx⟩, Hc, Hr, #Hl, Hi, Hu, ⟨H3, H4, H5⟩, HO, HR⟩
  ihave Ho := opens_parts $$ Ho
  icases Ho with ⟨Ho1, Ho2⟩
  ihave H4 := (recv_split true) $$ H4
  ihave H5 := (recv_split false) $$ H5
  ihave H45 := (Entails.of_eq (halves (F := F) (Φ := fun k => recvSome F k c)).symm) $$ [H4 H5]
  · isplitl [H4] <;> iassumption
  ihave Hp := hand_out $$ [H45 Ho1]
  · isplitl [H45] <;> iassumption
  isplitl [Hi]; · iexact Hi
  isplitl [Hu]; · iexact Hu
  isplitl [H3]; · iexact H3
  isplitl [HO]; · iexists W; iexact HO
  isplitl [Ht Hp]
  · iapply (greet_toks F)
    isplitl [Ht] <;> iassumption
  isplitl [Hc]; · iexact Hc
  isplitl [Hb]; · iexact Hb
  isplitl [Ho2 Hx Hr]
  · iapply kept_intro
    isplitl [Ho2]; · iexact Ho2
    isplitl [Hx] <;> iassumption
  isplitr; · iexact HG
  isplitr; · iexact HI
  isplitr; · iexact Hl
  isplitr; · iexact HG
  iexact HR

theorem body_end {σ : St F} : MS I K c σ ⟨24, 24, 24, 24, 24⟩ iprop(atPos ER (barCell c) 1 ∅ 0 ∗ greetRec I K c ∗ R)
    ⊢ (|={Set.univ}=> iprop(semVal (barCell c) 0 ∗ zeros F c ∗ insPts I c ∗ bufPts c σ ∗ scr F c
        ∗ (∃ W, owes (c : Thread nD τ) (0 : CellTallies nD τ sig Unit) W) ∗ R) : sProp (MM F)) := by
  unfold MS scr
  rw [free_end, owedFrom_end]
  iintro ⟨Hi, Hu, H3, Hp, HO, #HI, -, Ha, #HG, HR⟩
  ihave Hp := pool_end $$ Hp
  icases Hp with ⟨⟨H4, H5⟩, Hd⟩
  imod close_all $$ [Hd] with Hz
  · isplitr; · iexact HI
    iexact Hd
  imod (close_one (I := I) (K (barCell c)) (barCell c)) $$ [Ha] with Hb
  · isplitr; · iapply rec_own; iexact HG
    iexact Ha
  imodintro
  isplitl [Hb]; · iexact Hb
  isplitl [Hz]; · iexact Hz
  isplitl [Hi]; · iexact Hi
  isplitl [Hu]; · iexact Hu
  isplitl [H3 H4 H5]
  · isplitl [H3]; · iexact H3
    isplitl [H4] <;> iassumption
  isplitl [HO]; · iexact HO
  iexact HR

/-! ## The kernel's own semaphores -/

def osem (kb : Fin 24 × Fin 2) : SemLoc sig := .dma (if kb.2 = 0 then sendS kb.1 else recvS kb.1)
theorem osem_facts : Pipeline.OwnSemFacts spec0 osem := by decide +kernel
theorem ownSems_eq (c : Dev nD) : (Pipeline.ownSems0 osem c : sProp (MM F)) = zeros F c := by
  unfold Pipeline.ownSems0 zeros
  rw [bigSep_univ_prod]
  refine bigSep_congr fun k _ => ?_
  exact BI.bigSep_fin_two (fun b : Fin 2 => (semVal ((c : Thread nD τ), osem (k, b)) 0 : sProp (MM F)))

/-! ## The region -/

variable (m : (ℓ : Loc nD τ sig) → Buf (Elt F) ℓ)

/-- The kernel's operands as the host operations leave them. -/
def insOf : Ins F :=
  ⟨fun c => V1 m c main_v16, fun c => V1 m c main_v17, fun c => V1 m c main_v21, fun c => V1 m c main_v24, fun c => V1 m c main_v18⟩
/-- The kernel's result. -/
def outV (c : Dev nD) : Vec F S1024x1024 .f32 := fun i => A4 (insOf m) c (i 0).val (i 1).val
def outs : Outs (F := F) := fun _ r c => Function.update (V1 m c) (Proc.devRef .tc main_v25) (outV m c) (Proc.devRef .tc r)

def Tk (c : Dev nD) : sProp (MM F) := iprop((∃ K, ghost (insOf m) K c) ∗ cred (tallyAt (barCell c) () 6) ∗ recvCreds F c)
def Xk (c : Dev nD) : sProp (MM F) := iprop((∃ K, opened (insOf m) K c) ∗ cred (tallyAt (barCell c) () 6) ∗ recvCreds F c ∗ levAts L lv)
variable (F) in
def Yk (c : Dev nD) : sProp (MM F) := semVal (barCell c) 0
variable (F) in
def rest (c : Dev nD) : sProp (MM F) := Pipeline.scopedRest spec0 c
variable (F) in
def reg (c : Dev nD) : sProp (MM F) := iprop(∃ r, prngReg c r)

def Pre0 (c : Dev nD) : sProp (MM F) := iprop(Xk m c ∗ rest F c ∗ reg F c)
variable (F) in
def Post0 (c : Dev nD) : sProp (MM F) := iprop((Yk F c ∗ zeros F c) ∗ rest F c ∗ reg F c)

def dat0 (c : Dev nD) : Pipeline.Dat τ (Elt F) Unit ℕ UU ℕ cfg0 c where
  A w := V1 m c (Proc.devRef .tc (Pipeline.arrRef spec0 w))
  after w t := match w with
    | 0 => (insOf m).x c
    | 1 => (insOf m).wq c
    | 2 => (insOf m).kt c
    | 3 => (insOf m).v c
    | 4 => (insOf m).wo c
    | 5 => outV m c
  Φ t := if t.val = 0 then Pre0 m c else Post0 F c
  q _ := fullShare
  owed t := if t.val = 0 then greetOwed 0 c else 0

theorem before_0 (t : Fin cfg0.N) (d) : (dat0 m c).before 0 t d = (insOf m).x c := by
  rw [Pipeline.Dat.before_fetched _ 0 t (fetch0_0 t)]
  unfold Pipeline.Dat.fetched Pipeline.Dat.blockOf
  dsimp only [dat0]
  obtain rfl := fin_N0 t
  funext i
  show V1 m c (Proc.devRef .tc main_v16) (((cfg0.win 0).blk t0_0).view.emb i) = V1 m c (Proc.devRef .tc main_v16) i
  refine congrArg _ ?_
  funext a
  apply Fin.ext
  match a with
  | 0 => show 0 * 1024 + 1 * (i 0).val = (i 0).val; omega
  | 1 => show 0 * 1024 + 1 * (i 1).val = (i 1).val; omega
theorem before_1 (t : Fin cfg0.N) (d) : (dat0 m c).before 1 t d = (insOf m).wq c := by
  rw [Pipeline.Dat.before_fetched _ 1 t (fetch0_1 t)]
  unfold Pipeline.Dat.fetched Pipeline.Dat.blockOf
  dsimp only [dat0]
  obtain rfl := fin_N0 t
  funext i
  show V1 m c (Proc.devRef .tc main_v17) (((cfg0.win 1).blk t0_0).view.emb i) = V1 m c (Proc.devRef .tc main_v17) i
  refine congrArg _ ?_
  funext a
  apply Fin.ext
  match a with
  | 0 => show 0 * 1024 + 1 * (i 0).val = (i 0).val; omega
  | 1 => show 0 * 1024 + 1 * (i 1).val = (i 1).val; omega
theorem before_2 (t : Fin cfg0.N) (d) : (dat0 m c).before 2 t d = (insOf m).kt c := by
  rw [Pipeline.Dat.before_fetched _ 2 t (fetch0_2 t)]
  unfold Pipeline.Dat.fetched Pipeline.Dat.blockOf
  dsimp only [dat0]
  obtain rfl := fin_N0 t
  funext i
  show V1 m c (Proc.devRef .tc main_v21) (((cfg0.win 2).blk t0_0).view.emb i) = V1 m c (Proc.devRef .tc main_v21) i
  refine congrArg _ ?_
  funext a
  apply Fin.ext
  match a with
  | 0 => show 0 * 8 + 1 * (i 0).val = (i 0).val; omega
  | 1 => show 0 * 128 + 1 * (i 1).val = (i 1).val; omega
  | 2 => show 0 * 1024 + 1 * (i 2).val = (i 2).val; omega
theorem before_3 (t : Fin cfg0.N) (d) : (dat0 m c).before 3 t d = (insOf m).v c := by
  rw [Pipeline.Dat.before_fetched _ 3 t (fetch0_3 t)]
  unfold Pipeline.Dat.fetched Pipeline.Dat.blockOf
  dsimp only [dat0]
  obtain rfl := fin_N0 t
  funext i
  show V1 m c (Proc.devRef .tc main_v24) (((cfg0.win 3).blk t0_0).view.emb i) = V1 m c (Proc.devRef .tc main_v24) i
  refine congrArg _ ?_
  funext a
  apply Fin.ext
  match a with
  | 0 => show 0 * 8 + 1 * (i 0).val = (i 0).val; omega
  | 1 => show 0 * 1024 + 1 * (i 1).val = (i 1).val; omega
  | 2 => show 0 * 128 + 1 * (i 2).val = (i 2).val; omega
theorem before_4 (t : Fin cfg0.N) (d) : (dat0 m c).before 4 t d = (insOf m).wo c := by
  rw [Pipeline.Dat.before_fetched _ 4 t (fetch0_4 t)]
  unfold Pipeline.Dat.fetched Pipeline.Dat.blockOf
  dsimp only [dat0]
  obtain rfl := fin_N0 t
  funext i
  show V1 m c (Proc.devRef .tc main_v18) (((cfg0.win 4).blk t0_0).view.emb i) = V1 m c (Proc.devRef .tc main_v18) i
  refine congrArg _ ?_
  funext a
  apply Fin.ext
  match a with
  | 0 => show 0 * 1024 + 1 * (i 0).val = (i 0).val; omega
  | 1 => show 0 * 1024 + 1 * (i 1).val = (i 1).val; omega

theorem arr_5 : (dat0 m c).arrAt 5 cfg0.N = outV m c := by
  funext j
  refine ((dat0 m c).arrAt_emb_eq_after_last 5 t0_0 (by decide +kernel) j).trans ?_
  rfl

theorem owes_in (t : Fin (cfg0.N + 1)) (O : CellTallies nD τ sig Unit) (h0 : (dat0 m c).owed t = O) (W : Waits sig Unit) :
    (owes (c : Thread nD τ) O W : sProp (MM F)) ⊢ (dat0 m c).owesAt () t := by
  unfold Pipeline.Dat.owesAt Pipeline.owesWithin Pipeline.Dat.bound; rw [h0]
  iintro HO; iexists W; isplitr; · ipureintro; exact fun _ _ => Or.inl trivial
  iexact HO
theorem owes_out (t : Fin (cfg0.N + 1)) (O : CellTallies nD τ sig Unit) (h0 : (dat0 m c).owed t = O) :
    (dat0 m c).owesAt () t ⊢ (iprop(∃ W, owes (c : Thread nD τ) O W) : sProp (MM F)) := by
  unfold Pipeline.Dat.owesAt Pipeline.owesWithin; rw [h0]
  iintro ⟨%W, -, HO⟩; iexists W; iexact HO

theorem rest_eq : rest F c = iprop((∃ f : Vec F S1024x1024 .f32, ((c : Thread nD τ).loc cc0_scratch0) ↦{fullShare} f) ∗ (∃ f : Vec F S1024x1024 .bf16, ((c : Thread nD τ).loc cc0_scratch1) ↦{fullShare} f)
    ∗ (∃ f : Vec F S1024x1024 .bf16, ((c : Thread nD τ).loc cc0_scratch2) ↦{fullShare} f) ∗ scr F c) := scopedRest0_eq c

theorem body_obl (c : Dev nD) : Pipeline.BodyObligation (dat0 m c) (defs₀ (F := F)) 𝒱₀ () Set.univ := fun t => by
  obtain rfl := fin_N0 t
  rw [bigSep_W0, bigSep_W0]
  show iprop(Pre0 m c ∗ (dat0 m c).owesAt () t0_0.castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ WP c (onBufs (cc0_body (F := F))) fun _ => iprop(Post0 F c ∗ (dat0 m c).owesAt () t0_0.succ
      ∗ owns (c : Thread nD τ) (Memref.whole cc0_stg0_0) fullShare ((insOf m).x c)
      ∗ owns (c : Thread nD τ) (Memref.whole cc0_stg1_0) fullShare ((insOf m).wq c)
      ∗ owns (c : Thread nD τ) (Memref.whole cc0_stg2_0) fullShare ((insOf m).kt c)
      ∗ owns (c : Thread nD τ) (Memref.whole cc0_stg3_0) fullShare ((insOf m).v c)
      ∗ owns (c : Thread nD τ) (Memref.whole cc0_stg4_0) fullShare ((insOf m).wo c)
      ∗ owns (c : Thread nD τ) (Memref.whole cc0_stg5_0) fullShare (outV m c))
  simp only [owns_whole, before_0, before_1, before_2, before_3, before_4]
  unfold Pre0 Xk
  rw [rest_eq]
  iintro ⟨⟨⟨⟨%K, HK⟩, Hc, Hr, #Hl⟩, ⟨⟨%f0, H0⟩, ⟨%f1, H1⟩, ⟨%f2, H2⟩, Hscr⟩, Hreg⟩, HO, ⟨%d0, W0⟩, ⟨%d1, W1⟩, ⟨%d2, W2⟩, ⟨%d3, W3⟩, ⟨%d4, W4⟩, ⟨%d5, W5⟩⟩
  ihave HO := (owes_out m t0_0.castSucc (greetOwed 0 c) (by dsimp only [dat0]; exact if_pos rfl)) $$ HO
  icases HO with ⟨%W, HO⟩
  iapply wp_fupd
  iapply (body_ok (I := insOf m) (K := K) (c := c) (o := (dat0 m c).before 5 t0_0 d5) (p := f0) (x := f1) (t := f2) (R := iprop(greetRec (insOf m) K c ∗ reg F c)) (fun p' => by
    refine BIBase.Entails.trans body_end (fupd_mono ?_)
    unfold Post0 Yk
    rw [rest_eq]
    unfold insPts bufPts
    iintro ⟨Hb, Hz, ⟨W0, W1, W2, W3, W4⟩, ⟨W5, H0, H1, H2⟩, Hscr, ⟨%W, HO⟩, Hreg⟩
    isplitl [Hb Hz H0 H1 H2 Hscr Hreg]
    · isplitl [Hb Hz]
      · isplitl [Hb] <;> iassumption
      isplitr [Hreg]
      · isplitl [H0]; · iexists _; iexact H0
        isplitl [H1]; · iexists _; iexact H1
        isplitl [H2]; · iexists _; iexact H2
        iexact Hscr
      iexact Hreg
    isplitl [HO]
    · iapply (owes_in m t0_0.succ 0 (by dsimp only [dat0]; exact if_neg (Nat.succ_ne_zero _)) W); iexact HO
    isplitl [W0]; · iexact W0
    isplitl [W1]; · iexact W1
    isplitl [W2]; · iexact W2
    isplitl [W3]; · iexact W3
    isplitl [W4]; · iexact W4
    iexact W5))
  iapply greet_intro (W := W)
  isplitl [HK]; · iexact HK
  isplitl [Hc]; · iexact Hc
  isplitl [Hr]; · iexact Hr
  isplitr; · iexact Hl
  isplitl [W0 W1 W2 W3 W4]
  · unfold insPts
    isplitl [W0]; · iexact W0
    isplitl [W1]; · iexact W1
    isplitl [W2]; · iexact W2
    isplitl [W3]; · iexact W3
    iexact W4
  isplitl [W5 H0 H1 H2]
  · unfold bufPts
    isplitl [W5]; · iexact W5
    isplitl [H0]; · iexact H0
    isplitl [H1]; · iexact H1
    iexact H2
  isplitl [Hscr]; · iexact Hscr
  isplitl [HO]; · iexact HO
  iexact Hreg

end Cert.KernelIdeal.Mesh

end
-- ==== Proof.Record.lean ====
/-
  The region as one item of the program.
-/
module

public import proofs.«01_k».proof.Proof.Region

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-! ## The region's record -/

abbrev pdats (m : (ℓ : Loc nD τ sig) → Buf (Elt F) ℓ) : (p : Fin 1) → (c : Dev nD) → Pipeline.Dat τ (Elt F) Unit ℕ UU ℕ (cfgs p) c := fun _ c => dat0 m c

variable (m : (ℓ : Loc nD τ sig) → Buf (Elt F) ℓ)

theorem open_in (c : Dev nD) : iprop(Tk m c ∗ Pipeline.ownSems0 osem c ∗ levAts L lv) ⊢ (|={Set.univ}=> Xk m c : sProp (MM F)) := by
  rw [ownSems_eq]
  unfold Tk Xk ghost
  iintro ⟨⟨⟨%K, #HG, #HI, Ha, Ho, Hb, Hx⟩, Hc, Hr⟩, Hz, #Hl⟩
  imod open_all $$ [Ho Hz] with Hop
  · isplitr; · iexact HI
    isplitl [Ho] <;> iassumption
  imodintro
  isplitl [Ha Hb Hx Hop]
  · iexists K; unfold opened
    isplitr; · iexact HG
    isplitr; · iexact HI
    isplitl [Ha]; · iexact Ha
    isplitl [Hop]; · iexact Hop
    isplitl [Hb] <;> iassumption
  isplitl [Hc]; · iexact Hc
  isplitl [Hr]; · iexact Hr
  iexact Hl

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem greetOwed_pos {g : GSem nD τ sig} {u : Unit} (h : 0 < greetOwed 0 c g u) : (∃ k : Fin 24, g = recvCell k (peer k c)) ∨ ∃ d : Fin 6, g = barCell (bpeer d c) := by
  unfold greetOwed at h
  rw [Pi.add_apply, Finsupp.add_apply] at h
  rcases Nat.add_pos_iff_pos_or_pos.mp h with h | h
  · obtain ⟨k, -, e⟩ := owedFrom_pos h; exact .inl ⟨k, e⟩
  · refine .inr ?_
    by_contra hn
    push Not at hn
    rw [Finset.sum_apply, Finsupp.finset_sum_apply] at h
    have : ∑ d ∈ Finset.univ.filter (fun d : Fin 6 => 0 ≤ d.val), (tallyAt (barCell (bpeer d c)) () 1 : CellTallies nD τ sig Unit) g u = 0 :=
      Finset.sum_eq_zero fun d _ => by rw [tallyAt_apply, if_neg (fun h' => hn d h'.1)]
    omega

theorem lv_stage : ∀ (w : Fin 6) (s : Fin (spec0 w).nbuf), trOf ((spec0 w).sem s) = none := by decide

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then greetOwed 0 c else 0 := rfl
  rw [e] at h
  split at h
  · rcases greetOwed_pos h with ⟨k, rfl⟩ | ⟨d, rfl⟩
    · exact ⟨by rw [L_tc]; exact Finset.mem_singleton_self _, by rw [lv_recv]; omega⟩
    · exact ⟨by rw [L_tc]; exact Finset.mem_singleton_self _, Nat.one_pos⟩
  · exact absurd h (Nat.lt_irrefl 0)

/-- The buffers the windows do not name. -/
abbrev others : Finset (DevRef τ sig) := Pipeline.ucRefs τ sig \ Pipeline.arrRefs (τ := τ) spec0

theorem held_none (c : Dev nD) (V : Valuation τ sig (Elt F)) : (StableHlo.held (c.tc : Thread nD τ) ∅ V : sProp (MM F)) = BI.emp := by
  unfold StableHlo.held; exact BI.bigSep_empty

theorem V2_25 (c : Dev nD) : V2 m (outs m) c (Proc.devRef .tc main_v25) = outV m c := by
  show Function.update (V1 m c) (Proc.devRef .tc main_v25) (outs m 2 main_v25 c) (Proc.devRef .tc main_v25) = outV m c
  rw [Function.update_self]
  unfold outs
  rw [Function.update_self]
theorem V2_ne (c : Dev nD) (b : DevRef τ sig) (h : b ≠ Proc.devRef .tc main_v25) : V2 m (outs m) c b = V1 m c b := Function.update_of_ne h _ _

theorem in0 (c : Dev nD) : iprop(Pipeline.scopedRest spec0 c ∗ (∃ r, prngReg c r) ∗ StableHlo.held (c.tc : Thread nD τ) ∅ (V1 m c) ∗ Xk m c) ⊢ (dat0 m c).Φ 0 := by
  rw [show (dat0 m c).Φ 0 = Pre0 m c from by dsimp only [dat0]; exact if_pos rfl]
  unfold Pre0 rest reg
  iintro ⟨H1, H2, -, H3⟩
  isplitl [H3]; · iexact H3
  isplitl [H1] <;> iassumption
theorem out0 (c : Dev nD) : (dat0 m c).Φ (Fin.last cfg0.N)
    ⊢ iprop(Pipeline.scopedRest spec0 c ∗ (∃ r, prngReg c r) ∗ StableHlo.held (c.tc : Thread nD τ) ∅ (V2 m (outs m) c) ∗ Pipeline.ownSems0 osem c ∗ Yk F c) := by
  rw [show (dat0 m c).Φ (Fin.last cfg0.N) = Post0 F c from by
      dsimp only [dat0]; rw [Fin.val_last, if_neg (by rw [show cfg0.N = 1 from N_0]; decide)], held_none, ownSems_eq]
  unfold Post0 rest reg
  iintro ⟨⟨H1, H2⟩, H3, H4⟩
  isplitl [H3]; · iexact H3
  isplitl [H4]; · iexact H4
  isplitr; · iempintro
  isplitl [H2] <;> iassumption

theorem arrs_in (c : Dev nD) (w : Fin 6) : (dat0 m c).arrAt w 0 = V1 m c (Proc.devRef .tc (Pipeline.arrRef spec0 w)) := rfl
theorem arrs_ne : ∀ w : Fin 6, w ≠ 5 → (Proc.devRef .tc (Pipeline.arrRef spec0 w) : DevRef τ sig) ≠ Proc.devRef .tc main_v25 := by decide
theorem arrs_isIn : ∀ w : Fin 6, w ≠ 5 → (spec0 w).isOut = false := by decide
theorem arrs_out (c : Dev nD) (w : Fin 6) : (dat0 m c).arrAt w cfg0.N = V2 m (outs m) c (Proc.devRef .tc (Pipeline.arrRef spec0 w)) := by
  by_cases h : w = 5
  · subst h
    exact (arr_5 m).trans (V2_25 m c).symm
  · rw [Pipeline.Dat.arrAt_in (dat0 m c) w (arrs_isIn w h) cfg0.N, V2_ne m c _ (arrs_ne w h)]
    rfl

set_option backward.isDefEq.respectTransparency.types false in
def reg0 : Pipeline.RegionSeg (pcfgs (F := F)) adm (pdats m) () (defs₀ (F := F)) 𝒱₀ L lv 0 :=
  Pipeline.RegionSeg.ofTalk (pcfgs (F := F)) adm (pdats m) () (defs₀ (F := F)) 𝒱₀ L lv 0 osem osem_facts
    ∅ others (Finset.empty_subset _) kitP rfl (fun c => (body_obl m c).loose)
    (fun _ => 0) (fun c => greetOwed 0 c) (fun c => by dsimp only [pdats, dat0]; rw [zero_add]; exact if_pos rfl)
    (fun c => by dsimp only [pdats, dat0]; rw [Fin.val_last, if_neg (by rw [show (Pipeline.pin (pcfgs (F := F)) adm 0).N = 1 from N_0]; decide)])
    (fun _ => rfl) (fun _ w => by fin_cases w <;> rfl)
    (V1 m) (V2 m (outs m)) (fun c b hb => V2_ne m c b (fun e => by
      subst e; exact (Finset.mem_sdiff.mp (Finset.mem_sdiff.mp hb).1).2 (by decide)))
    (Tk m) (Yk F) (Xk m) (Yk F) (open_in m) (in0 m) (out0 m)
    (fun c => by iintro H; imodintro; iexact H)
    (fun _ => 0)
    ⟨fun c w s => by rw [L_tc]; exact Finset.mem_singleton_self _, fun c w s => by dsimp only [lv]; rw [lv_stage w s], fun c t g i h => cut m c t g i h⟩
    (fun _ => iprop(emp))
    (fun c w => arrs_in m c w) (fun c w => arrs_out m c w)

/-! ## Thread states between the items of the program -/

/-- What rides along: before the region, and after it. -/
def ride (n : Fin 2) (c : Dev nD) : sProp (MM F) :=
  match n with
  | 0 => iprop(Tk m c ∗ reg F c ∗ ∃ W, owes (c : Thread nD τ) (greetOwed 0 c) W)
  | 1 => iprop(Yk F c ∗ ∃ W, owes (c : Thread nD τ) (0 : CellTallies nD τ sig Unit) W)

theorem arr_sub : Pipeline.arrRefs (τ := τ) spec0 ⊆ Pipeline.ucRefs τ sig := by decide

theorem reg0_pre (c : Dev nD) : iprop(StableHlo.held (c : Thread nD τ) (Pipeline.ucRefs τ sig) (V1 m c) ∗ ride m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + greetOwed 0 c) Wd)
  rw [zero_add, StableHlo.held_sub_split (c.tc : Thread nD τ) arr_sub]
  unfold ride reg
  iintro ⟨⟨H1, H2⟩, H3, H4, H5⟩
  isplitl [H1]; · iexact H1
  isplitl [H4]; · iexact H4
  isplitl [H2]
  · isplitl [H2]; · iexact H2
    iempintro
  isplitl [H3] <;> iassumption
theorem reg0_post (c : Dev nD) : (reg0 m).post c ⊢ iprop(StableHlo.held (c : Thread nD τ) (Pipeline.ucRefs τ sig) (V2 m (outs m) c) ∗ ride m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk F c ∗ ∃ Wd, owes (c : Thread nD τ) (0 : CellTallies nD τ sig Unit) Wd) ⊢ _
  rw [StableHlo.held_sub_split (c.tc : Thread nD τ) arr_sub (V2 m (outs m) c)]
  unfold ride
  iintro ⟨H1, -, ⟨H2, -⟩, H3, H4⟩
  isplitl [H1 H2]
  · isplitl [H1] <;> iassumption
  isplitl [H3] <;> iassumption

end Cert.KernelIdeal.Mesh

end
-- ==== Proof.Deal.lean ====
/-
  The launch: the invariants, tokens and credits dealt to the devices.
-/
module

public import proofs.«01_k».proof.Proof.Record

public import Idealize.ShloMosaic.Harness.Basic
public import Idealize.ShloMosaic.Lib.Quiescent

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-! ## The cells and the tokens of the launch -/

theorem osem_inj : Function.Injective osem := osem_facts.inj
theorem osem_ne_bar : ∀ k : Fin 24 × Fin 2, osem k ≠ .reg barS := by rintro ⟨k, b⟩; dsimp only [osem]; intro h; cases h

def barEmb : Dev nD ↪ GSem nD τ sig := ⟨fun c => barCell c, fun _ _ h => congrArg (fun g : GSem nD τ sig => g.1.1) h⟩
def xferEmb : Dev nD × (Fin 24 × Fin 2) ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev xferCells : Finset (GSem nD τ sig) := Finset.univ.map xferEmb

def barTokEmb : Dev nD × Fin 6 ↪ GSem nD τ sig × ℕ × Fin 6 :=
  ⟨fun x => (barCell x.1, 0, x.2), fun _ _ h =>
    Prod.ext (congrArg (fun t : GSem nD τ sig × ℕ × Fin 6 => t.1.1.1) h) (congrArg (fun t : GSem nD τ sig × ℕ × Fin 6 => t.2.2) h)⟩
def xferTokEmb : Dev nD × (Fin 24 × Fin 2) ↪ GSem nD τ sig × ℕ × Fin 6 :=
  ⟨fun x => (xferEmb x, 0, 0), fun _ _ h => xferEmb.injective (congrArg Prod.fst h)⟩
def allToks : Finset (GSem nD τ sig × ℕ × Fin 6) := Finset.univ.map barTokEmb ∪ Finset.univ.map xferTokEmb

theorem disjoint_cells : Disjoint (barCells : Finset (GSem nD τ sig)) xferCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)
theorem disjoint_toks : Disjoint (Finset.univ.map barTokEmb) (Finset.univ.map xferTokEmb) := by
  rw [Finset.disjoint_left]
  rintro g h₁ h₂
  obtain ⟨c, -, rfl⟩ := Finset.mem_map.mp h₁
  obtain ⟨x, -, h⟩ := Finset.mem_map.mp h₂
  exact osem_ne_bar x.2 (congrArg (fun t : GSem nD τ sig × ℕ × Fin 6 => t.1.2) h)

theorem bar_mem (c : Dev nD) : barCell c ∈ (barCells ∪ xferCells : Finset (GSem nD τ sig)) :=
  Finset.mem_union_left _ (Finset.mem_map_of_mem barEmb (Finset.mem_univ c))
theorem send_mem (k : Fin 24) (c : Dev nD) : sendCell k c ∈ (barCells ∪ xferCells : Finset (GSem nD τ sig)) :=
  Finset.mem_union_right _ (Finset.mem_map_of_mem xferEmb (Finset.mem_univ (c, (k, (0 : Fin 2)))))
theorem recv_mem (k : Fin 24) (c : Dev nD) : recvCell k c ∈ (barCells ∪ xferCells : Finset (GSem nD τ sig)) :=
  Finset.mem_union_right _ (Finset.mem_map_of_mem xferEmb (Finset.mem_univ (c, (k, (1 : Fin 2)))))

def u₀ : UU :=
  (initOf (Pipeline.cells (Pipeline.pin (pcfgs (F := F)) adm) cellOf_inj) (Pipeline.launchToks (Pipeline.pin (pcfgs (F := F)) adm) cellOf_inj),
    launchOf barCells xferCells allToks)

/-- All of the protocol's launch element, kept on device 0 until the launch step. -/
def G (c : Dev nD) : sProp (MM F) := if c = 0 then BI.own (ER (launchOf barCells xferCells allToks)) else iprop(emp)
theorem G_all : bigSep Finset.univ (G (F := F)) = BI.own (ER (launchOf barCells xferCells allToks)) := by
  rw [bigSep_univ_at _ (0 : Dev nD), bigSep_congr (s := Finset.univ.erase (0 : Dev nD)) (Ψ := fun _ => (BI.emp : sProp (MM F)))
      fun c hc => by unfold G; rw [if_neg (Finset.ne_of_mem_erase hc)]; rfl, BI.bigSep_emp_const]
  unfold G; rw [if_pos rfl]
  exact BI.equiv_iff.mp sep_emp

variable (m : (ℓ : Loc nD τ sig) → Buf (Elt F) ℓ)

/-! ## What every device may consult -/

def records (K : GSem nD τ sig → ℕ) : sProp (MM F) :=
  iprop((bigSep (barCells ∪ xferCells) fun g => cellInv ER (rd (insOf m)) (K g) g) ∗ bigSep barCells fun g => reached ER g 0)
instance records_persistent (K : GSem nD τ sig → ℕ) : BI.Persistent (records m K) := by unfold records; infer_instance

theorem rec_at (K : GSem nD τ sig → ℕ) {g : GSem nD τ sig} (hg : g ∈ (barCells ∪ xferCells : Finset (GSem nD τ sig))) :
    records m K ⊢ cellInv ER (rd (insOf m)) (K g) g := by
  unfold records
  iintro ⟨H, -⟩
  iapply (show (bigSep (barCells ∪ xferCells) fun g => (cellInv ER (rd (insOf m)) (K g) g : sProp (MM F))) ⊢ cellInv ER (rd (insOf m)) (K g) g from bigSep_elim hg); iexact H
theorem reach_at (K : GSem nD τ sig → ℕ) (c : Dev nD) : records m K ⊢ reached ER (barCell c) 0 := by
  unfold records
  iintro ⟨-, H⟩
  iapply (show (bigSep barCells fun g => (reached ER g 0 : sProp (MM F))) ⊢ reached ER (barCell c) 0 from bigSep_elim (Finset.mem_map_of_mem barEmb (Finset.mem_univ c))); iexact H

/-- A persistent fact gives a family of its consequences. -/
theorem fan {n : ℕ} {R : sProp (MM F)} [BI.Persistent R] (Φ : Fin n → sProp (MM F)) (h : ∀ k, R ⊢ Φ k) : R ⊢ bigSep Finset.univ Φ := by
  iintro #H
  iapply (bigSep_with_persistent (R := R) (Φ := fun _ => (BI.emp : sProp (MM F))) fun k _ => (show iprop(R ∗ emp) ⊢ Φ k from BIBase.Entails.trans Laws.sep_emp.mp (h k)))
  isplitr; · iexact H
  rw [BI.bigSep_emp_const]; iempintro

theorem greetRec_intro (K : GSem nD τ sig → ℕ) (c : Dev nD) : records m K ⊢ greetRec (insOf m) K c := by
  unfold greetRec
  iintro #H
  isplitr; · iapply (rec_at m K (bar_mem c)); iexact H
  iapply (fan (R := records m K) _ (fun d => show records m K ⊢ iprop(cellInv ER (rd (insOf m)) (K (barCell (bpeer d c))) (barCell (bpeer d c)) ∗ reached ER (barCell (bpeer d c)) 0) from by
    iintro #H
    isplitr; · iapply (rec_at m K (bar_mem _)); iexact H
    iapply (reach_at m K _); iexact H))
  iexact H
theorem invs_intro (K : GSem nD τ sig → ℕ) (c : Dev nD) : records m K ⊢ invs (insOf m) K c := by
  unfold invs
  iintro #H
  iapply (fan (R := records m K) _ (fun k => show records m K ⊢ iprop(cellInv ER (rd (insOf m)) (K (sendCell k c)) (sendCell k c) ∗ cellInv ER (rd (insOf m)) (K (recvCell k c)) (recvCell k c)
      ∗ cellInv ER (rd (insOf m)) (K (recvCell k (peer k c))) (recvCell k (peer k c))) from by
    iintro #H
    isplitr; · iapply (rec_at m K (send_mem _ _)); iexact H
    isplitr; · iapply (rec_at m K (recv_mem _ _)); iexact H
    iapply (rec_at m K (recv_mem _ _)); iexact H))
  iexact H

/-- What only one device gets. -/
def linear (F : FTy → Type) [FloatOps F] [Named F] (c : Dev nD) : sProp (MM F) :=
  iprop(atPos ER (barCell c) 0 ∅ 0 ∗ openToks F c ∗ barToks F c ∗ xferToks F c)

theorem ghost_intro (K : GSem nD τ sig → ℕ) (c : Dev nD) : iprop(records m K ∗ linear F c) ⊢ iprop(∃ K, ghost (insOf m) K c) := by
  unfold linear ghost
  iintro ⟨#HR, Ha, Ho, Hb, Hx⟩
  iexists K
  isplitr; · iapply (greetRec_intro m K c); iexact HR
  isplitr; · iapply (invs_intro m K c); iexact HR
  isplitl [Ha]; · iexact Ha
  isplitl [Ho]; · iexact Ho
  isplitl [Hb] <;> iassumption

/-! ## Dealing the tokens -/

def barTurn : Dev nD × Fin 6 ≃ Dev nD × Fin 6 where
  toFun x := (bpeer x.2 x.1, x.2)
  invFun x := (bpeer x.2 x.1, x.2)
  left_inv x := by dsimp only; rw [bpeer_bpeer]
  right_inv x := by dsimp only; rw [bpeer_bpeer]
def xferTurn : Dev nD × Fin 24 ≃ Dev nD × Fin 24 where
  toFun x := (peer x.2 x.1, x.2)
  invFun x := (peer x.2 x.1, x.2)
  left_inv x := by dsimp only; rw [peer_peer]
  right_inv x := by dsimp only; rw [peer_peer]

/-- A family over the transfer cells, read device by device and transfer by transfer. -/
theorem cells_eq (Φ : Dev nD × (Fin 24 × Fin 2) → sProp (MM F)) :
    bigSep Finset.univ Φ = bigSep Finset.univ fun c : Dev nD => bigSep Finset.univ fun k : Fin 24 => iprop(Φ (c, (k, 0)) ∗ Φ (c, (k, 1))) := by
  rw [bigSep_univ_prod]
  refine bigSep_congr fun c _ => ?_
  rw [bigSep_univ_prod]
  exact bigSep_congr fun k _ => BI.bigSep_fin_two (fun b : Fin 2 => Φ (c, (k, b)))

theorem opens_deal : bigSep xferCells (fun g => (openTok ER g : sProp (MM F))) = bigSep Finset.univ fun c : Dev nD => openToks F c := by
  rw [bigSep_map, cells_eq]
  rfl

theorem bar_deal : bigSep (Finset.univ.map barTokEmb) (fun x => (dutyTok ER x.1 x.2.1 x.2.2 : sProp (MM F))) = bigSep Finset.univ fun c : Dev nD => barToks F c := by
  rw [bigSep_map, bigSep_univ_equiv barTurn, bigSep_univ_prod]
  rfl

theorem xfer_deal : bigSep (Finset.univ.map xferTokEmb) (fun x => (dutyTok ER x.1 x.2.1 x.2.2 : sProp (MM F))) = bigSep Finset.univ fun c : Dev nD => xferToks F c := by
  have e (Φ Ψ : Dev nD → Fin 24 → sProp (MM F)) : (bigSep Finset.univ fun c : Dev nD => bigSep Finset.univ fun k : Fin 24 => iprop(Φ c k ∗ Ψ c k))
      = bigSep Finset.univ fun c : Dev nD => bigSep Finset.univ fun k : Fin 24 => iprop(Φ c k ∗ Ψ (peer k c) k) := by
    have h (X : Dev nD → Fin 24 → sProp (MM F)) : (bigSep Finset.univ fun c : Dev nD => bigSep Finset.univ fun k : Fin 24 => X c k)
        = bigSep Finset.univ fun x : Dev nD × Fin 24 => X x.1 x.2 := (bigSep_univ_prod (Φ := fun x : Dev nD × Fin 24 => X x.1 x.2)).symm
    rw [h, h, bigSep_sep', bigSep_sep', bigSep_univ_equiv xferTurn (fun x : Dev nD × Fin 24 => Ψ x.1 x.2)]
    rfl
  rw [bigSep_map, cells_eq]
  exact e (fun c k => dutyTok ER (sendCell k c) 0 (0 : Fin 6)) (fun c k => dutyTok ER (recvCell k c) 0 (0 : Fin 6))

/-! ## The launch credit -/

theorem recv_inj : ∀ k k' : Fin 24, recvS k = recvS k' → k = k' := by decide
theorem cell_dev {c d : Dev nD} {s s' : SemLoc sig} (h : ((c : Thread nD τ), s) = ((d : Thread nD τ), s')) : c = d :=
  congrArg (fun g : GSem nD τ sig => g.1.1) h

theorem owed_bar (d c : Dev nD) : greetOwed 0 d (barCell c) () = ∑ e : Fin 6, if d = bpeer e c then 1 else 0 := by
  unfold greetOwed owedFrom
  rw [Pi.add_apply, Finsupp.add_apply, Finset.sum_apply, Finsupp.finset_sum_apply, Finset.sum_apply, Finsupp.finset_sum_apply,
    Finset.sum_eq_zero (fun k _ => by rw [tallyAt_apply, if_neg (fun h => by cases congrArg Prod.snd h.1)]), zero_add,
    show (Finset.univ.filter fun e : Fin 6 => 0 ≤ e.val) = Finset.univ from Finset.filter_true_of_mem fun _ _ => Nat.zero_le _]
  refine Finset.sum_congr rfl fun e _ => ?_
  rw [tallyAt_apply]
  refine if_congr ⟨fun h => ?_, fun h => ⟨?_, rfl⟩⟩ rfl rfl
  · rw [cell_dev h.1, bpeer_bpeer]
  · rw [h, bpeer_bpeer]
theorem owed_recv (d c : Dev nD) (k : Fin 24) : greetOwed 0 d (recvCell k c) () = if d = peer k c then amt k else 0 := by
  unfold greetOwed owedFrom
  rw [Pi.add_apply, Finsupp.add_apply, Finset.sum_apply, Finsupp.finset_sum_apply, Finset.sum_apply, Finsupp.finset_sum_apply,
    Finset.sum_eq_zero (s := Finset.univ.filter fun e : Fin 6 => 0 ≤ e.val) (fun e _ => by rw [tallyAt_apply, if_neg (fun h => by cases congrArg Prod.snd h.1)]), add_zero,
    show (Finset.univ.filter fun k : Fin 24 => 0 ≤ k.val) = Finset.univ from Finset.filter_true_of_mem fun _ _ => Nat.zero_le _,
    Finset.sum_eq_single k]
  · rw [tallyAt_apply]
    refine if_congr ⟨fun h => ?_, fun h => ⟨?_, rfl⟩⟩ rfl rfl
    · rw [cell_dev h.1, peer_peer]
    · rw [h, peer_peer]
  · intro k' _ hk
    rw [tallyAt_apply, if_neg (fun h => hk ?_)]
    have := congrArg Prod.snd h.1
    exact (recv_inj k k' (by injection this)).symm
  · exact fun h => absurd (Finset.mem_univ _) h

theorem credit_bar (c : Dev nD) :
    tallyOn (barCell c) (launchCredit (Pipeline.owing fun c : Dev nD => greetOwed 0 c) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun e _ => Finset.sum_ite_eq' Finset.univ (bpeer e c) fun _ => 1]
  simp
theorem credit_recv (k : Fin 24) (c : Dev nD) :
    tallyOn (recvCell k c) (launchCredit (Pipeline.owing fun c : Dev nD => greetOwed 0 c) 0 (recvCell k c)) = (tallyAt (recvCell k c) () (amt k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer k c) fun _ => amt k, if_pos (Finset.mem_univ _)]

def recvEmb : Fin 24 ↪ SemLoc sig := ⟨fun k => .dma (recvS k), fun k k' h => recv_inj k k' (by injection h)⟩

theorem creds (c : Dev nD) :
    (Pipeline.launchCred (fun c : Dev nD => greetOwed 0 c) c : sProp (MM F)) ⊢ iprop(cred (tallyAt (barCell c) () 6) ∗ recvCreds F c) := by
  unfold Pipeline.launchCred
  rw [bigSep_univ_at _ (SemLoc.reg barS), credit_bar]
  refine sep_mono_right ?_
  have h : Finset.univ.map recvEmb ⊆ (Finset.univ.erase (SemLoc.reg barS) : Finset (SemLoc sig)) := by
    intro s hs
    obtain ⟨k, -, rfl⟩ := Finset.mem_map.mp hs
    exact Finset.mem_erase.mpr ⟨(by intro h; cases h), Finset.mem_univ _⟩
  refine BI.Entails.trans (BI.bigSep_subset h) ?_
  rw [bigSep_map]
  unfold recvCreds
  rw [← bigSep_congr (s := Finset.univ) fun (k : Fin 24) _ => congrArg (fun t => (cred t : sProp (MM F))) (credit_recv k c)]
  exact BI.Entails.refl _

/-! ## The launch step -/

theorem unscoped_eq : ∀ sm : SemLoc sig, sm.isScoped .tc = false → sm = .reg barS := by decide
theorem bar_counter (c : Dev nD) : (unscopedSems0 c : sProp (MM F)) = semVal (barCell c) 0 := by
  unfold unscopedSems0
  rw [show (Finset.univ.filter fun sm : SemLoc sig => ¬sm.isScoped .tc) = {SemLoc.reg barS} from by decide, bigSep_singleton]

/-- A device's launch holdings outside the protocol. -/
def bundle (ρ : Dev nD → PrngReg) (c : Dev nD) : sProp (MM F) :=
  iprop((StableHlo.held (c : Thread nD τ) (Pipeline.ucRefs τ sig) (V0 m c)) ∗ (cred (tallyAt (barCell c) () 6) ∗ recvCreds F c)
    ∗ owes (c : Thread nD τ) (greetOwed 0 c) ∅ ∗ prngReg c (ρ c))

abbrev T₀ (c : Dev nD) : sProp (MM F) := iprop(StableHlo.held (c : Thread nD τ) (Pipeline.ucRefs τ sig) (V0 m c) ∗ ride m 0 c)

theorem T₀_intro (ρ : Dev nD → PrngReg) (K : GSem nD τ sig → ℕ) (c : Dev nD) : iprop(records m K ∗ (linear F c ∗ bundle m ρ c)) ⊢ T₀ m c := by
  unfold bundle T₀ ride Tk reg
  iintro ⟨#HR, Hl, Hh, ⟨H1, HN⟩, HO, Hp⟩
  isplitl [Hh]; · iexact Hh
  isplitl [Hl H1 HN]
  · isplitl [Hl]
    · iapply (ghost_intro m K c)
      isplitr; · iexact HR
      iexact Hl
    isplitl [H1] <;> iassumption
  isplitl [Hp]
  · iexists (ρ c); iexact Hp
  · iexists ∅; iexact HO

theorem launch (ρ : Dev nD → PrngReg) :
    iprop((bigSep Finset.univ fun c : Dev nD => iprop(unscopedBufs c (fun b => m ((c.tc : Thread nD τ).loc b)) ∗ unscopedSems0 c
          ∗ owes (c.tc : Thread nD τ) (greetOwed 0 c) ∅ ∗ Pipeline.launchCred (fun c : Dev nD => greetOwed 0 c) c ∗ prngReg c (ρ c) ∗ G c)) ∗ levAts L lv)
      ⊢ (|={Set.univ}=> bigSep Finset.univ (T₀ m) : sProp (MM F)) := by
  have hcore (c : Dev nD) : iprop(unscopedBufs c (fun b => m ((c.tc : Thread nD τ).loc b)) ∗ unscopedSems0 c
        ∗ owes (c.tc : Thread nD τ) (greetOwed 0 c) ∅ ∗ Pipeline.launchCred (fun c : Dev nD => greetOwed 0 c) c ∗ prngReg c (ρ c) ∗ G c)
      ⊢ (iprop(bundle m ρ c ∗ (semVal (barCell c) 0 ∗ G c)) : sProp (MM F)) := by
    rw [show unscopedBufs c (fun b => m ((c.tc : Thread nD τ).loc b)) = StableHlo.held (c : Thread nD τ) (Pipeline.ucRefs τ sig) (V0 m c) from Pipeline.unscopedBufs_held c (V0 m c),
      bar_counter]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO] <;> iassumption
    isplitl [Hus] <;> iassumption
  have hv : bigSep Finset.univ (fun c : Dev nD => (semVal (barCell c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (barCell c) 0 ∅ 0 : sProp (MM F))) :=
    Entails.of_eq (bigSep_map (s := Finset.univ) barEmb (Φ := fun g : GSem nD τ sig => (atPos ER g 0 ∅ 0 : sProp (MM F))))
  iintro ⟨H, -⟩
  ihave H' := (show (bigSep Finset.univ fun c : Dev nD => iprop(unscopedBufs c (fun b => m ((c.tc : Thread nD τ).loc b)) ∗ unscopedSems0 c
          ∗ owes (c.tc : Thread nD τ) (greetOwed 0 c) ∅ ∗ Pipeline.launchCred (fun c : Dev nD => greetOwed 0 c) c ∗ prngReg c (ρ c) ∗ G c))
      ⊢ (bigSep Finset.univ fun c : Dev nD => iprop(bundle m ρ c ∗ (semVal (barCell c) 0 ∗ G c)) : sProp (MM F)) from bigSep_mono fun c _ => hcore c) $$ H
  ihave H2 := Smoke.bigSep_unpair $$ H'; icases H2 with ⟨HB, H3⟩
  ihave H4 := Smoke.bigSep_unpair $$ H3; icases H4 with ⟨Hv, HG⟩
  ihave Hu := (Entails.of_eq (G_all (F := F))) $$ HG
  imod (Rounds.fund_launch ER (rd (insOf m)) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear F c ∗ bundle m ρ c)) fun c _ => T₀_intro m ρ K c)
  isplitr
  · unfold records
    isplitr; · iexact Hinv
    iexact Hr
  iapply Smoke.bigSep_pair
  isplitr [HB]
  · unfold linear
    iapply Smoke.bigSep_pair; isplitl [Hat]; · iapply hat $$ Hat
    iapply Smoke.bigSep_pair; isplitl [Hopen]; · iapply (Entails.of_eq (opens_deal (F := F))) $$ Hopen
    ihave Ht := (Entails.of_eq (show bigSep allToks (fun x => (dutyTok ER x.1 x.2.1 x.2.2 : sProp (MM F)))
      = iprop(bigSep (Finset.univ.map barTokEmb) (fun x => (dutyTok ER x.1 x.2.1 x.2.2 : sProp (MM F))) ∗ bigSep (Finset.univ.map xferTokEmb) (fun x => (dutyTok ER x.1 x.2.1 x.2.2 : sProp (MM F)))) from bigSep_union disjoint_toks)) $$ Htok
    icases Ht with ⟨Hb, Hx⟩
    iapply Smoke.bigSep_pair
    isplitl [Hb]
    · iapply (Entails.of_eq (bar_deal (F := F))) $$ Hb
    · iapply (Entails.of_eq (xfer_deal (F := F))) $$ Hx
  · iexact HB

end Cert.KernelIdeal.Mesh

end
-- ==== Proof.Run.lean ====
/-
  The run of the whole program.
-/
module

public import proofs.«01_k».proof.Proof.Deal

public import Idealize.ShloMosaic.Harness.Basic
public import Idealize.ShloMosaic.Lib.Quiescent

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

variable (m : (ℓ : Loc nD τ sig) → Buf (Elt F) ℓ) (ρ : Dev nD → PrngReg)

abbrev Tₙ (c : Dev nD) : sProp (MM F) := iprop(StableHlo.held (c : Thread nD τ) (Pipeline.ucRefs τ sig) (V3 m (outs m) c) ∗ semVal (barCell c) 0)

abbrev items (c : Dev nD) : List (Pipeline.Seg (pcfgs (F := F)) adm (pdats m) () (defs₀ (F := F)) 𝒱₀ L lv) :=
  segs m (outs m) 𝒱₀ L lv (ride m) () (pdats m) (reg0 m) c

set_option backward.isDefEq.respectTransparency.types false in
/-- Every run ends, each device's buffers are as the last valuation says, and every counter is at zero. -/
theorem run_main : θ_run defs (onTc (τ := τ) (main (F := F))) ⟨m, fun _ => 0, ρ⟩
    (fun r => (∀ c : Dev nD, ∀ b ∈ Pipeline.ucRefs τ sig, r.2.mem (c, b) = V3 m (outs m) c b) ∧ r.2.sem = fun _ => 0) :=
  Pipeline.θ_run_regions_kit_dev_sems (pcfgs (F := F)) adm (pdats m) () cellOf_inj EP (defs₀ (F := F)) 𝒱₀ L lv m ρ main (items m)
    (fun c Q => by
      rewrite [main_chain c, Pipeline.Seg.run_eq_chain,
        show (items m c).map Pipeline.Seg.prog = [StableHlo.seq (hostOps0 c), Prog.lift (.customCall (Pipeline.entry 0) ()), StableHlo.seq hostOps1] from rfl]
      dsimp (config := { failIfUnchanged := false }) only
      exact .rfl)
    (fun c => by simp only [items, segs, Pipeline.Seg.pipes_host, Pipeline.Seg.pipes_region, Pipeline.Seg.pipes_nil]; decide)
    (fun c => greetOwed 0 c) L_of_ne (G (F := F)) (u₀ (F := F))
    (by
      unfold u₀
      iintro Hu
      ihave H := (ownU_pair _ _) $$ Hu
      icases H with ⟨HP, HX⟩
      imodintro
      isplitl [HP]; · iexact HP
      rw [G_all]; iexact HX)
    (T₀ m) (Tₙ m)
    (fun c => by
      refine ⟨.rfl, reg0_pre m c, reg0_post m c, ?_⟩
      show iprop(StableHlo.held (c : Thread nD τ) (Pipeline.ucRefs τ sig) (V3 m (outs m) c)
          ∗ (semVal (barCell c) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh] <;> iassumption
      · iexact HO)
    (launch m ρ)
    (fun c s => (∀ b ∈ Pipeline.ucRefs τ sig, s.mem (c, b) = V3 m (outs m) c b) ∧ s.sem (barCell c) = 0)
    (fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (fun s h hs => ⟨fun c => (h c).1, sem_eq_zero hs fun c sm hsm => by
      obtain rfl := unscoped_eq sm hsm
      exact (h c).2⟩)

end Cert.KernelIdeal.Mesh

end
-- ==== Proof.Frames.lean ====
/-
  What the run leaves: the arguments, the result, the counters.
-/
module

public import proofs.«01_k».proof.Proof.Run

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-- What a frame says of the final memory: the arguments as they were, and every counter at zero. -/
def Kept (m : (ℓ : Loc nD τ sig) → Buf (Elt F) ℓ) (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem = fun _ => 0

theorem uc_mem (r : Ref sig .tc) (h : r.isScoped = false) : (Proc.devRef .tc r : DevRef τ sig) ∈ Pipeline.ucRefs τ sig :=
  Finset.mem_filter.mpr ⟨StableHlo.devRef_mem_tcRefs r, by simpa using h⟩

variable (m : (ℓ : Loc nD τ sig) → Buf (Elt F) ℓ) (ρ : Dev nD → PrngReg)

/-- The run with the arguments kept and the result read off the last valuation. -/
theorem run_kept : θ_run defs (onTc (τ := τ) (main (F := F))) ⟨m, fun _ => 0, ρ⟩
    (fun r => (∀ c : Dev nD, r.2.mem ((c.tc : Thread nD τ).loc main_v26) = V3 m (outs m) c (Proc.devRef .tc main_v26)) ∧ Kept m r.2) :=
  (θ_run defs (onTc (τ := τ) (main (F := F))) ⟨m, fun _ => 0, ρ⟩).mono (fun r h =>
    ⟨fun c => h.1 c _ (uc_mem main_v26 rfl),
      fun c => ⟨(h.1 c _ (uc_mem main_arg0 rfl)).trans (V3_main_arg0 m (outs m) c),
        (h.1 c _ (uc_mem main_arg1 rfl)).trans (V3_main_arg1 m (outs m) c),
        (h.1 c _ (uc_mem main_arg2 rfl)).trans (V3_main_arg2 m (outs m) c),
        (h.1 c _ (uc_mem main_arg3 rfl)).trans (V3_main_arg3 m (outs m) c),
        (h.1 c _ (uc_mem main_arg4 rfl)).trans (V3_main_arg4 m (outs m) c)⟩, h.2⟩) (run_main m ρ)

end Cert.KernelIdeal.Mesh

end
-- ==== Proof.Plain.lean ====
/-
  The kernel as it is run: the same program, its constants literal.
-/
module

public import proofs.«01_k».proof.Proof.Frames

public import proofs.«01_k».proof.Defs
public import proofs.«01_k».proof.Proof.Gen.Kernel

@[expose] public section

set_option maxRecDepth 65536

noncomputable section

namespace Cert.KernelIdeal.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
variable {I : Ins F} {K : GSem nD τ sig → ℕ} {c : Dev nD} {ct ct' : Ct} {R : sProp (MM F)} {α : Type} {Q : α → sProp (MM F)}
variable {o p : Vec F S1024x1024 .f32} {x t : Vec F S1024x1024 .bf16}

/-- The reading of the named constants as the literals they stand for. -/
@[reducible] def literal : Named Bits := ⟨fun _ _ {φ} bits => Scalar.ofBits φ bits⟩
attribute [local instance] literal

/-- Read so, the two programs are one: the host's part, the kernel's body, and the table of bodies. -/
theorem main_same : Cert.Kernel.main (F := Bits) = Cert.KernelIdeal.main (F := Bits) := rfl
theorem body_same : Cert.Kernel.cc0_body (F := Bits) = Cert.KernelIdeal.cc0_body (F := Bits) := rfl
theorem table_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [body_same]
theorem defs_same : Cert.Kernel.defs (F := Bits) = Cert.KernelIdeal.defs (F := Bits) := by
  show Pipeline.defs Cert.Kernel.pcfgs Cert.Kernel.defs₀ = Pipeline.defs Cert.KernelIdeal.pcfgs Cert.KernelIdeal.defs₀
  rw [table_same]
  rfl

theorem plain_kept (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => Kept m r.2) := by
  rw [main_same, defs_same]
  exact (θ_run _ _ _).mono (fun r h => h.2) (run_kept m ρ)

end Cert.KernelIdeal.Mesh

end
-- ==== Proof.Soft.lean ====
/-
  One row of the attention over the extended reals: the weights without a shift, over a window that holds every column the
  mask keeps, and the weights shifted by the row's largest score, over all columns, give the same average.
-/
module

public import Idealize.ShloMosaic.PureOps.Ideal
public import Idealize.ShloMosaic.PureOps.Ideal.Laws

@[expose] public section

noncomputable section

namespace Cert.KernelIdeal.Mesh

open Idealize.ShloMosaic

theorem sum_scale {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Column `w + k` of a row of 1024. -/
def shiftBy (w : ℕ) (hw : w + 512 ≤ 1024) (k : Fin 512) : Fin 1024 := ⟨w + k.val, by omega⟩

theorem sum_window (f : Fin 1024 → EReal) (w : ℕ) (hw : w + 512 ≤ 1024) (h : ∀ j, ¬ (w ≤ j.val ∧ j.val < w + 512) → f j = 0) :
    ∑ k : Fin 512, f (shiftBy w hw k) = ∑ j, f j := by
  classical
  refine Finset.sum_of_injOn (shiftBy w hw) (fun a _ b _ e => ?_) (fun _ _ => Finset.mem_coe.2 (Finset.mem_univ _)) (fun j _ hj => ?_) (fun _ _ => rfl)
  · have := congrArg Fin.val e; simp only [shiftBy] at this; exact Fin.ext (by omega)
  · refine h j fun hin => hj ⟨⟨j.val - w, by omega⟩, Finset.mem_coe.2 (Finset.mem_univ _), Fin.ext ?_⟩
    simp only [shiftBy]; omega

/-- The largest of a row of scores, some real and the rest absent, is real. -/
theorem max_real (s : Fin 1024 → ℝ) (M : Fin 1024 → Prop) [DecidablePred M] (hne : ∃ j, M j) :
    ∃ m : ℝ, Finset.univ.fold max (⊥ : EReal) (fun j => if M j then (s j : EReal) else ⊥) = (m : EReal) := by
  obtain ⟨j, hj⟩ := hne
  have h1 : (⊥ : EReal) < Finset.univ.fold max (⊥ : EReal) (fun j => if M j then (s j : EReal) else ⊥) :=
    (Finset.lt_fold_max _).2 (.inr ⟨j, Finset.mem_univ _, by rw [if_pos hj]; exact EReal.bot_lt_coe _⟩)
  have h2 : Finset.univ.fold max (⊥ : EReal) (fun j => if M j then (s j : EReal) else ⊥) < ⊤ :=
    (Finset.fold_max_lt _).2 ⟨bot_lt_top, fun x _ => by split; exacts [EReal.coe_lt_top _, bot_lt_top]⟩
  exact ⟨_, (EReal.coe_toReal h2.ne h1.ne').symm⟩

section Row
variable (s : Fin 1024 → ℝ) (M : Fin 1024 → Prop) [DecidablePred M]

/-- A column's weight, unshifted. -/
def wt (j : Fin 1024) : ℝ := if M j then Real.exp (s j) else 0
theorem wt_nonneg (j : Fin 1024) : 0 ≤ wt s M j := by unfold wt; split; exacts [(Real.exp_pos _).le, le_refl _]
theorem wt_sum_pos (hne : ∃ j, M j) : 0 < ∑ j, wt s M j := by
  obtain ⟨j, hj⟩ := hne
  exact Finset.sum_pos' (fun j _ => wt_nonneg s M j) ⟨j, Finset.mem_univ _, by unfold wt; rw [if_pos hj]; exact Real.exp_pos _⟩
theorem exp_added (j : Fin 1024) : Ideal.exp ((s j : EReal) + if M j then 0 else ⊥) = (wt s M j : EReal) := by
  unfold wt; split
  · rw [add_zero]; rfl
  · rw [EReal.add_bot]; rfl
theorem exp_shifted (m : ℝ) (j : Fin 1024) :
    Ideal.exp ((if M j then (s j : EReal) else ⊥) - (m : EReal)) = ((wt s M j * Real.exp (-m) : ℝ) : EReal) := by
  unfold wt; split
  · rw [← EReal.coe_sub, ← Real.exp_add, ← sub_eq_add_neg]; rfl
  · rw [EReal.bot_sub, zero_mul]; rfl

theorem soft_row (w : ℕ) (hw : w + 512 ≤ 1024) (hM : ∀ j, M j → w ≤ j.val ∧ j.val < w + 512) (hne : ∃ j, M j) (v : Fin 1024 → EReal) :
    (∑ k : Fin 512, Ideal.exp ((s (shiftBy w hw k) : EReal) + if M (shiftBy w hw k) then 0 else ⊥) * v (shiftBy w hw k))
        * Ideal.div 1 (∑ k : Fin 512, Ideal.exp ((s (shiftBy w hw k) : EReal) + if M (shiftBy w hw k) then 0 else ⊥))
      = ∑ j, Ideal.div (Ideal.exp ((if M j then (s j : EReal) else ⊥) - Finset.univ.fold max (⊥ : EReal) (fun j => if M j then (s j : EReal) else ⊥)))
          (∑ j, Ideal.exp ((if M j then (s j : EReal) else ⊥) - Finset.univ.fold max (⊥ : EReal) (fun j => if M j then (s j : EReal) else ⊥))) * v j := by
  obtain ⟨m, hm⟩ := max_real s M hne
  have hE := wt_sum_pos s M hne
  have h0 : ∀ j, ¬ (w ≤ j.val ∧ j.val < w + 512) → wt s M j = 0 := fun j hj => if_neg fun h => hj (hM j h)
  simp only [hm, exp_added, exp_shifted, sum_real]
  rw [sum_window (fun j => (wt s M j : EReal) * v j) w hw (fun j hj => by simp only [h0 j hj, EReal.coe_zero, zero_mul])]
  rw [show (∑ k : Fin 512, wt s M (shiftBy w hw k)) = ∑ j, wt s M j from by
    have h := sum_window (fun j => (wt s M j : EReal)) w hw (fun j hj => by simp only [h0 j hj, EReal.coe_zero])
    simp only [sum_real] at h; exact_mod_cast h]
  rw [← EReal.coe_one, div_real _ _ hE.ne', sum_scale _ _ _ (by positivity)]
  refine Finset.sum_congr rfl fun j _ => ?_
  rw [← Finset.sum_mul, div_real _ _ (mul_pos hE (Real.exp_pos _)).ne', mul_right_comm, ← EReal.coe_mul]
  congr 2
  have := (Real.exp_pos (-m)).ne'
  field_simp

end Row

end Cert.KernelIdeal.Mesh

end
-- ==== Proof.Pays.lean ====
/-
  The kernel's payloads over the extended reals, element by element.
-/
module

public import proofs.«01_k».proof.Proof.Gen.KernelIdeal.Skeleton
public import Idealize.ShloMosaic.Lib.Pointwise

@[expose] public section

set_option maxRecDepth 16384

noncomputable section

namespace Cert.KernelIdeal.Mesh

open Idealize.ShloMosaic
open Cert.KernelIdeal Cert.KernelIdeal.Gen

/-- The factor on the scores, as both programs write it. -/
def scl : EReal := Ideal.ofBits .f32 0x3DB504F3#32

theorem pay2_apply (x w : Vec Ideal S1024x1024 .bf16) (r j : Fin 1024) :
    k0_pay2 (F := Ideal) x w (ix2 r j) = (∑ k : Fin 1024, x (ix2 r k) * w (ix2 k j)) * scl := by
  pointwise [k0_pay2, scl]

theorem pay9_apply (n : FVec Ideal S256x512 .f32) (q : Vec Ideal S256x128 .bf16) (K : Vec Ideal S1x128x512 .bf16) (V : Vec Ideal S1x512x128 .bf16)
    (i : Fin 256) (l : Fin 128) :
    k0_pay9 (F := Ideal) n q K V (ix2 i l)
      = (∑ k : Fin 512, Ideal.exp ((∑ d : Fin 128, q (ix2 i d) * K (ix3 0 d k)) + n (ix2 i k)) * V (ix3 0 k l))
        * Ideal.div 1 (∑ k : Fin 512, Ideal.exp ((∑ d : Fin 128, q (ix2 i d) * K (ix3 0 d k)) + n (ix2 i k))) := by
  pointwise [k0_pay9]

theorem pay82_apply (x : Vec Ideal S128x1024 .bf16) (w : Vec Ideal S1024x1024 .bf16) (r : Fin 128) (j : Fin 1024) :
    k0_pay82 (F := Ideal) x w (ix2 r j) = ∑ k : Fin 1024, x (ix2 r k) * w (ix2 k j) := by
  pointwise [k0_pay82]

/-- Two positions no further apart than the window. -/
abbrev near (a b : ℕ) : Prop := a ≤ b + 128 ∧ b ≤ a + 128

theorem near_word (a b : ℕ) (ha : a < 2048) (hb : b < 2048) :
    IntOp.cmpi .sle (IntOp.absi (IntOp.subi (BitVec.ofNat 32 a) (BitVec.ofNat 32 b))) 128#32 = BitVec.ofBool (decide (near a b)) := by
  refine congrArg BitVec.ofBool ?_
  show BitVec.sle _ _ = _
  have h1 : (BitVec.ofNat 32 a - BitVec.ofNat 32 b).toNat = if b ≤ a then a - b else 2 ^ 32 + a - b := by
    rw [BitVec.toNat_sub, BitVec.toNat_ofNat, BitVec.toNat_ofNat]; split <;> omega
  rw [BitVec.sle, decide_eq_decide]
  unfold IntOp.absi IntOp.subi
  generalize hd : BitVec.ofNat 32 a - BitVec.ofNat 32 b = d at h1
  rw [BitVec.msb_eq_decide, h1]
  simp only [BitVec.toInt_eq_toNat_cond, decide_eq_true_eq, near]
  split_ifs at * <;> simp only [BitVec.toNat_neg, h1, BitVec.toNat_ofNat] at * <;> omega

theorem pick_near {α : Type} (p : Prop) [Decidable p] (x y : α) : Scalar.select (BitVec.ofBool (decide p)) x y = if p then x else y := by
  unfold Scalar.select
  by_cases h : p <;> simp [h]

theorem mask_word (a i b k : ℕ) (ha : a + i < 2048) (hb : b + k < 2048) (x y : EReal) :
    Scalar.select (IntOp.cmpi .sle (IntOp.absi (IntOp.subi (IntOp.addi (BitVec.ofNat 32 a) (BitVec.ofNat 32 i)) (IntOp.addi (BitVec.ofNat 32 b) (BitVec.ofNat 32 k)))) 128#32) x y
      = if near (a + i) (b + k) then x else y := by
  unfold IntOp.addi
  rw [← BitVec.ofNat_add, ← BitVec.ofNat_add, near_word _ _ ha hb, pick_near]

theorem pay3_apply (i : Fin 256) (k : Fin 512) : k0_pay3 (F := Ideal) (ix2 i k) = if near (0 + i.val) (0 + k.val) then 0 else ⊥ := by
  have h := mask_word 0 i.val 0 k.val (by omega) (by omega) 0 ⊥
  simp only [Nat.zero_add] at h; pointwise [k0_pay3]; exact h
theorem pay22_apply (i : Fin 256) (k : Fin 512) : k0_pay22 (F := Ideal) (ix2 i k) = if near (256 + i.val) (128 + k.val) then 0 else ⊥ := by
  have h := mask_word 256 i.val 128 k.val (by omega) (by omega) 0 ⊥
  pointwise [k0_pay22]; exact h
theorem pay40_apply (i : Fin 256) (k : Fin 512) : k0_pay40 (F := Ideal) (ix2 i k) = if near (512 + i.val) (384 + k.val) then 0 else ⊥ := by
  have h := mask_word 512 i.val 384 k.val (by omega) (by omega) 0 ⊥
  pointwise [k0_pay40]; exact h
theorem pay57_apply (i : Fin 256) (k : Fin 512) : k0_pay57 (F := Ideal) (ix2 i k) = if near (768 + i.val) (512 + k.val) then 0 else ⊥ := by
  have h := mask_word 768 i.val 512 k.val (by omega) (by omega) 0 ⊥
  pointwise [k0_pay57]; exact h

end Cert.KernelIdeal.Mesh

end
-- ==== Proof.Ctx.lean ====
/-
  The context a device computes and its own partial product, over the extended reals, in terms of the operands it holds.
-/
module

public import proofs.«01_k».proof.Proof.Common
public import proofs.«01_k».proof.Proof.Pays

@[expose] public section

set_option maxRecDepth 16384

noncomputable section

namespace Cert.KernelIdeal.Mesh

open Idealize.ShloMosaic
open Cert.KernelIdeal Cert.KernelIdeal.Gen

variable (I : Ins Ideal) (d : Dev nD)

/-- The head a column of the context belongs to, the column's place in it, and back. -/
def headOf (j : Fin 1024) : Fin 8 := ⟨j.val / 128, by omega⟩
def laneOf (j : Fin 1024) : Fin 128 := ⟨j.val % 128, by omega⟩
def colOf (h : Fin 8) (e : Fin 128) : Fin 1024 := ⟨128 * h.val + e.val, by omega⟩

/-- First column of the window of a row of the context. -/
def winR (r : Fin 1024) : ℕ := winT (r.val / 256)
theorem winR_le (r : Fin 1024) : winR r + 512 ≤ 1024 := by unfold winR winT; split_ifs <;> omega
theorem near_win (r : Fin 1024) (j : Fin 1024) (h : near r.val j.val) : winR r ≤ j.val ∧ j.val < winR r + 512 := by
  unfold winR winT; have := r.isLt; have := j.isLt
  split_ifs <;> unfold near at h <;> omega

def colAt (r : Fin 1024) (k : Fin 512) : Fin 1024 := ⟨winR r + k.val, by have := winR_le r; omega⟩

theorem neg_apply (r : Fin 1024) (i : Fin 256) (hi : i.val = r.val % 256) (k : Fin 512) :
    negV (F := Ideal) (r.val / 256) (ix2 i k) = if near r.val (colAt r k).val then 0 else ⊥ := by
  unfold negV colAt winR winT
  have := r.isLt
  by_cases h0 : r.val / 256 = 0
  · simp only [if_pos h0, pay3_apply]; rw [show (0 : ℕ) + i.val = r.val from by omega]
  by_cases h1 : r.val / 256 = 1
  · simp only [if_neg h0, if_pos h1, pay22_apply]; rw [show 256 + i.val = r.val from by omega]
  by_cases h2 : r.val / 256 = 2
  · simp only [if_neg h0, if_neg h1, if_pos h2, pay40_apply]; rw [show 512 + i.val = r.val from by omega]
  · simp only [if_neg h0, if_neg h1, if_neg h2, pay57_apply]; rw [show 768 + i.val = r.val from by omega]

theorem fm_self {n : ℕ} [NeZero n] {a : ℕ} (i : Fin n) (h : a % n = i.val) : fm n a = i := Fin.ext h

/-- A score of the device's heads. -/
def scoreD (r : Fin 1024) (h : Fin 8) (j : Fin 1024) : EReal :=
  ∑ e : Fin 128, ((∑ k : Fin 1024, I.x d (ix2 r k) * I.wq d (ix2 k (colOf h e))) * scl) * I.kt d (ix3 h e j)

theorem q_slab (r j : Fin 1024) (i : Fin 256) (hi : i.val = r.val % 256) (e : Fin 128) :
    slab 256 128 (Qv I d) (256 * (r.val / 256)) (128 * (j.val / 128)) (ix2 i e)
      = (∑ k : Fin 1024, I.x d (ix2 r k) * I.wq d (ix2 k (colOf (headOf j) e))) * scl := by
  rw [← pay2_apply]
  refine congrArg (k0_pay2 (F := Ideal) (I.x d) (I.wq d)) ?_
  refine congrArg₂ (ix2 (n0 := 1024) (n1 := 1024)) (fm_self _ ?_) (fm_self _ ?_)
  · show (256 * (r.val / 256) + i.val) % 1024 = r.val; omega
  · show (128 * (j.val / 128) + e.val) % 1024 = 128 * (j.val / 128) + e.val; omega
theorem k_slab (r j : Fin 1024) (e : Fin 128) (k : Fin 512) :
    slabK (I.kt d) (j.val / 128) 0 (winT (r.val / 256)) (ix3 0 e k) = I.kt d (ix3 (headOf j) e (colAt r k)) := by
  refine congrArg (I.kt d) ?_
  have := winR_le r
  refine congr (congrArg₂ (ix3 (n0 := 8) (n1 := 128) (n2 := 1024)) (fm_self _ ?_) (fm_self _ ?_)) (fm_self _ ?_)
  · show (j.val / 128 + 0) % 8 = j.val / 128; omega
  · show (0 + e.val) % 128 = e.val; omega
  · show (winR r + k.val) % 1024 = winR r + k.val; omega
theorem v_slab (r j : Fin 1024) (k : Fin 512) :
    slabV (I.v d) (j.val / 128) (winT (r.val / 256)) 0 (ix3 0 k (laneOf j)) = I.v d (ix3 (headOf j) (colAt r k) (laneOf j)) := by
  refine congrArg (I.v d) ?_
  have := winR_le r
  refine congr (congrArg₂ (ix3 (n0 := 8) (n1 := 1024) (n2 := 128)) (fm_self _ ?_) (fm_self _ ?_)) (fm_self _ ?_)
  · show (j.val / 128 + 0) % 8 = j.val / 128; omega
  · show (winR r + k.val) % 1024 = winR r + k.val; omega
  · show (0 + j.val % 128) % 128 = j.val % 128; omega

theorem ctx_apply (r j : Fin 1024) :
    ctxV I d (ix2 r j)
      = (∑ k : Fin 512, Ideal.exp (scoreD I d r (headOf j) (colAt r k) + if near r.val (colAt r k).val then 0 else ⊥) * I.v d (ix3 (headOf j) (colAt r k) (laneOf j)))
        * Ideal.div 1 (∑ k : Fin 512, Ideal.exp (scoreD I d r (headOf j) (colAt r k) + if near r.val (colAt r k).val then 0 else ⊥)) := by
  show headV I d (r.val / 256) (j.val / 128) (ixH r.val j.val) = _
  obtain ⟨i, hi⟩ : ∃ i : Fin 256, i.val = r.val % 256 := ⟨⟨r.val % 256, by omega⟩, rfl⟩
  have hix : ixH r.val j.val = ix2 i (laneOf j) := congrArg₂ (ix2 (n0 := 256) (n1 := 128)) (fm_self _ hi.symm) rfl
  rw [hix]
  unfold headV
  rw [pay9_apply]
  have ht := fun k : Fin 512 => congrArg Ideal.exp (congrArg₂ (fun a b : EReal => a + b)
    (Finset.sum_congr (s₁ := Finset.univ) rfl fun (e : Fin 128) _ => congrArg₂ (fun a b : EReal => a * b) (q_slab I d r j i hi e) (k_slab I d r j e k)) (neg_apply r i hi k))
  exact congrArg₂ (fun a b : EReal => a * b) (Finset.sum_congr rfl fun k _ => congrArg₂ (fun a b : EReal => a * b) (ht k) (v_slab I d r j k))
    (congrArg (Ideal.div 1) (Finset.sum_congr rfl fun k _ => ht k))

theorem own_apply (r j : Fin 1024) : A0 I d r.val j.val = ∑ k : Fin 1024, ctxV I d (ix2 r k) * I.wo d (ix2 k j) := by
  unfold A0
  have hix : ixB r.val j.val = ix2 (⟨r.val % 128, by omega⟩ : Fin 128) j := congrArg₂ (ix2 (n0 := 128) (n1 := 1024)) rfl (fm_self _ (by omega))
  rw [hix, pay82_apply]
  refine Finset.sum_congr rfl fun k _ => congrArg (· * _) (congrArg (ctxV I d) ?_)
  refine congrArg₂ (ix2 (n0 := 1024) (n1 := 1024)) (fm_self _ ?_) (fm_self _ ?_)
  · show (r.val / 128 * 128 + r.val % 128) % 1024 = r.val; omega
  · show (0 + k.val) % 1024 = k.val; omega

end Cert.KernelIdeal.Mesh

end
-- ==== Proof.Sums.lean ====
/-
  Over the extended reals the exchange leaves every device with the sum of all sixteen partial products.
-/
module

public import proofs.«01_k».proof.Proof.Common
public import Idealize.ShloMosaic.PureOps.Ideal
public import Idealize.ShloMosaic.PureOps.Ideal.Laws
public import Mathlib.Tactic.Abel

@[expose] public section

noncomputable section

namespace Cert.KernelIdeal.Mesh

open Idealize.ShloMosaic
open Cert.KernelIdeal Cert.KernelIdeal.Gen

theorem xor_xor (a b : Fin 16) (d : Dev nD) : xorDev a.val (xorDev b.val d) = xorDev (a.val ^^^ b.val) d := by revert a b d; decide +kernel
theorem xor_inj (d : Dev nD) : Function.Injective (fun e : Dev nD => xorDev e.val d) := by
  have h : ∀ d a b : Dev nD, xorDev a.val d = xorDev b.val d → a = b := by decide +kernel
  exact fun a b => h d a b
theorem xor_zero (d : Dev nD) : xorDev 0 d = d := by revert d; decide +kernel

/-- A sum over the devices, counted from one of them. -/
theorem sum_from (f : Dev nD → EReal) (d : Dev nD) : ∑ e, f e = ∑ e : Dev nD, f (xorDev e.val d) :=
  (Function.Bijective.sum_comp (Finite.injective_iff_bijective.1 (xor_inj d)) f).symm

theorem sum_sixteen (f : Dev nD → EReal) (d : Dev nD) (x y z u v w : Fin 16)
    (h : ∀ g : ℕ → EReal, ∑ e : Fin 16, g e.val
      = (((g 0 + g x + g y + g z) + (g u + g (x ^^^ u : ℕ) + g (y ^^^ u : ℕ) + g (z ^^^ u : ℕ))) + (g v + g (x ^^^ v : ℕ) + g (y ^^^ v : ℕ) + g (z ^^^ v : ℕ)))
        + (g w + g (x ^^^ w : ℕ) + g (y ^^^ w : ℕ) + g (z ^^^ w : ℕ))) :
    (((f d + f (xorDev x d) + f (xorDev y d) + f (xorDev z d))
      + (f (xorDev u d) + f (xorDev x (xorDev u d)) + f (xorDev y (xorDev u d)) + f (xorDev z (xorDev u d))))
      + (f (xorDev v d) + f (xorDev x (xorDev v d)) + f (xorDev y (xorDev v d)) + f (xorDev z (xorDev v d))))
      + (f (xorDev w d) + f (xorDev x (xorDev w d)) + f (xorDev y (xorDev w d)) + f (xorDev z (xorDev w d))) = ∑ e, f e := by
  rw [sum_from f d]
  have h' := h (fun n => f (xorDev n d))
  simp only [xor_zero] at h'
  simp only [xor_xor]
  exact h'.symm

variable (I : Ins Ideal)

theorem red_ideal (k0 k1 k2 : Fin 24) (A : Dev nD → ℕ → ℕ → Ideal .f32) (d : Dev nD) (r j : ℕ) :
    red k0 k1 k2 A d r j = ((A d r j + A (peer k0 d) r j) + A (peer k1 d) r j) + A (peer k2 d) r j := rfl

theorem plane_first (g : ℕ → EReal) : ∑ e : Fin 16, g e.val
      = (((g 0 + g 1 + g 2 + g 3) + (g 4 + g 5 + g 6 + g 7)) + (g 8 + g 9 + g 10 + g 11)) + (g 12 + g 13 + g 14 + g 15) := by
  simp only [Fin.sum_univ_succ, Fin.sum_univ_zero, Fin.val_zero, Fin.val_succ, Nat.reduceAdd, add_zero, add_assoc]

theorem A2_ideal (d : Dev nD) (r j : ℕ) : A2 I d r j = ∑ e, A0 I e r j := by
  unfold A2 A1
  by_cases h : r < 512
  · simp only [if_pos h, red_ideal]
    refine sum_sixteen (fun e => A0 I e r j) d 1 2 3 4 8 12 fun g => (plane_first g).trans ?_
    rfl
  · simp only [if_neg h, red_ideal]
    refine sum_sixteen (fun e => A0 I e r j) d 4 8 12 1 2 3 fun g => (plane_first g).trans ?_
    show _ = (((g 0 + g 4 + g 8 + g 12) + (g 1 + g 5 + g 9 + g 13)) + (g 2 + g 6 + g 10 + g 14)) + (g 3 + g 7 + g 11 + g 15)
    abel

theorem A4_ideal (d : Dev nD) (r j : ℕ) : A4 I d r j = ∑ e, A0 I e r j := by
  have h3 : ∀ d, A3 I d r j = ∑ e, A0 I e r j := fun d => by
    unfold A3; split
    · exact A2_ideal I d r j
    · exact A2_ideal I _ r j
  unfold A4; split
  · exact h3 d
  · exact h3 _

end Cert.KernelIdeal.Mesh

end
-- ==== Proof.Feed.lean ====
/-
  What the kernel's five operands hold on each device, over the extended reals, in terms of the arguments.
-/
module

public import proofs.«01_k».proof.Proof.Region
public import Idealize.ShloMosaic.Lib.Pointwise
public import Idealize.ShloMosaic.Lib.StableHlo.ReadAt

@[expose] public section

set_option maxRecDepth 16384

noncomputable section

namespace Cert.KernelIdeal.Mesh

open Idealize.ShloMosaic Idealize.ShloMosaic.TcCoe
open Cert.KernelIdeal Cert.KernelIdeal.Gen

variable (m : (ℓ : Loc nD τ sig) → Buf (Elt Ideal) ℓ) (c : Dev nD)

theorem x_feed (r k : Fin 1024) : (insOf m).x c (ix2 r k) = m ((c.tc : Thread nD τ).loc main_arg0) (ix3 0 r k) := by
  show StableHlo.after (hostOps0 c) (fun b => m (c, b)) (Proc.devRef .tc main_v16) (ix2 r k) = _
  after_reads_at
theorem k_feed (h : Fin 8) (e : Fin 128) (j : Fin 1024) : (insOf m).kt c (ix3 h e j) = m ((c.tc : Thread nD τ).loc main_arg2) (ix4 0 j h e) := by
  show StableHlo.after (hostOps0 c) (fun b => m (c, b)) (Proc.devRef .tc main_v21) (ix3 h e j) = _
  after_reads_at
theorem v_feed (h : Fin 8) (e : Fin 128) (j : Fin 1024) : (insOf m).v c (ix3 h j e) = m ((c.tc : Thread nD τ).loc main_arg3) (ix4 0 j h e) := by
  show StableHlo.after (hostOps0 c) (fun b => m (c, b)) (Proc.devRef .tc main_v24) (ix3 h j e) = _
  after_reads_at

/-- Place `k` of device `c`'s share of an axis of 16384. -/
def share (c : Dev nD) (k : Fin 1024) : Fin 16384 := ⟨c.val * 1024 + k.val, by have : c.val < 16 := c.isLt; omega⟩

/-- Where device `c`'s share begins, as the program reckons it. -/
def startW (c : Dev nD) : BitVec 32 :=
  let w := IntOp.muli (IntOp.remui .host (IntOp.divui .host (Dev.word c) 1#32) 16#32) 1024#32
  Scalar.select (IntOp.cmpi .slt w 0#32) (IntOp.addi w 16384#32) w
theorem startW_eq (c : Dev nD) : (startW c).toInt = ((c.val * 1024 : ℕ) : ℤ) := by
  revert c; decide +kernel

theorem zero_cols (x) : (StableHlo.upto (hostOps0 c) (fun b => m (c, b)) 14 (Proc.devRef .tc main_c_4)) x = 0#32 := by
  after_reads_simp; rfl
theorem start_cols (x) : (StableHlo.upto (hostOps0 c) (fun b => m (c, b)) 14 (Proc.devRef .tc main_v8)) x = startW c := by
  after_reads_simp; rfl
theorem zero_rows (x) : (StableHlo.upto (hostOps0 c) (fun b => m (c, b)) 23 (Proc.devRef .tc main_c_8)) x = 0#32 := by
  after_reads_simp; rfl
theorem start_rows (x) : (StableHlo.upto (hostOps0 c) (fun b => m (c, b)) 23 (Proc.devRef .tc main_v13)) x = startW c := by
  after_reads_simp; rfl

theorem wq_feed (k j : Fin 1024) : (insOf m).wq c (ix2 k j) = m ((c.tc : Thread nD τ).loc main_arg1) (ix2 k (share c j)) := by
  show StableHlo.after (hostOps0 c) (fun b => m (c, b)) (Proc.devRef .tc main_v17) (ix2 k j) = _
  have hc : c.val < 16 := c.isLt
  after_reads_at
  refine congrArg (m ((c.tc : Thread nD τ).loc main_arg1)) (congrArg₂ (ix2 (n0 := 1024) (n1 := 16384)) (Fin.ext ?_) (Fin.ext ?_))
  · refine (congrArg (· + k.val) (Host.clampedStart_of_le _ _ 0 0 (congrArg BitVec.toInt (zero_cols m c _)) (by decide))).trans (by omega)
  · exact congrArg (· + j.val) (Host.clampedStart_of_le _ _ 1 (c.val * 1024) ((congrArg BitVec.toInt (start_cols m c _)).trans (startW_eq c))
      (by show c.val * 1024 + 1024 ≤ 16384; omega))
theorem wo_feed (k j : Fin 1024) : (insOf m).wo c (ix2 k j) = m ((c.tc : Thread nD τ).loc main_arg4) (ix2 (share c k) j) := by
  show StableHlo.after (hostOps0 c) (fun b => m (c, b)) (Proc.devRef .tc main_v18) (ix2 k j) = _
  have hc : c.val < 16 := c.isLt
  after_reads_at
  refine congrArg (m ((c.tc : Thread nD τ).loc main_arg4)) (congrArg₂ (ix2 (n0 := 16384) (n1 := 1024)) (Fin.ext ?_) (Fin.ext ?_))
  · exact congrArg (· + k.val) (Host.clampedStart_of_le _ _ 0 (c.val * 1024) ((congrArg BitVec.toInt (start_rows m c _)).trans (startW_eq c))
      (by show c.val * 1024 + 1024 ≤ 16384; omega))
  · refine (congrArg (· + j.val) (Host.clampedStart_of_le _ _ 1 0 (congrArg BitVec.toInt (zero_rows m c _)) (by decide))).trans (by omega)

end Cert.KernelIdeal.Mesh

end
-- ==== Proof.Ref.lean ====
/-
  The reference, step by step, over the extended reals.
-/
module

public import proofs.«01_k».proof.Proof.Gen.ReferenceIdeal.Run
public import proofs.«01_k».proof.Proof.Pays
public import Idealize.ShloMosaic.Lib.Pointwise
public import Idealize.ShloMosaic.Lib.Routing.OpsOrder

@[expose] public section

set_option maxRecDepth 16384

noncomputable section

namespace Cert.ReferenceIdeal.Plain

open Cert.ReferenceIdeal Cert.ReferenceIdeal.Gen Idealize.ShloMosaic Idealize.ShloMosaic.TcCoe
open Cert.KernelIdeal.Mesh (near near_word pick_near scl)

/-- Which columns a row attends to. -/
def maskR : IVec S1024x1024 1 :=
  cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))
/-- The scaled scores. -/
def scoreR (X : FVec Ideal S1x1024x1024 .f32) (W : FVec Ideal S1024x16384 .f32) (K : FVec Ideal S1x1024x128x128 .f32) : FVec Ideal S1x128x1024x1024 .f32 :=
  mulf (Host.dotGeneral dot_S1x1024x128x128_S1x1024x128x128_S1x128x1024x1024_3_3_1_1_02_02 none (shapeCast S1x1024x128x128 (Host.dotGeneral dot_S1x1024x1024_S1024x16384_S1x1024x16384_2_0_01_1_n_n none X W) shapeCasts_S1x1024x16384_S1x1024x128x128) K) (broadcastInDim S1x128x1024x1024 ![] bcast_S_S1x128x1024x1024 (constant S_ .f32 0x3DB504F3#32))
/-- The scores, those outside the window at minus infinity. -/
def maskedR (X : FVec Ideal S1x1024x1024 .f32) (W : FVec Ideal S1024x16384 .f32) (K : FVec Ideal S1x1024x128x128 .f32) : FVec Ideal S1x128x1024x1024 .f32 :=
  select (broadcastInDim S1x128x1024x1024 ![0, 1, 2, 3] bcast_S1x1x1024x1024_S1x128x1024x1024_0_1_2_3 (broadcastInDim S1x1x1024x1024 ![2, 3] bcast_S1024x1024_S1x1x1024x1024_2_3 maskR)) (scoreR X W K) (broadcastInDim S1x128x1024x1024 ![] bcast_S_S1x128x1024x1024 (id (constant S_ .f32 0xFF800000#32)))
/-- A row's largest score. -/
def maxR (X : FVec Ideal S1x1024x1024 .f32) (W : FVec Ideal S1024x16384 .f32) (K : FVec Ideal S1x1024x128x128 .f32) : FVec Ideal S1x128x1024 .f32 :=
  Host.reduce FloatOps.maximumf (maskedR X W K) (constant S_ .f32 0xFF800000#32) reducesTo_S1x128x1024x1024_S1x128x1024_d3 h_S_
/-- The weights, before they are divided by their sum. -/
def expR (X : FVec Ideal S1x1024x1024 .f32) (W : FVec Ideal S1024x16384 .f32) (K : FVec Ideal S1x1024x128x128 .f32) : FVec Ideal S1x128x1024x1024 .f32 :=
  Host.exp (subf (maskedR X W K) (broadcastInDim S1x128x1024x1024 ![0, 1, 2, 3] bcast_S1x128x1024x1_S1x128x1024x1024_0_1_2_3 (broadcastInDim S1x128x1024x1 ![0, 1, 2] bcast_S1x128x1024_S1x128x1024x1_0_1_2 (maxR X W K))))
/-- Whether a row attends to anything. -/
def keepR : IVec S1024 1 :=
  Host.reduce IntOp.ori maskR (constantI S_ 1 0#1) reducesTo_S1024x1024_S1024_d1 h_S_
/-- A row's sum of weights. -/
def sumR (X : FVec Ideal S1x1024x1024 .f32) (W : FVec Ideal S1024x16384 .f32) (K : FVec Ideal S1x1024x128x128 .f32) : FVec Ideal S1x128x1024 .f32 :=
  Host.reduceAdd (expR X W K) (constant S_ .f32 0x00000000#32) reducesTo_S1x128x1024x1024_S1x128x1024_d3 h_S_
/-- What a row is divided by. -/
def normR (X : FVec Ideal S1x1024x1024 .f32) (W : FVec Ideal S1024x16384 .f32) (K : FVec Ideal S1x1024x128x128 .f32) : FVec Ideal S1x128x1024x1 .f32 :=
  select (broadcastInDim S1x128x1024x1 ![0, 1, 2, 3] bcast_S1x1x1024x1_S1x128x1024x1_0_1_2_3 (broadcastInDim S1x1x1024x1 ![2] bcast_S1024_S1x1x1024x1_2 keepR)) (broadcastInDim S1x128x1024x1 ![0, 1, 2] bcast_S1x128x1024_S1x128x1024x1_0_1_2 (sumR X W K)) (broadcastInDim S1x128x1024x1 ![] bcast_S_S1x128x1024x1 (id (constant S_ .f32 0x3F800000#32)))
/-- The weights. -/
def weightR (X : FVec Ideal S1x1024x1024 .f32) (W : FVec Ideal S1024x16384 .f32) (K : FVec Ideal S1x1024x128x128 .f32) : FVec Ideal S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 keepR)) (Host.divf (expR X W K) (broadcastInDim S1x128x1024x1024 ![0, 1, 2, 3] bcast_S1x128x1024x1_S1x128x1024x1024_0_1_2_3 (normR X W K))) (broadcastInDim S1x128x1024x1024 ![] bcast_S_S1x128x1024x1024 (id (constant S_ .f32 0x00000000#32)))
/-- The context. -/
def ctxR (X : FVec Ideal S1x1024x1024 .f32) (W : FVec Ideal S1024x16384 .f32) (K : FVec Ideal S1x1024x128x128 .f32) (V : FVec Ideal S1x1024x128x128 .f32) : FVec Ideal S1x1024x16384 .f32 :=
  shapeCast S1x1024x16384 (transpose S1x1024x128x128 [0, 3, 1, 2] (Host.dotGeneral dot_S1x1024x128x128_S1x128x1024x1024_S1x128x128x1024_1_3_3_2_02_01 none V (weightR X W K)) transposes_S1x128x128x1024_S1x1024x128x128_0_3_1_2) shapeCasts_S1x1024x128x128_S1x1024x16384
/-- The result. -/
def outR (X : FVec Ideal S1x1024x1024 .f32) (W : FVec Ideal S1024x16384 .f32) (K : FVec Ideal S1x1024x128x128 .f32) (V : FVec Ideal S1x1024x128x128 .f32) (O : FVec Ideal S16384x1024 .f32) : FVec Ideal S1x1024x1024 .f32 :=
  Host.dotGeneral dot_S1x1024x16384_S16384x1024_S1x1024x1024_2_0_01_1_n_n none (ctxR X W K V) O

theorem res_eq (m : (ℓ : Loc nD τ sig) → Buf (Elt Ideal) ℓ) (c : Dev nD) :
    Value.res_main_v34 m c = outR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem bits_none : Ideal.ofBits .f32 0xFF800000#32 = ⊥ := by
  show Ideal.ieee 8 23 (0xFF800000#32 : BitVec 32) = ⊥
  unfold Ideal.ieee
  rw [if_pos (by decide), if_pos (by decide), if_pos (by decide)]

theorem mask_apply (i j : Fin 1024) : maskR (ix2 i j) = BitVec.ofBool (decide (near i.val j.val)) := by
  have h := near_word i.val j.val (by omega) (by omega)
  pointwise [maskR]; exact h

theorem keep_apply (i : Fin 1024) : keepR (ix1 i) = 1#1 := by
  pointwise [keepR]
  rw [Routing.fold_ori]
  exact ⟨i, by rw [mask_apply]; simp [near]⟩

variable (X : FVec Ideal S1x1024x1024 .f32) (W : FVec Ideal S1024x16384 .f32) (K V : FVec Ideal S1x1024x128x128 .f32) (O : FVec Ideal S16384x1024 .f32)

/-- Column of a head's lane among all heads'. -/
def colH (H : Fin 128) (e : Fin 128) : Fin 16384 := ⟨H.val * 128 + e.val, by omega⟩

theorem score_apply (H : Fin 128) (i j : Fin 1024) :
    scoreR X W K (ix4 0 H i j) = (∑ e : Fin 128, (∑ k : Fin 1024, X (ix3 0 i k) * W (ix2 k (colH H e))) * K (ix4 0 j H e)) * scl := by
  pointwise [scoreR, scl, colH]

theorem masked_apply (H : Fin 128) (i j : Fin 1024) :
    maskedR X W K (ix4 0 H i j) = if near i.val j.val then scoreR X W K (ix4 0 H i j) else ⊥ := by
  pointwise [maskedR]
  rw [mask_apply, pick_near, ← bits_none]; rfl

theorem max_apply (H : Fin 128) (i : Fin 1024) :
    maxR X W K (ix3 0 H i) = Finset.univ.fold max (⊥ : EReal) (fun j : Fin 1024 => maskedR X W K (ix4 0 H i j)) := by
  pointwise [maxR]
  rw [bits_none]

theorem exp_apply (H : Fin 128) (i j : Fin 1024) :
    expR X W K (ix4 0 H i j) = Ideal.exp (maskedR X W K (ix4 0 H i j) - maxR X W K (ix3 0 H i)) := by
  pointwise [expR]

theorem sum_apply (H : Fin 128) (i : Fin 1024) : sumR X W K (ix3 0 H i) = ∑ j : Fin 1024, expR X W K (ix4 0 H i j) := by
  pointwise [sumR]

theorem norm_apply (H : Fin 128) (i : Fin 1024) : normR X W K (ix4 0 H i 0) = sumR X W K (ix3 0 H i) := by
  pointwise [normR]
  rw [keep_apply]; rfl

theorem weight_apply (H : Fin 128) (i j : Fin 1024) :
    weightR X W K (ix4 0 H i j) = Ideal.div (expR X W K (ix4 0 H i j)) (sumR X W K (ix3 0 H i)) := by
  pointwise [weightR]
  rw [keep_apply, norm_apply]; rfl

theorem ctx_apply (H l : Fin 128) (i : Fin 1024) :
    ctxR X W K V (ix3 0 i (colH H l)) = ∑ j : Fin 1024, V (ix4 0 j H l) * weightR X W K (ix4 0 H i j) := by
  pointwise [ctxR, colH]

theorem out_apply (i j : Fin 1024) : outR X W K V O (ix3 0 i j) = ∑ k : Fin 16384, ctxR X W K V (ix3 0 i k) * O (ix2 k j) := by
  pointwise [outR]

end Cert.ReferenceIdeal.Plain

end
-- ==== Proof.Meet.lean ====
/-
  The kernel's result and the reference's, element by element: the heads of device `c` are heads 8c to 8c + 7 of the whole, its
  columns of the context are columns 1024c to 1024c + 1023, and the sixteen partial products add up to the whole product.
-/
module

public import proofs.«01_k».proof.Proof.Soft
public import proofs.«01_k».proof.Proof.Ctx
public import proofs.«01_k».proof.Proof.Sums
public import proofs.«01_k».proof.Proof.Feed
public import proofs.«01_k».proof.Proof.Ref

@[expose] public section

set_option maxRecDepth 16384

noncomputable section

namespace Cert.KernelIdeal.Mesh

open Idealize.ShloMosaic
open Cert.KernelIdeal Cert.KernelIdeal.Gen
open Cert.ReferenceIdeal.Plain (colH scoreR maskedR maxR expR sumR weightR ctxR outR)

/-- Head `h` of device `c` among all heads. -/
def headAll (c : Dev nD) (h : Fin 8) : Fin 128 := ⟨c.val * 8 + h.val, by have : c.val < 16 := c.isLt; omega⟩

theorem share_col (c : Dev nD) (h : Fin 8) (e : Fin 128) : share c (colOf h e) = colH (headAll c h) e := Fin.ext (by
  show c.val * 1024 + (128 * h.val + e.val) = (c.val * 8 + h.val) * 128 + e.val; omega)
theorem share_head (c : Dev nD) (k : Fin 1024) : share c k = colH (headAll c (headOf k)) (laneOf k) := Fin.ext (by
  show c.val * 1024 + k.val = (c.val * 8 + k.val / 128) * 128 + k.val % 128; omega)

theorem scl_real : ∃ s : ℝ, scl = (s : EReal) := by
  unfold scl
  show ∃ s : ℝ, Ideal.ieee 8 23 (0x3DB504F3#32 : BitVec 32) = (s : EReal)
  unfold Ideal.ieee
  rw [if_neg (by decide), if_neg (by decide)]
  exact ⟨_, rfl⟩

/-- A score with the scale taken before the second product, and after it: one real number. -/
theorem score_real (a : Fin 1024 → ℝ) (b : Fin 128 → Fin 1024 → ℝ) (k : Fin 128 → ℝ) (s : ℝ) :
    ∑ e : Fin 128, ((∑ i : Fin 1024, (a i : EReal) * (b e i : EReal)) * (s : EReal)) * (k e : EReal)
        = (((∑ e : Fin 128, (∑ i : Fin 1024, a i * b e i) * k e) * s : ℝ) : EReal)
    ∧ (∑ e : Fin 128, (∑ i : Fin 1024, (a i : EReal) * (b e i : EReal)) * (k e : EReal)) * (s : EReal)
        = (((∑ e : Fin 128, (∑ i : Fin 1024, a i * b e i) * k e) * s : ℝ) : EReal) := by
  simp only [← EReal.coe_mul, sum_real]
  refine ⟨congrArg _ ?_, trivial⟩
  rw [Finset.sum_mul]
  exact Finset.sum_congr rfl fun e _ => mul_right_comm _ _ _

section Whole
variable (I : Ins Ideal) (X : FVec Ideal Cert.ReferenceIdeal.S1x1024x1024 .f32) (W : FVec Ideal Cert.ReferenceIdeal.S1024x16384 .f32)
  (K V : FVec Ideal Cert.ReferenceIdeal.S1x1024x128x128 .f32) (O : FVec Ideal Cert.ReferenceIdeal.S16384x1024 .f32)

/-- What the devices' operands are of the whole arrays. -/
structure Dealt : Prop where
  x : ∀ c (r k : Fin 1024), I.x c (ix2 r k) = X (ix3 0 r k)
  wq : ∀ c (k j : Fin 1024), I.wq c (ix2 k j) = W (ix2 k (share c j))
  kt : ∀ c (h : Fin 8) (e : Fin 128) (j : Fin 1024), I.kt c (ix3 h e j) = K (ix4 0 j (headAll c h) e)
  v : ∀ c (h : Fin 8) (e : Fin 128) (j : Fin 1024), I.v c (ix3 h j e) = V (ix4 0 j (headAll c h) e)
  wo : ∀ c (k j : Fin 1024), I.wo c (ix2 k j) = O (ix2 (share c k) j)
  rx : ∀ r k : Fin 1024, ∃ y : ℝ, X (ix3 0 r k) = (y : EReal)
  rw : ∀ (k : Fin 1024) (j : Fin 16384), ∃ y : ℝ, W (ix2 k j) = (y : EReal)
  rk : ∀ (j : Fin 1024) (H e : Fin 128), ∃ y : ℝ, K (ix4 0 j H e) = (y : EReal)

variable {I X W K V O} (D : Dealt I X W K V O)
include D

theorem scores_meet (c : Dev nD) (r : Fin 1024) (h : Fin 8) : ∃ s : Fin 1024 → ℝ,
    (∀ j, scoreD I c r h j = (s j : EReal)) ∧ ∀ j, scoreR X W K (ix4 0 (headAll c h) r j) = (s j : EReal) := by
  obtain ⟨s, hs⟩ := scl_real
  choose a ha using D.rx r
  choose b hb using fun (e : Fin 128) (k : Fin 1024) => D.rw k (colH (headAll c h) e)
  choose k hk using fun (j : Fin 1024) (e : Fin 128) => D.rk j (headAll c h) e
  refine ⟨fun j => (∑ e : Fin 128, (∑ i : Fin 1024, a i * b e i) * k j e) * s, fun j => ?_, fun j => ?_⟩
  · refine Eq.trans ?_ (score_real a b (k j) s).1
    unfold scoreD
    simp only [D.x, D.wq, D.kt, share_col, ha, hb, hk, hs]
  · refine Eq.trans ?_ (score_real a b (k j) s).2
    rw [Cert.ReferenceIdeal.Plain.score_apply]
    simp only [ha, hb, hk, hs]

theorem ctx_meet (c : Dev nD) (r k : Fin 1024) : ctxV I c (ix2 r k) = ctxR X W K V (ix3 0 r (share c k)) := by
  obtain ⟨s, h1, h2⟩ := scores_meet D c r (headOf k)
  rw [ctx_apply, share_head, Cert.ReferenceIdeal.Plain.ctx_apply]
  simp only [Cert.ReferenceIdeal.Plain.weight_apply, Cert.ReferenceIdeal.Plain.sum_apply, Cert.ReferenceIdeal.Plain.exp_apply,
    Cert.ReferenceIdeal.Plain.max_apply, Cert.ReferenceIdeal.Plain.masked_apply, h1, h2, D.v]
  refine (soft_row s (fun j => near r.val j.val) (winR r) (winR_le r) (fun j => near_win r j) ⟨r, by unfold near; omega⟩
    (fun j => V (ix4 0 j (headAll c (headOf k)) (laneOf k)))).trans ?_
  exact Finset.sum_congr rfl fun j _ => mul_comm _ _

omit D in
/-- A sum over 16384 places is the sum over the devices of the sums over their shares. -/
theorem sum_shares (f : Fin 16384 → EReal) : ∑ c : Dev nD, ∑ k : Fin 1024, f (share c k) = ∑ i, f i := by
  rw [← Fintype.sum_prod_type' (fun (c : Dev nD) (k : Fin 1024) => f (share c k))]
  refine Fintype.sum_equiv (finProdFinEquiv (m := 16) (n := 1024)) _ _ fun p => congrArg f (Fin.ext ?_)
  show p.1.val * 1024 + p.2.val = p.2.val + 1024 * p.1.val
  omega

theorem result_meet (c : Dev nD) (r j : Fin 1024) : A4 I c r.val j.val = outR X W K V O (ix3 0 r j) := by
  rw [A4_ideal, Cert.ReferenceIdeal.Plain.out_apply, ← sum_shares]
  refine Finset.sum_congr rfl fun e _ => (own_apply I e r j).trans (Finset.sum_congr rfl fun k _ => ?_)
  exact congrArg₂ (fun a b : EReal => a * b) (ctx_meet D e r k) (D.wo e k j)

end Whole

end Cert.KernelIdeal.Mesh

end
-- ==== Proof.Finite.lean ====
/-
  What the precondition gives: every element of x, of Wq and of the device's block of K is a real number.
-/
module

public import proofs.«01_k».proof.Defs
public import Idealize.ShloMosaic.Lib.Pointwise
public import Idealize.ShloMosaic.Lib.ReduceAll

@[expose] public section

noncomputable section

namespace Cert.Proof

open Idealize.ShloMosaic

instance kernel_pre_facts : Cert.Pre_finite_KernelIdeal.Facts where
  bcast_S_S1x1024x1024 := by decide
  reducesTo_S1x1024x1024_S_d0_1_2 := by decide
  h_S_ := by decide
  bcast_S_S1024x16384 := by decide
  reducesTo_S1024x16384_S_d0_1 := by decide
  bcast_S_S1x1024x8x128 := by decide
  reducesTo_S1x1024x8x128_S_d0_1_2_3 := by decide
instance reference_pre_facts : Cert.Pre_finite_ReferenceIdeal.Facts where
  bcast_S_S1x1024x1024 := by decide
  reducesTo_S1x1024x1024_S_d0_1_2 := by decide
  h_S_ := by decide
  bcast_S_S1024x16384 := by decide
  reducesTo_S1024x16384_S_d0_1 := by decide
  bcast_S_S1x1024x128x128 := by decide
  reducesTo_S1x1024x128x128_S_d0_1_2_3 := by decide

theorem bits_top : Ideal.ofBits .f32 0x7F800000#32 = ⊤ := by
  show Ideal.ieee 8 23 (0x7F800000#32 : BitVec 32) = ⊤
  unfold Ideal.ieee
  rw [if_pos (by decide), if_pos (by decide), if_neg (by decide)]

theorem and_one {a b : BitVec 1} (h : a &&& b = 1#1) : a = 1#1 ∧ b = 1#1 := by revert a b; decide

/-- A number whose magnitude is below infinity is real. -/
theorem real_of_below (x : EReal) (h : Ideal.cmp .olt (max x (-x)) ⊤ = 1#1) : ∃ r : ℝ, x = (r : EReal) := by
  have h' : max x (-x) < ⊤ := by
    by_contra hn
    unfold Ideal.cmp at h
    simp only [hn, decide_false] at h
    exact absurd h (by decide)
  refine ⟨x.toReal, (EReal.coe_toReal (fun e => ?_) (fun e => ?_)).symm⟩
  · rw [e] at h'; exact absurd h' (by simp)
  · rw [e] at h'; exact absurd h' (by simp)

/-- Every element of an array is real, where all are below infinity in magnitude. -/
theorem all_real {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1) (j : (⟨0, ![]⟩ : Shape).Idx)
    (e : Host.reduce IntOp.andi (cmpf .olt (Host.absf x) (broadcastInDim s ![] hb (constant ⟨0, ![]⟩ .f32 0x7F800000#32))) init hr hu j = 1#1)
    (i : s.Idx) : ∃ r : ℝ, x i = (r : EReal) := by
  haveI : Subsingleton (⟨0, ![]⟩ : Shape).Idx := ⟨fun a b => funext fun k => k.elim0⟩
  have h := Host.reduce_andi_all _ _ hr hu j e i
  have h2 : Ideal.cmp .olt (max (x i) (-(x i))) (Ideal.ofBits .f32 0x7F800000#32) = 1#1 := h
  rw [bits_top] at h2
  exact real_of_below _ h2

theorem kernel_real (m : (ℓ : Loc Cert.KernelIdeal.nD Cert.KernelIdeal.τ Cert.KernelIdeal.sig) → Buf (Elt Ideal) ℓ)
    (h : Pre_KernelIdeal_finite_KernelIdeal m) (c : Dev Cert.KernelIdeal.nD) :
    (∀ i, ∃ r : ℝ, (m ((c.tc : Thread Cert.KernelIdeal.nD Cert.KernelIdeal.τ).loc Cert.KernelIdeal.main_arg0) : FVec Ideal Cert.Pre_finite_KernelIdeal.S1x1024x1024 .f32) i = (r : EReal))
    ∧ (∀ i, ∃ r : ℝ, (m ((c.tc : Thread Cert.KernelIdeal.nD Cert.KernelIdeal.τ).loc Cert.KernelIdeal.main_arg1) : FVec Ideal Cert.Pre_finite_KernelIdeal.S1024x16384 .f32) i = (r : EReal))
    ∧ (∀ i, ∃ r : ℝ, (m ((c.tc : Thread Cert.KernelIdeal.nD Cert.KernelIdeal.τ).loc Cert.KernelIdeal.main_arg2) : FVec Ideal Cert.Pre_finite_KernelIdeal.S1x1024x8x128 .f32) i = (r : EReal)) := by
  have h0 := congrFun (h c) ix0
  have h1 := and_one h0
  have h2 := and_one h1.1
  exact ⟨all_real _ _ _ _ _ _ h2.1, all_real _ _ _ _ _ _ h2.2, all_real _ _ _ _ _ _ h1.2⟩

end Cert.Proof

end
-- ==== Proof.Same.lean ====
/-
  Over the extended reals the kernel on sixteen devices and the reference on one end with the same result.
-/
module

public import proofs.«01_k».proof.Proof.Meet
public import proofs.«01_k».proof.Proof.Finite
public import proofs.«01_k».proof.Proof.Frames

@[expose] public section

set_option maxRecDepth 16384

noncomputable section

namespace Cert.Proof

open Idealize.ShloMosaic Idealize.ShloMosaic.TcCoe Idealize.SL.Sem
open Cert.KernelIdeal.Mesh

section
variable (m : (ℓ : Loc Cert.KernelIdeal.nD Cert.KernelIdeal.τ Cert.KernelIdeal.sig) → Buf (Elt Ideal) ℓ)

/-- A block of the heads, read at an index. -/
theorem block_head {α : Type} (T : (⟨4, ![1, 1024, 128, 128]⟩ : Shape).Idx → α) (c : Fin 16) (j : Fin 1024) (h : Fin 8) (e : Fin 128) :
    Layout.block ⟨4, ![1, 1024, 8, 128]⟩ ⟨4, ![1, 1024, 128, 128]⟩ 2 16 c T (by decide) (ix4 0 j h e) = T (ix4 0 j (headAll c h) e) := by
  rw [Layout.block_apply]
  refine congrArg T (funext fun a => Fin.ext ?_)
  rw [Layout.Tiles.idx_val]
  match a with
  | ⟨0, _⟩ => rfl
  | ⟨1, _⟩ => rfl
  | ⟨2, _⟩ => rfl
  | ⟨3, _⟩ => rfl

variable {m} {X : FVec Ideal Cert.ReferenceIdeal.S1x1024x1024 .f32} {W : FVec Ideal Cert.ReferenceIdeal.S1024x16384 .f32}
  {K V : FVec Ideal Cert.ReferenceIdeal.S1x1024x128x128 .f32} {O : FVec Ideal Cert.ReferenceIdeal.S16384x1024 .f32}

theorem dealt (hp : Pre_KernelIdeal_finite_KernelIdeal m)
    (h : ∀ c : Dev Cert.KernelIdeal.nD,
      m ((c.tc : Thread Cert.KernelIdeal.nD Cert.KernelIdeal.τ).loc Cert.KernelIdeal.main_arg0) = X
      ∧ m ((c.tc : Thread Cert.KernelIdeal.nD Cert.KernelIdeal.τ).loc Cert.KernelIdeal.main_arg1) = W
      ∧ m ((c.tc : Thread Cert.KernelIdeal.nD Cert.KernelIdeal.τ).loc Cert.KernelIdeal.main_arg2) = Layout.block ⟨4, ![1, 1024, 8, 128]⟩ ⟨4, ![1, 1024, 128, 128]⟩ 2 16 c K
      ∧ m ((c.tc : Thread Cert.KernelIdeal.nD Cert.KernelIdeal.τ).loc Cert.KernelIdeal.main_arg3) = Layout.block ⟨4, ![1, 1024, 8, 128]⟩ ⟨4, ![1, 1024, 128, 128]⟩ 2 16 c V
      ∧ m ((c.tc : Thread Cert.KernelIdeal.nD Cert.KernelIdeal.τ).loc Cert.KernelIdeal.main_arg4) = O) :
    Dealt (insOf m) X W K V O where
  x c r k := (x_feed m c r k).trans (congrFun (h c).1 _)
  wq c k j := (wq_feed m c k j).trans (congrFun (h c).2.1 _)
  kt c hd e j := ((k_feed m c hd e j).trans (congrFun (h c).2.2.1 _)).trans (block_head K c j hd e)
  v c hd e j := ((v_feed m c hd e j).trans (congrFun (h c).2.2.2.1 _)).trans (block_head V c j hd e)
  wo c k j := (wo_feed m c k j).trans (congrFun (h c).2.2.2.2 _)
  rx r k := by
    obtain ⟨y, hy⟩ := (kernel_real m hp 0).1 (ix3 0 r k)
    exact ⟨y, (congrFun (h 0).1 _).symm.trans hy⟩
  rw k j := by
    obtain ⟨y, hy⟩ := (kernel_real m hp 0).2.1 (ix2 k j)
    exact ⟨y, (congrFun (h 0).2.1 _).symm.trans hy⟩
  rk j H e := by
    obtain ⟨y, hy⟩ := (kernel_real m hp (⟨H.val / 8, by show H.val / 8 < 16; omega⟩ : Dev Cert.KernelIdeal.nD)).2.2 (ix4 0 j (⟨H.val % 8, by omega⟩ : Fin 8) e)
    refine ⟨y, Eq.trans ?_ hy⟩
    refine Eq.trans ?_ (congrFun (h _).2.2.1 _).symm
    refine Eq.trans ?_ (block_head K _ j _ e).symm
    exact congrArg (fun H' : Fin 128 => K (ix4 0 j H' e)) (Fin.ext (by show H.val = H.val / 8 * 8 + H.val % 8; omega))

end

/-- What the kernel leaves as its result: the partial products' sum under a leading axis of one. -/
theorem result_read (m : (ℓ : Loc Cert.KernelIdeal.nD Cert.KernelIdeal.τ Cert.KernelIdeal.sig) → Buf (Elt Ideal) ℓ) (c : Dev Cert.KernelIdeal.nD) (r j : Fin 1024) :
    Cert.KernelIdeal.Gen.V3 m (outs m) c (Proc.devRef .tc Cert.KernelIdeal.main_v26) (ix3 0 r j) = A4 (insOf m) c r.val j.val := by
  have h := congrFun (V2_25 m c) (ix2 r j)
  show StableHlo.after Cert.KernelIdeal.Gen.hostOps1 (Cert.KernelIdeal.Gen.V2 m (outs m) c) (Proc.devRef .tc Cert.KernelIdeal.main_v26) (ix3 0 r j) = _
  after_reads_at
  exact h

theorem whole_read (m : (ℓ : Loc Cert.KernelIdeal.nD Cert.KernelIdeal.τ Cert.KernelIdeal.sig) → Buf (Elt Ideal) ℓ) (c : Dev Cert.KernelIdeal.nD)
    (f : (⟨3, ![1, 1024, 1024]⟩ : Shape).Idx → EReal) (h : ∀ r j : Fin 1024, A4 (insOf m) c r.val j.val = f (ix3 0 r j))
    (i : (⟨3, ![1, 1024, 1024]⟩ : Shape).Idx) :
    Cert.KernelIdeal.Gen.V3 m (outs m) c (Proc.devRef .tc Cert.KernelIdeal.main_v26) i = f i := by
  obtain ⟨a, r, j, rfl⟩ : ∃ (a : Fin 1) (r j : Fin 1024), i = ix3 a r j := ⟨i 0, i 1, i 2, eq_ix3 i⟩
  obtain rfl : a = 0 := Subsingleton.elim _ _
  exact (result_read m c r j).trans (h r j)

theorem same : algebraic_KernelIdeal_ReferenceIdeal_pre_finite_KernelIdeal (hKernelIdeal := Cert.KernelIdeal.Gen.facts) (hReferenceIdeal := Cert.ReferenceIdeal.Gen.facts)
    (hPre_finite_KernelIdeal := kernel_pre_facts) := fun m g m' g' hp h => by
  refine ⟨Cert.ReferenceIdeal.Value.res_main_v34 m' 0, ?_, ?_⟩
  · refine (θ_run _ _ _).mono (fun r hr c => ⟨?_, hr.2.1 c⟩) (run_kept m g)
    rw [hr.1 c, Cert.ReferenceIdeal.Plain.res_eq]
    exact funext fun i => whole_read m c _ (fun r j => result_meet (dealt hp h) c r j) i
  · exact (θ_run _ _ _).mono (fun r hr => hr 0) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Plain
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and ends with every counter at zero: it has none. -/
theorem reference_kept : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem claim : Cert.Claim := ⟨Cert.Kernel.Gen.facts, Cert.KernelIdeal.Gen.facts, Cert.ReferenceIdeal.Gen.facts, kernel_pre_facts, reference_pre_facts,
  fun m g _ => Cert.KernelIdeal.Mesh.plain_kept m g,
  fun m g _ => (θ_run _ _ _).mono (fun _ h => h.2) (Cert.KernelIdeal.Mesh.run_kept m g),
  fun m g _ => (θ_run _ _ _).mono (fun _ h => h.2) (Cert.KernelIdeal.Mesh.run_kept m g),
  reference_kept,
  fun m g _ => reference_kept m g trivial,
  IdealRules.named_const.statement _ "mask" .f32 _ ⊥ rfl,
  same⟩

end Cert.Proof

end
